-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x100000x3 : Shape := ⟨3, ![16, 100000, 3]⟩
abbrev S16x4096 : Shape := ⟨2, ![16, 4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel

variable [Facts]

def fn {F : FTy → Type} [FloatOps F] (main_arg0 : FVec F S16x100000x3 .f32) (main_arg1 : IVec S16x4096 32) : IVec S_ 1 :=
  let main_c : IVec S_ 32 := constantI S_ 32 0#32
  let main_v0 : IVec S16x4096 32 := broadcastInDim S16x4096 ![] bcast_S_S16x4096 main_c
  let main_v1 : IVec S16x4096 1 := cmpi .sge main_arg1 main_v0
  let main_c_0 : IVec S_ 32 := constantI S_ 32 100000#32
  let main_v2 : IVec S16x4096 32 := broadcastInDim S16x4096 ![] bcast_S_S16x4096 main_c_0
  let main_v3 : IVec S16x4096 1 := cmpi .slt main_arg1 main_v2
  let main_v4 : IVec S16x4096 1 := andi main_v1 main_v3
  let main_c_1 : IVec S_ 1 := constantI S_ 1 1#1
  let main_v5 : IVec S_ 1 := (fun x v => Host.reduce IntOp.andi x v reducesTo_S16x4096_S_d0_1 h_S_) main_v4 main_c_1
  main_v5
-- ==== Kernel.lean ====
abbrev S16x100000x3 : Shape := ⟨3, ![16, 100000, 3]⟩
abbrev S16x4096 : Shape := ⟨2, ![16, 4096]⟩
abbrev S3x16x100000 : Shape := ⟨3, ![3, 16, 100000]⟩
abbrev S3x16x4096 : Shape := ⟨3, ![3, 16, 4096]⟩
abbrev S100000 : Shape := ⟨1, ![100000]⟩
abbrev S2x4096 : Shape := ⟨2, ![2, 4096]⟩
abbrev S_ : Shape := ⟨0, ![]⟩
abbrev S1x1x100000 : Shape := ⟨3, ![1, 1, 100000]⟩
abbrev S1x4096 : Shape := ⟨2, ![1, 4096]⟩
abbrev S4096 : Shape := ⟨1, ![4096]⟩
abbrev S16 : Shape := ⟨1, ![16]⟩
abbrev S1x16 : Shape := ⟨2, ![1, 16]⟩
abbrev S1x1x4096 : Shape := ⟨3, ![1, 1, 4096]⟩
abbrev S16x4096x3 : Shape := ⟨3, ![16, 4096, 3]⟩

abbrev nBuf : Table → Nat
  | .hbm => 5
  | .local .scVector .vmem => 3
  | _ => 0

abbrev bufTy : (tb : Table) → Fin (nBuf tb) → BufTy
  | .hbm, ⟨0, _⟩ => ⟨S16x100000x3, .f32⟩
  | .hbm, ⟨1, _⟩ => ⟨S16x4096, .i32⟩
  | .hbm, ⟨2, _⟩ => ⟨S3x16x100000, .f32⟩
  | .hbm, ⟨3, _⟩ => ⟨S3x16x4096, .f32⟩
  | .hbm, ⟨4, _⟩ => ⟨S16x4096x3, .f32⟩
  | .local .scVector .vmem, ⟨0, _⟩ => ⟨S100000, .f32⟩
  | .local .scVector .vmem, ⟨1, _⟩ => ⟨S2x4096, .i32⟩
  | .local .scVector .vmem, ⟨2, _⟩ => ⟨S2x4096, .f32⟩
  | _, _ => ⟨S16x100000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_10 : BitVec 32 := 0#32
  ![v18.toNat, v28.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_14 : BitVec 32 := 0#32
  ![v28.toNat, 0]

def k0_chk1 (v54 : IVec S16 32) : Prop :=
  (∀ a x, ((![v54] : Fin 1 → IVec S16 32) a x).toNat < S100000.size a)
theorem k0_idx1_inb : ∀ (v54 : IVec S16 32) (k0_hw1 : k0_chk1 v54), ∀ a x, ((![v54] : Fin 1 → IVec S16 32) a x).toNat < S100000.size a := fun v54 k0_hw1 => k0_hw1

def k0_chk2 (v59 : IVec S16 32) : Prop :=
  (∀ a x, ((![v59] : Fin 1 → IVec S16 32) a x).toNat < S100000.size a)
theorem k0_idx2_inb : ∀ (v59 : IVec S16 32) (k0_hw2 : k0_chk2 v59), ∀ a x, ((![v59] : Fin 1 → IVec S16 32) a x).toNat < S100000.size a := fun v59 k0_hw2 => k0_hw2

def k0_chk3 (v64 : IVec S16 32) : Prop :=
  (∀ a x, ((![v64] : Fin 1 → IVec S16 32) a x).toNat < S100000.size a)
theorem k0_idx3_inb : ∀ (v64 : IVec S16 32) (k0_hw3 : k0_chk3 v64), ∀ a x, ((![v64] : Fin 1 → IVec S16 32) a x).toNat < S100000.size a := fun v64 k0_hw3 => k0_hw3

def k0_chk4 (v69 : IVec S16 32) : Prop :=
  (∀ a x, ((![v69] : Fin 1 → IVec S16 32) a x).toNat < S100000.size a)
theorem k0_idx4_inb : ∀ (v69 : IVec S16 32) (k0_hw4 : k0_chk4 v69), ∀ a x, ((![v69] : Fin 1 → IVec S16 32) a x).toNat < S100000.size a := fun v69 k0_hw4 => k0_hw4

def k0_chk5 (v74 : IVec S16 32) : Prop :=
  (∀ a x, ((![v74] : Fin 1 → IVec S16 32) a x).toNat < S100000.size a)
theorem k0_idx5_inb : ∀ (v74 : IVec S16 32) (k0_hw5 : k0_chk5 v74), ∀ a x, ((![v74] : Fin 1 → IVec S16 32) a x).toNat < S100000.size a := fun v74 k0_hw5 => k0_hw5

def k0_chk6 (v79 : IVec S16 32) : Prop :=
  (∀ a x, ((![v79] : Fin 1 → IVec S16 32) a x).toNat < S100000.size a)
theorem k0_idx6_inb : ∀ (v79 : IVec S16 32) (k0_hw6 : k0_chk6 v79), ∀ a x, ((![v79] : Fin 1 → IVec S16 32) a x).toNat < S100000.size a := fun v79 k0_hw6 => k0_hw6

def k0_chk7 (v84 : IVec S16 32) : Prop :=
  (∀ a x, ((![v84] : Fin 1 → IVec S16 32) a x).toNat < S100000.size a)
theorem k0_idx7_inb : ∀ (v84 : IVec S16 32) (k0_hw7 : k0_chk7 v84), ∀ a x, ((![v84] : Fin 1 → IVec S16 32) a x).toNat < S100000.size a := fun v84 k0_hw7 => k0_hw7

def k0_chk8 (v89 : IVec S16 32) : Prop :=
  (∀ a x, ((![v89] : Fin 1 → IVec S16 32) a x).toNat < S100000.size a)
theorem k0_idx8_inb : ∀ (v89 : IVec S16 32) (k0_hw8 : k0_chk8 v89), ∀ a x, ((![v89] : Fin 1 → IVec S16 32) a x).toNat < S100000.size a := fun v89 k0_hw8 => k0_hw8

def k0_chk9 (v94 : IVec S16 32) : Prop :=
  (∀ a x, ((![v94] : Fin 1 → IVec S16 32) a x).toNat < S100000.size a)
theorem k0_idx9_inb : ∀ (v94 : IVec S16 32) (k0_hw9 : k0_chk9 v94), ∀ a x, ((![v94] : Fin 1 → IVec S16 32) a x).toNat < S100000.size a := fun v94 k0_hw9 => k0_hw9

def k0_chk10 (v99 : IVec S16 32) : Prop :=
  (∀ a x, ((![v99] : Fin 1 → IVec S16 32) a x).toNat < S100000.size a)
theorem k0_idx10_inb : ∀ (v99 : IVec S16 32) (k0_hw10 : k0_chk10 v99), ∀ a x, ((![v99] : Fin 1 → IVec S16 32) a x).toNat < S100000.size a := fun v99 k0_hw10 => k0_hw10

def k0_chk11 (v104 : IVec S16 32) : Prop :=
  (∀ a x, ((![v104] : Fin 1 → IVec S16 32) a x).toNat < S100000.size a)
theorem k0_idx11_inb : ∀ (v104 : IVec S16 32) (k0_hw11 : k0_chk11 v104), ∀ a x, ((![v104] : Fin 1 → IVec S16 32) a x).toNat < S100000.size a := fun v104 k0_hw11 => k0_hw11

def k0_chk12 (v109 : IVec S16 32) : Prop :=
  (∀ a x, ((![v109] : Fin 1 → IVec S16 32) a x).toNat < S100000.size a)
theorem k0_idx12_inb : ∀ (v109 : IVec S16 32) (k0_hw12 : k0_chk12 v109), ∀ a x, ((![v109] : Fin 1 → IVec S16 32) a x).toNat < S100000.size a := fun v109 k0_hw12 => k0_hw12

def k0_chk13 (v114 : IVec S16 32) : Prop :=
  (∀ a x, ((![v114] : Fin 1 → IVec S16 32) a x).toNat < S100000.size a)
theorem k0_idx13_inb : ∀ (v114 : IVec S16 32) (k0_hw13 : k0_chk13 v114), ∀ a x, ((![v114] : Fin 1 → IVec S16 32) a x).toNat < S100000.size a := fun v114 k0_hw13 => k0_hw13

def k0_chk14 (v119 : IVec S16 32) : Prop :=
  (∀ a x, ((![v119] : Fin 1 → IVec S16 32) a x).toNat < S100000.size a)
theorem k0_idx14_inb : ∀ (v119 : IVec S16 32) (k0_hw14 : k0_chk14 v119), ∀ a x, ((![v119] : Fin 1 → IVec S16 32) a x).toNat < S100000.size a := fun v119 k0_hw14 => k0_hw14

def k0_chk15 (v124 : IVec S16 32) : Prop :=
  (∀ a x, ((![v124] : Fin 1 → IVec S16 32) a x).toNat < S100000.size a)
theorem k0_idx15_inb : ∀ (v124 : IVec S16 32) (k0_hw15 : k0_chk15 v124), ∀ a x, ((![v124] : Fin 1 → IVec S16 32) a x).toNat < S100000.size a := fun v124 k0_hw15 => k0_hw15

def k0_chk16 (v129 : IVec S16 32) : Prop :=
  (∀ a x, ((![v129] : Fin 1 → IVec S16 32) a x).toNat < S100000.size a)
theorem k0_idx16_inb : ∀ (v129 : IVec S16 32) (k0_hw16 : k0_chk16 v129), ∀ a x, ((![v129] : Fin 1 → IVec S16 32) a x).toNat < S100000.size a := fun v129 k0_hw16 => k0_hw16

def k0_chk17 (v134 : IVec S16 32) : Prop :=
  (∀ a x, ((![v134] : Fin 1 → IVec S16 32) a x).toNat < S100000.size a)
theorem k0_idx17_inb : ∀ (v134 : IVec S16 32) (k0_hw17 : k0_chk17 v134), ∀ a x, ((![v134] : Fin 1 → IVec S16 32) a x).toNat < S100000.size a := fun v134 k0_hw17 => k0_hw17

def k0_chk18 (v139 : IVec S16 32) : Prop :=
  (∀ a x, ((![v139] : Fin 1 → IVec S16 32) a x).toNat < S100000.size a)
theorem k0_idx18_inb : ∀ (v139 : IVec S16 32) (k0_hw18 : k0_chk18 v139), ∀ a x, ((![v139] : Fin 1 → IVec S16 32) a x).toNat < S100000.size a := fun v139 k0_hw18 => k0_hw18

def k0_chk19 (v144 : IVec S16 32) : Prop :=
  (∀ a x, ((![v144] : Fin 1 → IVec S16 32) a x).toNat < S100000.size a)
theorem k0_idx19_inb : ∀ (v144 : IVec S16 32) (k0_hw19 : k0_chk19 v144), ∀ a x, ((![v144] : Fin 1 → IVec S16 32) a x).toNat < S100000.size a := fun v144 k0_hw19 => k0_hw19

def k0_chk20 (v149 : IVec S16 32) : Prop :=
  (∀ a x, ((![v149] : Fin 1 → IVec S16 32) a x).toNat < S100000.size a)
theorem k0_idx20_inb : ∀ (v149 : IVec S16 32) (k0_hw20 : k0_chk20 v149), ∀ a x, ((![v149] : Fin 1 → IVec S16 32) a x).toNat < S100000.size a := fun v149 k0_hw20 => k0_hw20

def k0_chk21 (v154 : IVec S16 32) : Prop :=
  (∀ a x, ((![v154] : Fin 1 → IVec S16 32) a x).toNat < S100000.size a)
theorem k0_idx21_inb : ∀ (v154 : IVec S16 32) (k0_hw21 : k0_chk21 v154), ∀ a x, ((![v154] : Fin 1 → IVec S16 32) a x).toNat < S100000.size a := fun v154 k0_hw21 => k0_hw21

def k0_chk22 (v159 : IVec S16 32) : Prop :=
  (∀ a x, ((![v159] : Fin 1 → IVec S16 32) a x).toNat < S100000.size a)
theorem k0_idx22_inb : ∀ (v159 : IVec S16 32) (k0_hw22 : k0_chk22 v159), ∀ a x, ((![v159] : Fin 1 → IVec S16 32) a x).toNat < S100000.size a := fun v159 k0_hw22 => k0_hw22

def k0_chk23 (v164 : IVec S16 32) : Prop :=
  (∀ a x, ((![v164] : Fin 1 → IVec S16 32) a x).toNat < S100000.size a)
theorem k0_idx23_inb : ∀ (v164 : IVec S16 32) (k0_hw23 : k0_chk23 v164), ∀ a x, ((![v164] : Fin 1 → IVec S16 32) a x).toNat < S100000.size a := fun v164 k0_hw23 => k0_hw23

def k0_chk24 (v169 : IVec S16 32) : Prop :=
  (∀ a x, ((![v169] : Fin 1 → IVec S16 32) a x).toNat < S100000.size a)
theorem k0_idx24_inb : ∀ (v169 : IVec S16 32) (k0_hw24 : k0_chk24 v169), ∀ a x, ((![v169] : Fin 1 → IVec S16 32) a x).toNat < S100000.size a := fun v169 k0_hw24 => k0_hw24

def k0_chk25 (v174 : IVec S16 32) : Prop :=
  (∀ a x, ((![v174] : Fin 1 → IVec S16 32) a x).toNat < S100000.size a)
theorem k0_idx25_inb : ∀ (v174 : IVec S16 32) (k0_hw25 : k0_chk25 v174), ∀ a x, ((![v174] : Fin 1 → IVec S16 32) a x).toNat < S100000.size a := fun v174 k0_hw25 => k0_hw25

def k0_chk26 (v179 : IVec S16 32) : Prop :=
  (∀ a x, ((![v179] : Fin 1 → IVec S16 32) a x).toNat < S100000.size a)
theorem k0_idx26_inb : ∀ (v179 : IVec S16 32) (k0_hw26 : k0_chk26 v179), ∀ a x, ((![v179] : Fin 1 → IVec S16 32) a x).toNat < S100000.size a := fun v179 k0_hw26 => k0_hw26

def k0_chk27 (v184 : IVec S16 32) : Prop :=
  (∀ a x, ((![v184] : Fin 1 → IVec S16 32) a x).toNat < S100000.size a)
theorem k0_idx27_inb : ∀ (v184 : IVec S16 32) (k0_hw27 : k0_chk27 v184), ∀ a x, ((![v184] : Fin 1 → IVec S16 32) a x).toNat < S100000.size a := fun v184 k0_hw27 => k0_hw27

def k0_chk28 (v189 : IVec S16 32) : Prop :=
  (∀ a x, ((![v189] : Fin 1 → IVec S16 32) a x).toNat < S100000.size a)
theorem k0_idx28_inb : ∀ (v189 : IVec S16 32) (k0_hw28 : k0_chk28 v189), ∀ a x, ((![v189] : Fin 1 → IVec S16 32) a x).toNat < S100000.size a := fun v189 k0_hw28 => k0_hw28

def k0_chk29 (v194 : IVec S16 32) : Prop :=
  (∀ a x, ((![v194] : Fin 1 → IVec S16 32) a x).toNat < S100000.size a)
theorem k0_idx29_inb : ∀ (v194 : IVec S16 32) (k0_hw29 : k0_chk29 v194), ∀ a x, ((![v194] : Fin 1 → IVec S16 32) a x).toNat < S100000.size a := fun v194 k0_hw29 => k0_hw29

def k0_chk30 (v199 : IVec S16 32) : Prop :=
  (∀ a x, ((![v199] : Fin 1 → IVec S16 32) a x).toNat < S100000.size a)
theorem k0_idx30_inb : ∀ (v199 : IVec S16 32) (k0_hw30 : k0_chk30 v199), ∀ a x, ((![v199] : Fin 1 → IVec S16 32) a x).toNat < S100000.size a := fun v199 k0_hw30 => k0_hw30

def k0_chk31 (v204 : IVec S16 32) : Prop :=
  (∀ a x, ((![v204] : Fin 1 → IVec S16 32) a x).toNat < S100000.size a)
theorem k0_idx31_inb : ∀ (v204 : IVec S16 32) (k0_hw31 : k0_chk31 v204), ∀ a x, ((![v204] : Fin 1 → IVec S16 32) a x).toNat < S100000.size a := fun v204 k0_hw31 => k0_hw31

def k0_chk32 (v209 : IVec S16 32) : Prop :=
  (∀ a x, ((![v209] : Fin 1 → IVec S16 32) a x).toNat < S100000.size a)
theorem k0_idx32_inb : ∀ (v209 : IVec S16 32) (k0_hw32 : k0_chk32 v209), ∀ a x, ((![v209] : Fin 1 → IVec S16 32) a x).toNat < S100000.size a := fun v209 k0_hw32 => k0_hw32

def k0_chk33 (v214 : IVec S16 32) : Prop :=
  (∀ a x, ((![v214] : Fin 1 → IVec S16 32) a x).toNat < S100000.size a)
theorem k0_idx33_inb : ∀ (v214 : IVec S16 32) (k0_hw33 : k0_chk33 v214), ∀ a x, ((![v214] : Fin 1 → IVec S16 32) a x).toNat < S100000.size a := fun v214 k0_hw33 => k0_hw33

def k0_chk34 (v219 : IVec S16 32) : Prop :=
  (∀ a x, ((![v219] : Fin 1 → IVec S16 32) a x).toNat < S100000.size a)
theorem k0_idx34_inb : ∀ (v219 : IVec S16 32) (k0_hw34 : k0_chk34 v219), ∀ a x, ((![v219] : Fin 1 → IVec S16 32) a x).toNat < S100000.size a := fun v219 k0_hw34 => k0_hw34

def k0_chk35 (v224 : IVec S16 32) : Prop :=
  (∀ a x, ((![v224] : Fin 1 → IVec S16 32) a x).toNat < S100000.size a)
theorem k0_idx35_inb : ∀ (v224 : IVec S16 32) (k0_hw35 : k0_chk35 v224), ∀ a x, ((![v224] : Fin 1 → IVec S16 32) a x).toNat < S100000.size a := fun v224 k0_hw35 => k0_hw35

def k0_chk36 (v229 : IVec S16 32) : Prop :=
  (∀ a x, ((![v229] : Fin 1 → IVec S16 32) a x).toNat < S100000.size a)
theorem k0_idx36_inb : ∀ (v229 : IVec S16 32) (k0_hw36 : k0_chk36 v229), ∀ a x, ((![v229] : Fin 1 → IVec S16 32) a x).toNat < S100000.size a := fun v229 k0_hw36 => k0_hw36

def k0_chk37 (v234 : IVec S16 32) : Prop :=
  (∀ a x, ((![v234] : Fin 1 → IVec S16 32) a x).toNat < S100000.size a)
theorem k0_idx37_inb : ∀ (v234 : IVec S16 32) (k0_hw37 : k0_chk37 v234), ∀ a x, ((![v234] : Fin 1 → IVec S16 32) a x).toNat < S100000.size a := fun v234 k0_hw37 => k0_hw37

def k0_chk38 (v239 : IVec S16 32) : Prop :=
  (∀ a x, ((![v239] : Fin 1 → IVec S16 32) a x).toNat < S100000.size a)
theorem k0_idx38_inb : ∀ (v239 : IVec S16 32) (k0_hw38 : k0_chk38 v239), ∀ a x, ((![v239] : Fin 1 → IVec S16 32) a x).toNat < S100000.size a := fun v239 k0_hw38 => k0_hw38

def k0_chk39 (v244 : IVec S16 32) : Prop :=
  (∀ a x, ((![v244] : Fin 1 → IVec S16 32) a x).toNat < S100000.size a)
theorem k0_idx39_inb : ∀ (v244 : IVec S16 32) (k0_hw39 : k0_chk39 v244), ∀ a x, ((![v244] : Fin 1 → IVec S16 32) a x).toNat < S100000.size a := fun v244 k0_hw39 => k0_hw39

def k0_chk40 (v249 : IVec S16 32) : Prop :=
  (∀ a x, ((![v249] : Fin 1 → IVec S16 32) a x).toNat < S100000.size a)
theorem k0_idx40_inb : ∀ (v249 : IVec S16 32) (k0_hw40 : k0_chk40 v249), ∀ a x, ((![v249] : Fin 1 → IVec S16 32) a x).toNat < S100000.size a := fun v249 k0_hw40 => k0_hw40

def k0_chk41 (v254 : IVec S16 32) : Prop :=
  (∀ a x, ((![v254] : Fin 1 → IVec S16 32) a x).toNat < S100000.size a)
theorem k0_idx41_inb : ∀ (v254 : IVec S16 32) (k0_hw41 : k0_chk41 v254), ∀ a x, ((![v254] : Fin 1 → IVec S16 32) a x).toNat < S100000.size a := fun v254 k0_hw41 => k0_hw41

def k0_chk42 (v259 : IVec S16 32) : Prop :=
  (∀ a x, ((![v259] : Fin 1 → IVec S16 32) a x).toNat < S100000.size a)
theorem k0_idx42_inb : ∀ (v259 : IVec S16 32) (k0_hw42 : k0_chk42 v259), ∀ a x, ((![v259] : Fin 1 → IVec S16 32) a x).toNat < S100000.size a := fun v259 k0_hw42 => k0_hw42

def k0_chk43 (v264 : IVec S16 32) : Prop :=
  (∀ a x, ((![v264] : Fin 1 → IVec S16 32) a x).toNat < S100000.size a)
theorem k0_idx43_inb : ∀ (v264 : IVec S16 32) (k0_hw43 : k0_chk43 v264), ∀ a x, ((![v264] : Fin 1 → IVec S16 32) a x).toNat < S100000.size a := fun v264 k0_hw43 => k0_hw43

def k0_chk44 (v269 : IVec S16 32) : Prop :=
  (∀ a x, ((![v269] : Fin 1 → IVec S16 32) a x).toNat < S100000.size a)
theorem k0_idx44_inb : ∀ (v269 : IVec S16 32) (k0_hw44 : k0_chk44 v269), ∀ a x, ((![v269] : Fin 1 → IVec S16 32) a x).toNat < S100000.size a := fun v269 k0_hw44 => k0_hw44

def k0_chk45 (v274 : IVec S16 32) : Prop :=
  (∀ a x, ((![v274] : Fin 1 → IVec S16 32) a x).toNat < S100000.size a)
theorem k0_idx45_inb : ∀ (v274 : IVec S16 32) (k0_hw45 : k0_chk45 v274), ∀ a x, ((![v274] : Fin 1 → IVec S16 32) a x).toNat < S100000.size a := fun v274 k0_hw45 => k0_hw45

def k0_chk46 (v279 : IVec S16 32) : Prop :=
  (∀ a x, ((![v279] : Fin 1 → IVec S16 32) a x).toNat < S100000.size a)
theorem k0_idx46_inb : ∀ (v279 : IVec S16 32) (k0_hw46 : k0_chk46 v279), ∀ a x, ((![v279] : Fin 1 → IVec S16 32) a x).toNat < S100000.size a := fun v279 k0_hw46 => k0_hw46

def k0_chk47 (v284 : IVec S16 32) : Prop :=
  (∀ a x, ((![v284] : Fin 1 → IVec S16 32) a x).toNat < S100000.size a)
theorem k0_idx47_inb : ∀ (v284 : IVec S16 32) (k0_hw47 : k0_chk47 v284), ∀ a x, ((![v284] : Fin 1 → IVec S16 32) a x).toNat < S100000.size a := fun v284 k0_hw47 => k0_hw47

def k0_chk48 (v289 : IVec S16 32) : Prop :=
  (∀ a x, ((![v289] : Fin 1 → IVec S16 32) a x).toNat < S100000.size a)
theorem k0_idx48_inb : ∀ (v289 : IVec S16 32) (k0_hw48 : k0_chk48 v289), ∀ a x, ((![v289] : Fin 1 → IVec S16 32) a x).toNat < S100000.size a := fun v289 k0_hw48 => k0_hw48

def k0_chk49 (v294 : IVec S16 32) : Prop :=
  (∀ a x, ((![v294] : Fin 1 → IVec S16 32) a x).toNat < S100000.size a)
theorem k0_idx49_inb : ∀ (v294 : IVec S16 32) (k0_hw49 : k0_chk49 v294), ∀ a x, ((![v294] : Fin 1 → IVec S16 32) a x).toNat < S100000.size a := fun v294 k0_hw49 => k0_hw49

def k0_chk50 (v299 : IVec S16 32) : Prop :=
  (∀ a x, ((![v299] : Fin 1 → IVec S16 32) a x).toNat < S100000.size a)
theorem k0_idx50_inb : ∀ (v299 : IVec S16 32) (k0_hw50 : k0_chk50 v299), ∀ a x, ((![v299] : Fin 1 → IVec S16 32) a x).toNat < S100000.size a := fun v299 k0_hw50 => k0_hw50

def k0_chk51 (v304 : IVec S16 32) : Prop :=
  (∀ a x, ((![v304] : Fin 1 → IVec S16 32) a x).toNat < S100000.size a)
theorem k0_idx51_inb : ∀ (v304 : IVec S16 32) (k0_hw51 : k0_chk51 v304), ∀ a x, ((![v304] : Fin 1 → IVec S16 32) a x).toNat < S100000.size a := fun v304 k0_hw51 => k0_hw51

def k0_chk52 (v309 : IVec S16 32) : Prop :=
  (∀ a x, ((![v309] : Fin 1 → IVec S16 32) a x).toNat < S100000.size a)
theorem k0_idx52_inb : ∀ (v309 : IVec S16 32) (k0_hw52 : k0_chk52 v309), ∀ a x, ((![v309] : Fin 1 → IVec S16 32) a x).toNat < S100000.size a := fun v309 k0_hw52 => k0_hw52

def k0_chk53 (v314 : IVec S16 32) : Prop :=
  (∀ a x, ((![v314] : Fin 1 → IVec S16 32) a x).toNat < S100000.size a)
theorem k0_idx53_inb : ∀ (v314 : IVec S16 32) (k0_hw53 : k0_chk53 v314), ∀ a x, ((![v314] : Fin 1 → IVec S16 32) a x).toNat < S100000.size a := fun v314 k0_hw53 => k0_hw53

def k0_chk54 (v319 : IVec S16 32) : Prop :=
  (∀ a x, ((![v319] : Fin 1 → IVec S16 32) a x).toNat < S100000.size a)
theorem k0_idx54_inb : ∀ (v319 : IVec S16 32) (k0_hw54 : k0_chk54 v319), ∀ a x, ((![v319] : Fin 1 → IVec S16 32) a x).toNat < S100000.size a := fun v319 k0_hw54 => k0_hw54

def k0_chk55 (v324 : IVec S16 32) : Prop :=
  (∀ a x, ((![v324] : Fin 1 → IVec S16 32) a x).toNat < S100000.size a)
theorem k0_idx55_inb : ∀ (v324 : IVec S16 32) (k0_hw55 : k0_chk55 v324), ∀ a x, ((![v324] : Fin 1 → IVec S16 32) a x).toNat < S100000.size a := fun v324 k0_hw55 => k0_hw55

def k0_chk56 (v329 : IVec S16 32) : Prop :=
  (∀ a x, ((![v329] : Fin 1 → IVec S16 32) a x).toNat < S100000.size a)
theorem k0_idx56_inb : ∀ (v329 : IVec S16 32) (k0_hw56 : k0_chk56 v329), ∀ a x, ((![v329] : Fin 1 → IVec S16 32) a x).toNat < S100000.size a := fun v329 k0_hw56 => k0_hw56

def k0_chk57 (v334 : IVec S16 32) : Prop :=
  (∀ a x, ((![v334] : Fin 1 → IVec S16 32) a x).toNat < S100000.size a)
theorem k0_idx57_inb : ∀ (v334 : IVec S16 32) (k0_hw57 : k0_chk57 v334), ∀ a x, ((![v334] : Fin 1 → IVec S16 32) a x).toNat < S100000.size a := fun v334 k0_hw57 => k0_hw57

def k0_chk58 (v339 : IVec S16 32) : Prop :=
  (∀ a x, ((![v339] : Fin 1 → IVec S16 32) a x).toNat < S100000.size a)
theorem k0_idx58_inb : ∀ (v339 : IVec S16 32) (k0_hw58 : k0_chk58 v339), ∀ a x, ((![v339] : Fin 1 → IVec S16 32) a x).toNat < S100000.size a := fun v339 k0_hw58 => k0_hw58

def k0_chk59 (v344 : IVec S16 32) : Prop :=
  (∀ a x, ((![v344] : Fin 1 → IVec S16 32) a x).toNat < S100000.size a)
theorem k0_idx59_inb : ∀ (v344 : IVec S16 32) (k0_hw59 : k0_chk59 v344), ∀ a x, ((![v344] : Fin 1 → IVec S16 32) a x).toNat < S100000.size a := fun v344 k0_hw59 => k0_hw59

def k0_chk60 (v349 : IVec S16 32) : Prop :=
  (∀ a x, ((![v349] : Fin 1 → IVec S16 32) a x).toNat < S100000.size a)
theorem k0_idx60_inb : ∀ (v349 : IVec S16 32) (k0_hw60 : k0_chk60 v349), ∀ a x, ((![v349] : Fin 1 → IVec S16 32) a x).toNat < S100000.size a := fun v349 k0_hw60 => k0_hw60

def k0_chk61 (v354 : IVec S16 32) : Prop :=
  (∀ a x, ((![v354] : Fin 1 → IVec S16 32) a x).toNat < S100000.size a)
theorem k0_idx61_inb : ∀ (v354 : IVec S16 32) (k0_hw61 : k0_chk61 v354), ∀ a x, ((![v354] : Fin 1 → IVec S16 32) a x).toNat < S100000.size a := fun v354 k0_hw61 => k0_hw61

def k0_chk62 (v359 : IVec S16 32) : Prop :=
  (∀ a x, ((![v359] : Fin 1 → IVec S16 32) a x).toNat < S100000.size a)
theorem k0_idx62_inb : ∀ (v359 : IVec S16 32) (k0_hw62 : k0_chk62 v359), ∀ a x, ((![v359] : Fin 1 → IVec S16 32) a x).toNat < S100000.size a := fun v359 k0_hw62 => k0_hw62

def k0_chk63 (v364 : IVec S16 32) : Prop :=
  (∀ a x, ((![v364] : Fin 1 → IVec S16 32) a x).toNat < S100000.size a)
theorem k0_idx63_inb : ∀ (v364 : IVec S16 32) (k0_hw63 : k0_chk63 v364), ∀ a x, ((![v364] : Fin 1 → IVec S16 32) a x).toNat < S100000.size a := fun v364 k0_hw63 => k0_hw63

def k0_chk64 (v369 : IVec S16 32) : Prop :=
  (∀ a x, ((![v369] : Fin 1 → IVec S16 32) a x).toNat < S100000.size a)
theorem k0_idx64_inb : ∀ (v369 : IVec S16 32) (k0_hw64 : k0_chk64 v369), ∀ a x, ((![v369] : Fin 1 → IVec S16 32) a x).toNat < S100000.size a := fun v369 k0_hw64 => k0_hw64

def k0_chk65 (v374 : IVec S16 32) : Prop :=
  (∀ a x, ((![v374] : Fin 1 → IVec S16 32) a x).toNat < S100000.size a)
theorem k0_idx65_inb : ∀ (v374 : IVec S16 32) (k0_hw65 : k0_chk65 v374), ∀ a x, ((![v374] : Fin 1 → IVec S16 32) a x).toNat < S100000.size a := fun v374 k0_hw65 => k0_hw65

def k0_chk66 (v379 : IVec S16 32) : Prop :=
  (∀ a x, ((![v379] : Fin 1 → IVec S16 32) a x).toNat < S100000.size a)
theorem k0_idx66_inb : ∀ (v379 : IVec S16 32) (k0_hw66 : k0_chk66 v379), ∀ a x, ((![v379] : Fin 1 → IVec S16 32) a x).toNat < S100000.size a := fun v379 k0_hw66 => k0_hw66

def k0_chk67 (v384 : IVec S16 32) : Prop :=
  (∀ a x, ((![v384] : Fin 1 → IVec S16 32) a x).toNat < S100000.size a)
theorem k0_idx67_inb : ∀ (v384 : IVec S16 32) (k0_hw67 : k0_chk67 v384), ∀ a x, ((![v384] : Fin 1 → IVec S16 32) a x).toNat < S100000.size a := fun v384 k0_hw67 => k0_hw67

def k0_chk68 (v389 : IVec S16 32) : Prop :=
  (∀ a x, ((![v389] : Fin 1 → IVec S16 32) a x).toNat < S100000.size a)
theorem k0_idx68_inb : ∀ (v389 : IVec S16 32) (k0_hw68 : k0_chk68 v389), ∀ a x, ((![v389] : Fin 1 → IVec S16 32) a x).toNat < S100000.size a := fun v389 k0_hw68 => k0_hw68

def k0_chk69 (v394 : IVec S16 32) : Prop :=
  (∀ a x, ((![v394] : Fin 1 → IVec S16 32) a x).toNat < S100000.size a)
theorem k0_idx69_inb : ∀ (v394 : IVec S16 32) (k0_hw69 : k0_chk69 v394), ∀ a x, ((![v394] : Fin 1 → IVec S16 32) a x).toNat < S100000.size a := fun v394 k0_hw69 => k0_hw69

def k0_chk70 (v399 : IVec S16 32) : Prop :=
  (∀ a x, ((![v399] : Fin 1 → IVec S16 32) a x).toNat < S100000.size a)
theorem k0_idx70_inb : ∀ (v399 : IVec S16 32) (k0_hw70 : k0_chk70 v399), ∀ a x, ((![v399] : Fin 1 → IVec S16 32) a x).toNat < S100000.size a := fun v399 k0_hw70 => k0_hw70

def k0_chk71 (v404 : IVec S16 32) : Prop :=
  (∀ a x, ((![v404] : Fin 1 → IVec S16 32) a x).toNat < S100000.size a)
theorem k0_idx71_inb : ∀ (v404 : IVec S16 32) (k0_hw71 : k0_chk71 v404), ∀ a x, ((![v404] : Fin 1 → IVec S16 32) a x).toNat < S100000.size a := fun v404 k0_hw71 => k0_hw71

def k0_chk72 (v409 : IVec S16 32) : Prop :=
  (∀ a x, ((![v409] : Fin 1 → IVec S16 32) a x).toNat < S100000.size a)
theorem k0_idx72_inb : ∀ (v409 : IVec S16 32) (k0_hw72 : k0_chk72 v409), ∀ a x, ((![v409] : Fin 1 → IVec S16 32) a x).toNat < S100000.size a := fun v409 k0_hw72 => k0_hw72

def k0_chk73 (v414 : IVec S16 32) : Prop :=
  (∀ a x, ((![v414] : Fin 1 → IVec S16 32) a x).toNat < S100000.size a)
theorem k0_idx73_inb : ∀ (v414 : IVec S16 32) (k0_hw73 : k0_chk73 v414), ∀ a x, ((![v414] : Fin 1 → IVec S16 32) a x).toNat < S100000.size a := fun v414 k0_hw73 => k0_hw73

def k0_chk74 (v419 : IVec S16 32) : Prop :=
  (∀ a x, ((![v419] : Fin 1 → IVec S16 32) a x).toNat < S100000.size a)
theorem k0_idx74_inb : ∀ (v419 : IVec S16 32) (k0_hw74 : k0_chk74 v419), ∀ a x, ((![v419] : Fin 1 → IVec S16 32) a x).toNat < S100000.size a := fun v419 k0_hw74 => k0_hw74

def k0_chk75 (v424 : IVec S16 32) : Prop :=
  (∀ a x, ((![v424] : Fin 1 → IVec S16 32) a x).toNat < S100000.size a)
theorem k0_idx75_inb : ∀ (v424 : IVec S16 32) (k0_hw75 : k0_chk75 v424), ∀ a x, ((![v424] : Fin 1 → IVec S16 32) a x).toNat < S100000.size a := fun v424 k0_hw75 => k0_hw75

def k0_chk76 (v429 : IVec S16 32) : Prop :=
  (∀ a x, ((![v429] : Fin 1 → IVec S16 32) a x).toNat < S100000.size a)
theorem k0_idx76_inb : ∀ (v429 : IVec S16 32) (k0_hw76 : k0_chk76 v429), ∀ a x, ((![v429] : Fin 1 → IVec S16 32) a x).toNat < S100000.size a := fun v429 k0_hw76 => k0_hw76

def k0_chk77 (v434 : IVec S16 32) : Prop :=
  (∀ a x, ((![v434] : Fin 1 → IVec S16 32) a x).toNat < S100000.size a)
theorem k0_idx77_inb : ∀ (v434 : IVec S16 32) (k0_hw77 : k0_chk77 v434), ∀ a x, ((![v434] : Fin 1 → IVec S16 32) a x).toNat < S100000.size a := fun v434 k0_hw77 => k0_hw77

def k0_chk78 (v439 : IVec S16 32) : Prop :=
  (∀ a x, ((![v439] : Fin 1 → IVec S16 32) a x).toNat < S100000.size a)
theorem k0_idx78_inb : ∀ (v439 : IVec S16 32) (k0_hw78 : k0_chk78 v439), ∀ a x, ((![v439] : Fin 1 → IVec S16 32) a x).toNat < S100000.size a := fun v439 k0_hw78 => k0_hw78

def k0_chk79 (v444 : IVec S16 32) : Prop :=
  (∀ a x, ((![v444] : Fin 1 → IVec S16 32) a x).toNat < S100000.size a)
theorem k0_idx79_inb : ∀ (v444 : IVec S16 32) (k0_hw79 : k0_chk79 v444), ∀ a x, ((![v444] : Fin 1 → IVec S16 32) a x).toNat < S100000.size a := fun v444 k0_hw79 => k0_hw79

def k0_chk80 (v449 : IVec S16 32) : Prop :=
  (∀ a x, ((![v449] : Fin 1 → IVec S16 32) a x).toNat < S100000.size a)
theorem k0_idx80_inb : ∀ (v449 : IVec S16 32) (k0_hw80 : k0_chk80 v449), ∀ a x, ((![v449] : Fin 1 → IVec S16 32) a x).toNat < S100000.size a := fun v449 k0_hw80 => k0_hw80

def k0_chk81 (v454 : IVec S16 32) : Prop :=
  (∀ a x, ((![v454] : Fin 1 → IVec S16 32) a x).toNat < S100000.size a)
theorem k0_idx81_inb : ∀ (v454 : IVec S16 32) (k0_hw81 : k0_chk81 v454), ∀ a x, ((![v454] : Fin 1 → IVec S16 32) a x).toNat < S100000.size a := fun v454 k0_hw81 => k0_hw81

def k0_chk82 (v459 : IVec S16 32) : Prop :=
  (∀ a x, ((![v459] : Fin 1 → IVec S16 32) a x).toNat < S100000.size a)
theorem k0_idx82_inb : ∀ (v459 : IVec S16 32) (k0_hw82 : k0_chk82 v459), ∀ a x, ((![v459] : Fin 1 → IVec S16 32) a x).toNat < S100000.size a := fun v459 k0_hw82 => k0_hw82

def k0_chk83 (v464 : IVec S16 32) : Prop :=
  (∀ a x, ((![v464] : Fin 1 → IVec S16 32) a x).toNat < S100000.size a)
theorem k0_idx83_inb : ∀ (v464 : IVec S16 32) (k0_hw83 : k0_chk83 v464), ∀ a x, ((![v464] : Fin 1 → IVec S16 32) a x).toNat < S100000.size a := fun v464 k0_hw83 => k0_hw83

def k0_chk84 (v469 : IVec S16 32) : Prop :=
  (∀ a x, ((![v469] : Fin 1 → IVec S16 32) a x).toNat < S100000.size a)
theorem k0_idx84_inb : ∀ (v469 : IVec S16 32) (k0_hw84 : k0_chk84 v469), ∀ a x, ((![v469] : Fin 1 → IVec S16 32) a x).toNat < S100000.size a := fun v469 k0_hw84 => k0_hw84

def k0_chk85 (v474 : IVec S16 32) : Prop :=
  (∀ a x, ((![v474] : Fin 1 → IVec S16 32) a x).toNat < S100000.size a)
theorem k0_idx85_inb : ∀ (v474 : IVec S16 32) (k0_hw85 : k0_chk85 v474), ∀ a x, ((![v474] : Fin 1 → IVec S16 32) a x).toNat < S100000.size a := fun v474 k0_hw85 => k0_hw85

def k0_chk86 (v479 : IVec S16 32) : Prop :=
  (∀ a x, ((![v479] : Fin 1 → IVec S16 32) a x).toNat < S100000.size a)
theorem k0_idx86_inb : ∀ (v479 : IVec S16 32) (k0_hw86 : k0_chk86 v479), ∀ a x, ((![v479] : Fin 1 → IVec S16 32) a x).toNat < S100000.size a := fun v479 k0_hw86 => k0_hw86

def k0_chk87 (v484 : IVec S16 32) : Prop :=
  (∀ a x, ((![v484] : Fin 1 → IVec S16 32) a x).toNat < S100000.size a)
theorem k0_idx87_inb : ∀ (v484 : IVec S16 32) (k0_hw87 : k0_chk87 v484), ∀ a x, ((![v484] : Fin 1 → IVec S16 32) a x).toNat < S100000.size a := fun v484 k0_hw87 => k0_hw87

def k0_chk88 (v489 : IVec S16 32) : Prop :=
  (∀ a x, ((![v489] : Fin 1 → IVec S16 32) a x).toNat < S100000.size a)
theorem k0_idx88_inb : ∀ (v489 : IVec S16 32) (k0_hw88 : k0_chk88 v489), ∀ a x, ((![v489] : Fin 1 → IVec S16 32) a x).toNat < S100000.size a := fun v489 k0_hw88 => k0_hw88

def k0_chk89 (v494 : IVec S16 32) : Prop :=
  (∀ a x, ((![v494] : Fin 1 → IVec S16 32) a x).toNat < S100000.size a)
theorem k0_idx89_inb : ∀ (v494 : IVec S16 32) (k0_hw89 : k0_chk89 v494), ∀ a x, ((![v494] : Fin 1 → IVec S16 32) a x).toNat < S100000.size a := fun v494 k0_hw89 => k0_hw89

def k0_chk90 (v499 : IVec S16 32) : Prop :=
  (∀ a x, ((![v499] : Fin 1 → IVec S16 32) a x).toNat < S100000.size a)
theorem k0_idx90_inb : ∀ (v499 : IVec S16 32) (k0_hw90 : k0_chk90 v499), ∀ a x, ((![v499] : Fin 1 → IVec S16 32) a x).toNat < S100000.size a := fun v499 k0_hw90 => k0_hw90

def k0_chk91 (v504 : IVec S16 32) : Prop :=
  (∀ a x, ((![v504] : Fin 1 → IVec S16 32) a x).toNat < S100000.size a)
theorem k0_idx91_inb : ∀ (v504 : IVec S16 32) (k0_hw91 : k0_chk91 v504), ∀ a x, ((![v504] : Fin 1 → IVec S16 32) a x).toNat < S100000.size a := fun v504 k0_hw91 => k0_hw91

def k0_chk92 (v509 : IVec S16 32) : Prop :=
  (∀ a x, ((![v509] : Fin 1 → IVec S16 32) a x).toNat < S100000.size a)
theorem k0_idx92_inb : ∀ (v509 : IVec S16 32) (k0_hw92 : k0_chk92 v509), ∀ a x, ((![v509] : Fin 1 → IVec S16 32) a x).toNat < S100000.size a := fun v509 k0_hw92 => k0_hw92

def k0_chk93 (v514 : IVec S16 32) : Prop :=
  (∀ a x, ((![v514] : Fin 1 → IVec S16 32) a x).toNat < S100000.size a)
theorem k0_idx93_inb : ∀ (v514 : IVec S16 32) (k0_hw93 : k0_chk93 v514), ∀ a x, ((![v514] : Fin 1 → IVec S16 32) a x).toNat < S100000.size a := fun v514 k0_hw93 => k0_hw93

def k0_chk94 (v519 : IVec S16 32) : Prop :=
  (∀ a x, ((![v519] : Fin 1 → IVec S16 32) a x).toNat < S100000.size a)
theorem k0_idx94_inb : ∀ (v519 : IVec S16 32) (k0_hw94 : k0_chk94 v519), ∀ a x, ((![v519] : Fin 1 → IVec S16 32) a x).toNat < S100000.size a := fun v519 k0_hw94 => k0_hw94

def k0_chk95 (v524 : IVec S16 32) : Prop :=
  (∀ a x, ((![v524] : Fin 1 → IVec S16 32) a x).toNat < S100000.size a)
theorem k0_idx95_inb : ∀ (v524 : IVec S16 32) (k0_hw95 : k0_chk95 v524), ∀ a x, ((![v524] : Fin 1 → IVec S16 32) a x).toNat < S100000.size a := fun v524 k0_hw95 => k0_hw95

def k0_chk96 (v529 : IVec S16 32) : Prop :=
  (∀ a x, ((![v529] : Fin 1 → IVec S16 32) a x).toNat < S100000.size a)
theorem k0_idx96_inb : ∀ (v529 : IVec S16 32) (k0_hw96 : k0_chk96 v529), ∀ a x, ((![v529] : Fin 1 → IVec S16 32) a x).toNat < S100000.size a := fun v529 k0_hw96 => k0_hw96

def k0_chk97 (v534 : IVec S16 32) : Prop :=
  (∀ a x, ((![v534] : Fin 1 → IVec S16 32) a x).toNat < S100000.size a)
theorem k0_idx97_inb : ∀ (v534 : IVec S16 32) (k0_hw97 : k0_chk97 v534), ∀ a x, ((![v534] : Fin 1 → IVec S16 32) a x).toNat < S100000.size a := fun v534 k0_hw97 => k0_hw97

def k0_chk98 (v539 : IVec S16 32) : Prop :=
  (∀ a x, ((![v539] : Fin 1 → IVec S16 32) a x).toNat < S100000.size a)
theorem k0_idx98_inb : ∀ (v539 : IVec S16 32) (k0_hw98 : k0_chk98 v539), ∀ a x, ((![v539] : Fin 1 → IVec S16 32) a x).toNat < S100000.size a := fun v539 k0_hw98 => k0_hw98

def k0_chk99 (v544 : IVec S16 32) : Prop :=
  (∀ a x, ((![v544] : Fin 1 → IVec S16 32) a x).toNat < S100000.size a)
theorem k0_idx99_inb : ∀ (v544 : IVec S16 32) (k0_hw99 : k0_chk99 v544), ∀ a x, ((![v544] : Fin 1 → IVec S16 32) a x).toNat < S100000.size a := fun v544 k0_hw99 => k0_hw99

def k0_chk100 (v549 : IVec S16 32) : Prop :=
  (∀ a x, ((![v549] : Fin 1 → IVec S16 32) a x).toNat < S100000.size a)
theorem k0_idx100_inb : ∀ (v549 : IVec S16 32) (k0_hw100 : k0_chk100 v549), ∀ a x, ((![v549] : Fin 1 → IVec S16 32) a x).toNat < S100000.size a := fun v549 k0_hw100 => k0_hw100

def k0_chk101 (v554 : IVec S16 32) : Prop :=
  (∀ a x, ((![v554] : Fin 1 → IVec S16 32) a x).toNat < S100000.size a)
theorem k0_idx101_inb : ∀ (v554 : IVec S16 32) (k0_hw101 : k0_chk101 v554), ∀ a x, ((![v554] : Fin 1 → IVec S16 32) a x).toNat < S100000.size a := fun v554 k0_hw101 => k0_hw101

def k0_chk102 (v559 : IVec S16 32) : Prop :=
  (∀ a x, ((![v559] : Fin 1 → IVec S16 32) a x).toNat < S100000.size a)
theorem k0_idx102_inb : ∀ (v559 : IVec S16 32) (k0_hw102 : k0_chk102 v559), ∀ a x, ((![v559] : Fin 1 → IVec S16 32) a x).toNat < S100000.size a := fun v559 k0_hw102 => k0_hw102

def k0_chk103 (v564 : IVec S16 32) : Prop :=
  (∀ a x, ((![v564] : Fin 1 → IVec S16 32) a x).toNat < S100000.size a)
theorem k0_idx103_inb : ∀ (v564 : IVec S16 32) (k0_hw103 : k0_chk103 v564), ∀ a x, ((![v564] : Fin 1 → IVec S16 32) a x).toNat < S100000.size a := fun v564 k0_hw103 => k0_hw103

def k0_chk104 (v569 : IVec S16 32) : Prop :=
  (∀ a x, ((![v569] : Fin 1 → IVec S16 32) a x).toNat < S100000.size a)
theorem k0_idx104_inb : ∀ (v569 : IVec S16 32) (k0_hw104 : k0_chk104 v569), ∀ a x, ((![v569] : Fin 1 → IVec S16 32) a x).toNat < S100000.size a := fun v569 k0_hw104 => k0_hw104

def k0_chk105 (v574 : IVec S16 32) : Prop :=
  (∀ a x, ((![v574] : Fin 1 → IVec S16 32) a x).toNat < S100000.size a)
theorem k0_idx105_inb : ∀ (v574 : IVec S16 32) (k0_hw105 : k0_chk105 v574), ∀ a x, ((![v574] : Fin 1 → IVec S16 32) a x).toNat < S100000.size a := fun v574 k0_hw105 => k0_hw105

def k0_chk106 (v579 : IVec S16 32) : Prop :=
  (∀ a x, ((![v579] : Fin 1 → IVec S16 32) a x).toNat < S100000.size a)
theorem k0_idx106_inb : ∀ (v579 : IVec S16 32) (k0_hw106 : k0_chk106 v579), ∀ a x, ((![v579] : Fin 1 → IVec S16 32) a x).toNat < S100000.size a := fun v579 k0_hw106 => k0_hw106

def k0_chk107 (v584 : IVec S16 32) : Prop :=
  (∀ a x, ((![v584] : Fin 1 → IVec S16 32) a x).toNat < S100000.size a)
theorem k0_idx107_inb : ∀ (v584 : IVec S16 32) (k0_hw107 : k0_chk107 v584), ∀ a x, ((![v584] : Fin 1 → IVec S16 32) a x).toNat < S100000.size a := fun v584 k0_hw107 => k0_hw107

def k0_chk108 (v589 : IVec S16 32) : Prop :=
  (∀ a x, ((![v589] : Fin 1 → IVec S16 32) a x).toNat < S100000.size a)
theorem k0_idx108_inb : ∀ (v589 : IVec S16 32) (k0_hw108 : k0_chk108 v589), ∀ a x, ((![v589] : Fin 1 → IVec S16 32) a x).toNat < S100000.size a := fun v589 k0_hw108 => k0_hw108

def k0_chk109 (v594 : IVec S16 32) : Prop :=
  (∀ a x, ((![v594] : Fin 1 → IVec S16 32) a x).toNat < S100000.size a)
theorem k0_idx109_inb : ∀ (v594 : IVec S16 32) (k0_hw109 : k0_chk109 v594), ∀ a x, ((![v594] : Fin 1 → IVec S16 32) a x).toNat < S100000.size a := fun v594 k0_hw109 => k0_hw109

def k0_chk110 (v599 : IVec S16 32) : Prop :=
  (∀ a x, ((![v599] : Fin 1 → IVec S16 32) a x).toNat < S100000.size a)
theorem k0_idx110_inb : ∀ (v599 : IVec S16 32) (k0_hw110 : k0_chk110 v599), ∀ a x, ((![v599] : Fin 1 → IVec S16 32) a x).toNat < S100000.size a := fun v599 k0_hw110 => k0_hw110

def k0_chk111 (v604 : IVec S16 32) : Prop :=
  (∀ a x, ((![v604] : Fin 1 → IVec S16 32) a x).toNat < S100000.size a)
theorem k0_idx111_inb : ∀ (v604 : IVec S16 32) (k0_hw111 : k0_chk111 v604), ∀ a x, ((![v604] : Fin 1 → IVec S16 32) a x).toNat < S100000.size a := fun v604 k0_hw111 => k0_hw111

def k0_chk112 (v609 : IVec S16 32) : Prop :=
  (∀ a x, ((![v609] : Fin 1 → IVec S16 32) a x).toNat < S100000.size a)
theorem k0_idx112_inb : ∀ (v609 : IVec S16 32) (k0_hw112 : k0_chk112 v609), ∀ a x, ((![v609] : Fin 1 → IVec S16 32) a x).toNat < S100000.size a := fun v609 k0_hw112 => k0_hw112

def k0_chk113 (v614 : IVec S16 32) : Prop :=
  (∀ a x, ((![v614] : Fin 1 → IVec S16 32) a x).toNat < S100000.size a)
theorem k0_idx113_inb : ∀ (v614 : IVec S16 32) (k0_hw113 : k0_chk113 v614), ∀ a x, ((![v614] : Fin 1 → IVec S16 32) a x).toNat < S100000.size a := fun v614 k0_hw113 => k0_hw113

def k0_chk114 (v619 : IVec S16 32) : Prop :=
  (∀ a x, ((![v619] : Fin 1 → IVec S16 32) a x).toNat < S100000.size a)
theorem k0_idx114_inb : ∀ (v619 : IVec S16 32) (k0_hw114 : k0_chk114 v619), ∀ a x, ((![v619] : Fin 1 → IVec S16 32) a x).toNat < S100000.size a := fun v619 k0_hw114 => k0_hw114

def k0_chk115 (v624 : IVec S16 32) : Prop :=
  (∀ a x, ((![v624] : Fin 1 → IVec S16 32) a x).toNat < S100000.size a)
theorem k0_idx115_inb : ∀ (v624 : IVec S16 32) (k0_hw115 : k0_chk115 v624), ∀ a x, ((![v624] : Fin 1 → IVec S16 32) a x).toNat < S100000.size a := fun v624 k0_hw115 => k0_hw115

def k0_chk116 (v629 : IVec S16 32) : Prop :=
  (∀ a x, ((![v629] : Fin 1 → IVec S16 32) a x).toNat < S100000.size a)
theorem k0_idx116_inb : ∀ (v629 : IVec S16 32) (k0_hw116 : k0_chk116 v629), ∀ a x, ((![v629] : Fin 1 → IVec S16 32) a x).toNat < S100000.size a := fun v629 k0_hw116 => k0_hw116

def k0_chk117 (v634 : IVec S16 32) : Prop :=
  (∀ a x, ((![v634] : Fin 1 → IVec S16 32) a x).toNat < S100000.size a)
theorem k0_idx117_inb : ∀ (v634 : IVec S16 32) (k0_hw117 : k0_chk117 v634), ∀ a x, ((![v634] : Fin 1 → IVec S16 32) a x).toNat < S100000.size a := fun v634 k0_hw117 => k0_hw117

def k0_chk118 (v639 : IVec S16 32) : Prop :=
  (∀ a x, ((![v639] : Fin 1 → IVec S16 32) a x).toNat < S100000.size a)
theorem k0_idx118_inb : ∀ (v639 : IVec S16 32) (k0_hw118 : k0_chk118 v639), ∀ a x, ((![v639] : Fin 1 → IVec S16 32) a x).toNat < S100000.size a := fun v639 k0_hw118 => k0_hw118

def k0_chk119 (v644 : IVec S16 32) : Prop :=
  (∀ a x, ((![v644] : Fin 1 → IVec S16 32) a x).toNat < S100000.size a)
theorem k0_idx119_inb : ∀ (v644 : IVec S16 32) (k0_hw119 : k0_chk119 v644), ∀ a x, ((![v644] : Fin 1 → IVec S16 32) a x).toNat < S100000.size a := fun v644 k0_hw119 => k0_hw119

def k0_chk120 (v649 : IVec S16 32) : Prop :=
  (∀ a x, ((![v649] : Fin 1 → IVec S16 32) a x).toNat < S100000.size a)
theorem k0_idx120_inb : ∀ (v649 : IVec S16 32) (k0_hw120 : k0_chk120 v649), ∀ a x, ((![v649] : Fin 1 → IVec S16 32) a x).toNat < S100000.size a := fun v649 k0_hw120 => k0_hw120

def k0_chk121 (v654 : IVec S16 32) : Prop :=
  (∀ a x, ((![v654] : Fin 1 → IVec S16 32) a x).toNat < S100000.size a)
theorem k0_idx121_inb : ∀ (v654 : IVec S16 32) (k0_hw121 : k0_chk121 v654), ∀ a x, ((![v654] : Fin 1 → IVec S16 32) a x).toNat < S100000.size a := fun v654 k0_hw121 => k0_hw121

def k0_chk122 (v659 : IVec S16 32) : Prop :=
  (∀ a x, ((![v659] : Fin 1 → IVec S16 32) a x).toNat < S100000.size a)
theorem k0_idx122_inb : ∀ (v659 : IVec S16 32) (k0_hw122 : k0_chk122 v659), ∀ a x, ((![v659] : Fin 1 → IVec S16 32) a x).toNat < S100000.size a := fun v659 k0_hw122 => k0_hw122

def k0_chk123 (v664 : IVec S16 32) : Prop :=
  (∀ a x, ((![v664] : Fin 1 → IVec S16 32) a x).toNat < S100000.size a)
theorem k0_idx123_inb : ∀ (v664 : IVec S16 32) (k0_hw123 : k0_chk123 v664), ∀ a x, ((![v664] : Fin 1 → IVec S16 32) a x).toNat < S100000.size a := fun v664 k0_hw123 => k0_hw123

def k0_chk124 (v669 : IVec S16 32) : Prop :=
  (∀ a x, ((![v669] : Fin 1 → IVec S16 32) a x).toNat < S100000.size a)
theorem k0_idx124_inb : ∀ (v669 : IVec S16 32) (k0_hw124 : k0_chk124 v669), ∀ a x, ((![v669] : Fin 1 → IVec S16 32) a x).toNat < S100000.size a := fun v669 k0_hw124 => k0_hw124

def k0_chk125 (v674 : IVec S16 32) : Prop :=
  (∀ a x, ((![v674] : Fin 1 → IVec S16 32) a x).toNat < S100000.size a)
theorem k0_idx125_inb : ∀ (v674 : IVec S16 32) (k0_hw125 : k0_chk125 v674), ∀ a x, ((![v674] : Fin 1 → IVec S16 32) a x).toNat < S100000.size a := fun v674 k0_hw125 => k0_hw125

def k0_chk126 (v679 : IVec S16 32) : Prop :=
  (∀ a x, ((![v679] : Fin 1 → IVec S16 32) a x).toNat < S100000.size a)
theorem k0_idx126_inb : ∀ (v679 : IVec S16 32) (k0_hw126 : k0_chk126 v679), ∀ a x, ((![v679] : Fin 1 → IVec S16 32) a x).toNat < S100000.size a := fun v679 k0_hw126 => k0_hw126

def k0_chk127 (v684 : IVec S16 32) : Prop :=
  (∀ a x, ((![v684] : Fin 1 → IVec S16 32) a x).toNat < S100000.size a)
theorem k0_idx127_inb : ∀ (v684 : IVec S16 32) (k0_hw127 : k0_chk127 v684), ∀ a x, ((![v684] : Fin 1 → IVec S16 32) a x).toNat < S100000.size a := fun v684 k0_hw127 => k0_hw127

def k0_chk128 (v689 : IVec S16 32) : Prop :=
  (∀ a x, ((![v689] : Fin 1 → IVec S16 32) a x).toNat < S100000.size a)
theorem k0_idx128_inb : ∀ (v689 : IVec S16 32) (k0_hw128 : k0_chk128 v689), ∀ a x, ((![v689] : Fin 1 → IVec S16 32) a x).toNat < S100000.size a := fun v689 k0_hw128 => k0_hw128

def k0_chk129 (v694 : IVec S16 32) : Prop :=
  (∀ a x, ((![v694] : Fin 1 → IVec S16 32) a x).toNat < S100000.size a)
theorem k0_idx129_inb : ∀ (v694 : IVec S16 32) (k0_hw129 : k0_chk129 v694), ∀ a x, ((![v694] : Fin 1 → IVec S16 32) a x).toNat < S100000.size a := fun v694 k0_hw129 => k0_hw129

def k0_chk130 (v699 : IVec S16 32) : Prop :=
  (∀ a x, ((![v699] : Fin 1 → IVec S16 32) a x).toNat < S100000.size a)
theorem k0_idx130_inb : ∀ (v699 : IVec S16 32) (k0_hw130 : k0_chk130 v699), ∀ a x, ((![v699] : Fin 1 → IVec S16 32) a x).toNat < S100000.size a := fun v699 k0_hw130 => k0_hw130

def k0_chk131 (v704 : IVec S16 32) : Prop :=
  (∀ a x, ((![v704] : Fin 1 → IVec S16 32) a x).toNat < S100000.size a)
theorem k0_idx131_inb : ∀ (v704 : IVec S16 32) (k0_hw131 : k0_chk131 v704), ∀ a x, ((![v704] : Fin 1 → IVec S16 32) a x).toNat < S100000.size a := fun v704 k0_hw131 => k0_hw131

def k0_chk132 (v709 : IVec S16 32) : Prop :=
  (∀ a x, ((![v709] : Fin 1 → IVec S16 32) a x).toNat < S100000.size a)
theorem k0_idx132_inb : ∀ (v709 : IVec S16 32) (k0_hw132 : k0_chk132 v709), ∀ a x, ((![v709] : Fin 1 → IVec S16 32) a x).toNat < S100000.size a := fun v709 k0_hw132 => k0_hw132

def k0_chk133 (v714 : IVec S16 32) : Prop :=
  (∀ a x, ((![v714] : Fin 1 → IVec S16 32) a x).toNat < S100000.size a)
theorem k0_idx133_inb : ∀ (v714 : IVec S16 32) (k0_hw133 : k0_chk133 v714), ∀ a x, ((![v714] : Fin 1 → IVec S16 32) a x).toNat < S100000.size a := fun v714 k0_hw133 => k0_hw133

def k0_chk134 (v719 : IVec S16 32) : Prop :=
  (∀ a x, ((![v719] : Fin 1 → IVec S16 32) a x).toNat < S100000.size a)
theorem k0_idx134_inb : ∀ (v719 : IVec S16 32) (k0_hw134 : k0_chk134 v719), ∀ a x, ((![v719] : Fin 1 → IVec S16 32) a x).toNat < S100000.size a := fun v719 k0_hw134 => k0_hw134

def k0_chk135 (v724 : IVec S16 32) : Prop :=
  (∀ a x, ((![v724] : Fin 1 → IVec S16 32) a x).toNat < S100000.size a)
theorem k0_idx135_inb : ∀ (v724 : IVec S16 32) (k0_hw135 : k0_chk135 v724), ∀ a x, ((![v724] : Fin 1 → IVec S16 32) a x).toNat < S100000.size a := fun v724 k0_hw135 => k0_hw135

def k0_chk136 (v729 : IVec S16 32) : Prop :=
  (∀ a x, ((![v729] : Fin 1 → IVec S16 32) a x).toNat < S100000.size a)
theorem k0_idx136_inb : ∀ (v729 : IVec S16 32) (k0_hw136 : k0_chk136 v729), ∀ a x, ((![v729] : Fin 1 → IVec S16 32) a x).toNat < S100000.size a := fun v729 k0_hw136 => k0_hw136

def k0_chk137 (v734 : IVec S16 32) : Prop :=
  (∀ a x, ((![v734] : Fin 1 → IVec S16 32) a x).toNat < S100000.size a)
theorem k0_idx137_inb : ∀ (v734 : IVec S16 32) (k0_hw137 : k0_chk137 v734), ∀ a x, ((![v734] : Fin 1 → IVec S16 32) a x).toNat < S100000.size a := fun v734 k0_hw137 => k0_hw137

def k0_chk138 (v739 : IVec S16 32) : Prop :=
  (∀ a x, ((![v739] : Fin 1 → IVec S16 32) a x).toNat < S100000.size a)
theorem k0_idx138_inb : ∀ (v739 : IVec S16 32) (k0_hw138 : k0_chk138 v739), ∀ a x, ((![v739] : Fin 1 → IVec S16 32) a x).toNat < S100000.size a := fun v739 k0_hw138 => k0_hw138

def k0_chk139 (v744 : IVec S16 32) : Prop :=
  (∀ a x, ((![v744] : Fin 1 → IVec S16 32) a x).toNat < S100000.size a)
theorem k0_idx139_inb : ∀ (v744 : IVec S16 32) (k0_hw139 : k0_chk139 v744), ∀ a x, ((![v744] : Fin 1 → IVec S16 32) a x).toNat < S100000.size a := fun v744 k0_hw139 => k0_hw139

def k0_chk140 (v749 : IVec S16 32) : Prop :=
  (∀ a x, ((![v749] : Fin 1 → IVec S16 32) a x).toNat < S100000.size a)
theorem k0_idx140_inb : ∀ (v749 : IVec S16 32) (k0_hw140 : k0_chk140 v749), ∀ a x, ((![v749] : Fin 1 → IVec S16 32) a x).toNat < S100000.size a := fun v749 k0_hw140 => k0_hw140

def k0_chk141 (v754 : IVec S16 32) : Prop :=
  (∀ a x, ((![v754] : Fin 1 → IVec S16 32) a x).toNat < S100000.size a)
theorem k0_idx141_inb : ∀ (v754 : IVec S16 32) (k0_hw141 : k0_chk141 v754), ∀ a x, ((![v754] : Fin 1 → IVec S16 32) a x).toNat < S100000.size a := fun v754 k0_hw141 => k0_hw141

def k0_chk142 (v759 : IVec S16 32) : Prop :=
  (∀ a x, ((![v759] : Fin 1 → IVec S16 32) a x).toNat < S100000.size a)
theorem k0_idx142_inb : ∀ (v759 : IVec S16 32) (k0_hw142 : k0_chk142 v759), ∀ a x, ((![v759] : Fin 1 → IVec S16 32) a x).toNat < S100000.size a := fun v759 k0_hw142 => k0_hw142

def k0_chk143 (v764 : IVec S16 32) : Prop :=
  (∀ a x, ((![v764] : Fin 1 → IVec S16 32) a x).toNat < S100000.size a)
theorem k0_idx143_inb : ∀ (v764 : IVec S16 32) (k0_hw143 : k0_chk143 v764), ∀ a x, ((![v764] : Fin 1 → IVec S16 32) a x).toNat < S100000.size a := fun v764 k0_hw143 => k0_hw143

def k0_chk144 (v769 : IVec S16 32) : Prop :=
  (∀ a x, ((![v769] : Fin 1 → IVec S16 32) a x).toNat < S100000.size a)
theorem k0_idx144_inb : ∀ (v769 : IVec S16 32) (k0_hw144 : k0_chk144 v769), ∀ a x, ((![v769] : Fin 1 → IVec S16 32) a x).toNat < S100000.size a := fun v769 k0_hw144 => k0_hw144

def k0_chk145 (v774 : IVec S16 32) : Prop :=
  (∀ a x, ((![v774] : Fin 1 → IVec S16 32) a x).toNat < S100000.size a)
theorem k0_idx145_inb : ∀ (v774 : IVec S16 32) (k0_hw145 : k0_chk145 v774), ∀ a x, ((![v774] : Fin 1 → IVec S16 32) a x).toNat < S100000.size a := fun v774 k0_hw145 => k0_hw145

def k0_chk146 (v779 : IVec S16 32) : Prop :=
  (∀ a x, ((![v779] : Fin 1 → IVec S16 32) a x).toNat < S100000.size a)
theorem k0_idx146_inb : ∀ (v779 : IVec S16 32) (k0_hw146 : k0_chk146 v779), ∀ a x, ((![v779] : Fin 1 → IVec S16 32) a x).toNat < S100000.size a := fun v779 k0_hw146 => k0_hw146

def k0_chk147 (v784 : IVec S16 32) : Prop :=
  (∀ a x, ((![v784] : Fin 1 → IVec S16 32) a x).toNat < S100000.size a)
theorem k0_idx147_inb : ∀ (v784 : IVec S16 32) (k0_hw147 : k0_chk147 v784), ∀ a x, ((![v784] : Fin 1 → IVec S16 32) a x).toNat < S100000.size a := fun v784 k0_hw147 => k0_hw147

def k0_chk148 (v789 : IVec S16 32) : Prop :=
  (∀ a x, ((![v789] : Fin 1 → IVec S16 32) a x).toNat < S100000.size a)
theorem k0_idx148_inb : ∀ (v789 : IVec S16 32) (k0_hw148 : k0_chk148 v789), ∀ a x, ((![v789] : Fin 1 → IVec S16 32) a x).toNat < S100000.size a := fun v789 k0_hw148 => k0_hw148

def k0_chk149 (v794 : IVec S16 32) : Prop :=
  (∀ a x, ((![v794] : Fin 1 → IVec S16 32) a x).toNat < S100000.size a)
theorem k0_idx149_inb : ∀ (v794 : IVec S16 32) (k0_hw149 : k0_chk149 v794), ∀ a x, ((![v794] : Fin 1 → IVec S16 32) a x).toNat < S100000.size a := fun v794 k0_hw149 => k0_hw149

def k0_chk150 (v799 : IVec S16 32) : Prop :=
  (∀ a x, ((![v799] : Fin 1 → IVec S16 32) a x).toNat < S100000.size a)
theorem k0_idx150_inb : ∀ (v799 : IVec S16 32) (k0_hw150 : k0_chk150 v799), ∀ a x, ((![v799] : Fin 1 → IVec S16 32) a x).toNat < S100000.size a := fun v799 k0_hw150 => k0_hw150

def k0_chk151 (v804 : IVec S16 32) : Prop :=
  (∀ a x, ((![v804] : Fin 1 → IVec S16 32) a x).toNat < S100000.size a)
theorem k0_idx151_inb : ∀ (v804 : IVec S16 32) (k0_hw151 : k0_chk151 v804), ∀ a x, ((![v804] : Fin 1 → IVec S16 32) a x).toNat < S100000.size a := fun v804 k0_hw151 => k0_hw151

def k0_chk152 (v809 : IVec S16 32) : Prop :=
  (∀ a x, ((![v809] : Fin 1 → IVec S16 32) a x).toNat < S100000.size a)
theorem k0_idx152_inb : ∀ (v809 : IVec S16 32) (k0_hw152 : k0_chk152 v809), ∀ a x, ((![v809] : Fin 1 → IVec S16 32) a x).toNat < S100000.size a := fun v809 k0_hw152 => k0_hw152

def k0_chk153 (v814 : IVec S16 32) : Prop :=
  (∀ a x, ((![v814] : Fin 1 → IVec S16 32) a x).toNat < S100000.size a)
theorem k0_idx153_inb : ∀ (v814 : IVec S16 32) (k0_hw153 : k0_chk153 v814), ∀ a x, ((![v814] : Fin 1 → IVec S16 32) a x).toNat < S100000.size a := fun v814 k0_hw153 => k0_hw153

def k0_chk154 (v819 : IVec S16 32) : Prop :=
  (∀ a x, ((![v819] : Fin 1 → IVec S16 32) a x).toNat < S100000.size a)
theorem k0_idx154_inb : ∀ (v819 : IVec S16 32) (k0_hw154 : k0_chk154 v819), ∀ a x, ((![v819] : Fin 1 → IVec S16 32) a x).toNat < S100000.size a := fun v819 k0_hw154 => k0_hw154

def k0_chk155 (v824 : IVec S16 32) : Prop :=
  (∀ a x, ((![v824] : Fin 1 → IVec S16 32) a x).toNat < S100000.size a)
theorem k0_idx155_inb : ∀ (v824 : IVec S16 32) (k0_hw155 : k0_chk155 v824), ∀ a x, ((![v824] : Fin 1 → IVec S16 32) a x).toNat < S100000.size a := fun v824 k0_hw155 => k0_hw155

def k0_chk156 (v829 : IVec S16 32) : Prop :=
  (∀ a x, ((![v829] : Fin 1 → IVec S16 32) a x).toNat < S100000.size a)
theorem k0_idx156_inb : ∀ (v829 : IVec S16 32) (k0_hw156 : k0_chk156 v829), ∀ a x, ((![v829] : Fin 1 → IVec S16 32) a x).toNat < S100000.size a := fun v829 k0_hw156 => k0_hw156

def k0_chk157 (v834 : IVec S16 32) : Prop :=
  (∀ a x, ((![v834] : Fin 1 → IVec S16 32) a x).toNat < S100000.size a)
theorem k0_idx157_inb : ∀ (v834 : IVec S16 32) (k0_hw157 : k0_chk157 v834), ∀ a x, ((![v834] : Fin 1 → IVec S16 32) a x).toNat < S100000.size a := fun v834 k0_hw157 => k0_hw157

def k0_chk158 (v839 : IVec S16 32) : Prop :=
  (∀ a x, ((![v839] : Fin 1 → IVec S16 32) a x).toNat < S100000.size a)
theorem k0_idx158_inb : ∀ (v839 : IVec S16 32) (k0_hw158 : k0_chk158 v839), ∀ a x, ((![v839] : Fin 1 → IVec S16 32) a x).toNat < S100000.size a := fun v839 k0_hw158 => k0_hw158

def k0_chk159 (v844 : IVec S16 32) : Prop :=
  (∀ a x, ((![v844] : Fin 1 → IVec S16 32) a x).toNat < S100000.size a)
theorem k0_idx159_inb : ∀ (v844 : IVec S16 32) (k0_hw159 : k0_chk159 v844), ∀ a x, ((![v844] : Fin 1 → IVec S16 32) a x).toNat < S100000.size a := fun v844 k0_hw159 => k0_hw159

def k0_chk160 (v849 : IVec S16 32) : Prop :=
  (∀ a x, ((![v849] : Fin 1 → IVec S16 32) a x).toNat < S100000.size a)
theorem k0_idx160_inb : ∀ (v849 : IVec S16 32) (k0_hw160 : k0_chk160 v849), ∀ a x, ((![v849] : Fin 1 → IVec S16 32) a x).toNat < S100000.size a := fun v849 k0_hw160 => k0_hw160

def k0_chk161 (v854 : IVec S16 32) : Prop :=
  (∀ a x, ((![v854] : Fin 1 → IVec S16 32) a x).toNat < S100000.size a)
theorem k0_idx161_inb : ∀ (v854 : IVec S16 32) (k0_hw161 : k0_chk161 v854), ∀ a x, ((![v854] : Fin 1 → IVec S16 32) a x).toNat < S100000.size a := fun v854 k0_hw161 => k0_hw161

def k0_chk162 (v859 : IVec S16 32) : Prop :=
  (∀ a x, ((![v859] : Fin 1 → IVec S16 32) a x).toNat < S100000.size a)
theorem k0_idx162_inb : ∀ (v859 : IVec S16 32) (k0_hw162 : k0_chk162 v859), ∀ a x, ((![v859] : Fin 1 → IVec S16 32) a x).toNat < S100000.size a := fun v859 k0_hw162 => k0_hw162

def k0_chk163 (v864 : IVec S16 32) : Prop :=
  (∀ a x, ((![v864] : Fin 1 → IVec S16 32) a x).toNat < S100000.size a)
theorem k0_idx163_inb : ∀ (v864 : IVec S16 32) (k0_hw163 : k0_chk163 v864), ∀ a x, ((![v864] : Fin 1 → IVec S16 32) a x).toNat < S100000.size a := fun v864 k0_hw163 => k0_hw163

def k0_chk164 (v869 : IVec S16 32) : Prop :=
  (∀ a x, ((![v869] : Fin 1 → IVec S16 32) a x).toNat < S100000.size a)
theorem k0_idx164_inb : ∀ (v869 : IVec S16 32) (k0_hw164 : k0_chk164 v869), ∀ a x, ((![v869] : Fin 1 → IVec S16 32) a x).toNat < S100000.size a := fun v869 k0_hw164 => k0_hw164

def k0_chk165 (v874 : IVec S16 32) : Prop :=
  (∀ a x, ((![v874] : Fin 1 → IVec S16 32) a x).toNat < S100000.size a)
theorem k0_idx165_inb : ∀ (v874 : IVec S16 32) (k0_hw165 : k0_chk165 v874), ∀ a x, ((![v874] : Fin 1 → IVec S16 32) a x).toNat < S100000.size a := fun v874 k0_hw165 => k0_hw165

def k0_chk166 (v879 : IVec S16 32) : Prop :=
  (∀ a x, ((![v879] : Fin 1 → IVec S16 32) a x).toNat < S100000.size a)
theorem k0_idx166_inb : ∀ (v879 : IVec S16 32) (k0_hw166 : k0_chk166 v879), ∀ a x, ((![v879] : Fin 1 → IVec S16 32) a x).toNat < S100000.size a := fun v879 k0_hw166 => k0_hw166

def k0_chk167 (v884 : IVec S16 32) : Prop :=
  (∀ a x, ((![v884] : Fin 1 → IVec S16 32) a x).toNat < S100000.size a)
theorem k0_idx167_inb : ∀ (v884 : IVec S16 32) (k0_hw167 : k0_chk167 v884), ∀ a x, ((![v884] : Fin 1 → IVec S16 32) a x).toNat < S100000.size a := fun v884 k0_hw167 => k0_hw167

def k0_chk168 (v889 : IVec S16 32) : Prop :=
  (∀ a x, ((![v889] : Fin 1 → IVec S16 32) a x).toNat < S100000.size a)
theorem k0_idx168_inb : ∀ (v889 : IVec S16 32) (k0_hw168 : k0_chk168 v889), ∀ a x, ((![v889] : Fin 1 → IVec S16 32) a x).toNat < S100000.size a := fun v889 k0_hw168 => k0_hw168

def k0_chk169 (v894 : IVec S16 32) : Prop :=
  (∀ a x, ((![v894] : Fin 1 → IVec S16 32) a x).toNat < S100000.size a)
theorem k0_idx169_inb : ∀ (v894 : IVec S16 32) (k0_hw169 : k0_chk169 v894), ∀ a x, ((![v894] : Fin 1 → IVec S16 32) a x).toNat < S100000.size a := fun v894 k0_hw169 => k0_hw169

def k0_chk170 (v899 : IVec S16 32) : Prop :=
  (∀ a x, ((![v899] : Fin 1 → IVec S16 32) a x).toNat < S100000.size a)
theorem k0_idx170_inb : ∀ (v899 : IVec S16 32) (k0_hw170 : k0_chk170 v899), ∀ a x, ((![v899] : Fin 1 → IVec S16 32) a x).toNat < S100000.size a := fun v899 k0_hw170 => k0_hw170

def k0_chk171 (v904 : IVec S16 32) : Prop :=
  (∀ a x, ((![v904] : Fin 1 → IVec S16 32) a x).toNat < S100000.size a)
theorem k0_idx171_inb : ∀ (v904 : IVec S16 32) (k0_hw171 : k0_chk171 v904), ∀ a x, ((![v904] : Fin 1 → IVec S16 32) a x).toNat < S100000.size a := fun v904 k0_hw171 => k0_hw171

def k0_chk172 (v909 : IVec S16 32) : Prop :=
  (∀ a x, ((![v909] : Fin 1 → IVec S16 32) a x).toNat < S100000.size a)
theorem k0_idx172_inb : ∀ (v909 : IVec S16 32) (k0_hw172 : k0_chk172 v909), ∀ a x, ((![v909] : Fin 1 → IVec S16 32) a x).toNat < S100000.size a := fun v909 k0_hw172 => k0_hw172

def k0_chk173 (v914 : IVec S16 32) : Prop :=
  (∀ a x, ((![v914] : Fin 1 → IVec S16 32) a x).toNat < S100000.size a)
theorem k0_idx173_inb : ∀ (v914 : IVec S16 32) (k0_hw173 : k0_chk173 v914), ∀ a x, ((![v914] : Fin 1 → IVec S16 32) a x).toNat < S100000.size a := fun v914 k0_hw173 => k0_hw173

def k0_chk174 (v919 : IVec S16 32) : Prop :=
  (∀ a x, ((![v919] : Fin 1 → IVec S16 32) a x).toNat < S100000.size a)
theorem k0_idx174_inb : ∀ (v919 : IVec S16 32) (k0_hw174 : k0_chk174 v919), ∀ a x, ((![v919] : Fin 1 → IVec S16 32) a x).toNat < S100000.size a := fun v919 k0_hw174 => k0_hw174

def k0_chk175 (v924 : IVec S16 32) : Prop :=
  (∀ a x, ((![v924] : Fin 1 → IVec S16 32) a x).toNat < S100000.size a)
theorem k0_idx175_inb : ∀ (v924 : IVec S16 32) (k0_hw175 : k0_chk175 v924), ∀ a x, ((![v924] : Fin 1 → IVec S16 32) a x).toNat < S100000.size a := fun v924 k0_hw175 => k0_hw175

def k0_chk176 (v929 : IVec S16 32) : Prop :=
  (∀ a x, ((![v929] : Fin 1 → IVec S16 32) a x).toNat < S100000.size a)
theorem k0_idx176_inb : ∀ (v929 : IVec S16 32) (k0_hw176 : k0_chk176 v929), ∀ a x, ((![v929] : Fin 1 → IVec S16 32) a x).toNat < S100000.size a := fun v929 k0_hw176 => k0_hw176

def k0_chk177 (v934 : IVec S16 32) : Prop :=
  (∀ a x, ((![v934] : Fin 1 → IVec S16 32) a x).toNat < S100000.size a)
theorem k0_idx177_inb : ∀ (v934 : IVec S16 32) (k0_hw177 : k0_chk177 v934), ∀ a x, ((![v934] : Fin 1 → IVec S16 32) a x).toNat < S100000.size a := fun v934 k0_hw177 => k0_hw177

def k0_chk178 (v939 : IVec S16 32) : Prop :=
  (∀ a x, ((![v939] : Fin 1 → IVec S16 32) a x).toNat < S100000.size a)
theorem k0_idx178_inb : ∀ (v939 : IVec S16 32) (k0_hw178 : k0_chk178 v939), ∀ a x, ((![v939] : Fin 1 → IVec S16 32) a x).toNat < S100000.size a := fun v939 k0_hw178 => k0_hw178

def k0_chk179 (v944 : IVec S16 32) : Prop :=
  (∀ a x, ((![v944] : Fin 1 → IVec S16 32) a x).toNat < S100000.size a)
theorem k0_idx179_inb : ∀ (v944 : IVec S16 32) (k0_hw179 : k0_chk179 v944), ∀ a x, ((![v944] : Fin 1 → IVec S16 32) a x).toNat < S100000.size a := fun v944 k0_hw179 => k0_hw179

def k0_chk180 (v949 : IVec S16 32) : Prop :=
  (∀ a x, ((![v949] : Fin 1 → IVec S16 32) a x).toNat < S100000.size a)
theorem k0_idx180_inb : ∀ (v949 : IVec S16 32) (k0_hw180 : k0_chk180 v949), ∀ a x, ((![v949] : Fin 1 → IVec S16 32) a x).toNat < S100000.size a := fun v949 k0_hw180 => k0_hw180

def k0_chk181 (v954 : IVec S16 32) : Prop :=
  (∀ a x, ((![v954] : Fin 1 → IVec S16 32) a x).toNat < S100000.size a)
theorem k0_idx181_inb : ∀ (v954 : IVec S16 32) (k0_hw181 : k0_chk181 v954), ∀ a x, ((![v954] : Fin 1 → IVec S16 32) a x).toNat < S100000.size a := fun v954 k0_hw181 => k0_hw181

def k0_chk182 (v959 : IVec S16 32) : Prop :=
  (∀ a x, ((![v959] : Fin 1 → IVec S16 32) a x).toNat < S100000.size a)
theorem k0_idx182_inb : ∀ (v959 : IVec S16 32) (k0_hw182 : k0_chk182 v959), ∀ a x, ((![v959] : Fin 1 → IVec S16 32) a x).toNat < S100000.size a := fun v959 k0_hw182 => k0_hw182

def k0_chk183 (v964 : IVec S16 32) : Prop :=
  (∀ a x, ((![v964] : Fin 1 → IVec S16 32) a x).toNat < S100000.size a)
theorem k0_idx183_inb : ∀ (v964 : IVec S16 32) (k0_hw183 : k0_chk183 v964), ∀ a x, ((![v964] : Fin 1 → IVec S16 32) a x).toNat < S100000.size a := fun v964 k0_hw183 => k0_hw183

def k0_chk184 (v969 : IVec S16 32) : Prop :=
  (∀ a x, ((![v969] : Fin 1 → IVec S16 32) a x).toNat < S100000.size a)
theorem k0_idx184_inb : ∀ (v969 : IVec S16 32) (k0_hw184 : k0_chk184 v969), ∀ a x, ((![v969] : Fin 1 → IVec S16 32) a x).toNat < S100000.size a := fun v969 k0_hw184 => k0_hw184

def k0_chk185 (v974 : IVec S16 32) : Prop :=
  (∀ a x, ((![v974] : Fin 1 → IVec S16 32) a x).toNat < S100000.size a)
theorem k0_idx185_inb : ∀ (v974 : IVec S16 32) (k0_hw185 : k0_chk185 v974), ∀ a x, ((![v974] : Fin 1 → IVec S16 32) a x).toNat < S100000.size a := fun v974 k0_hw185 => k0_hw185

def k0_chk186 (v979 : IVec S16 32) : Prop :=
  (∀ a x, ((![v979] : Fin 1 → IVec S16 32) a x).toNat < S100000.size a)
theorem k0_idx186_inb : ∀ (v979 : IVec S16 32) (k0_hw186 : k0_chk186 v979), ∀ a x, ((![v979] : Fin 1 → IVec S16 32) a x).toNat < S100000.size a := fun v979 k0_hw186 => k0_hw186

def k0_chk187 (v984 : IVec S16 32) : Prop :=
  (∀ a x, ((![v984] : Fin 1 → IVec S16 32) a x).toNat < S100000.size a)
theorem k0_idx187_inb : ∀ (v984 : IVec S16 32) (k0_hw187 : k0_chk187 v984), ∀ a x, ((![v984] : Fin 1 → IVec S16 32) a x).toNat < S100000.size a := fun v984 k0_hw187 => k0_hw187

def k0_chk188 (v989 : IVec S16 32) : Prop :=
  (∀ a x, ((![v989] : Fin 1 → IVec S16 32) a x).toNat < S100000.size a)
theorem k0_idx188_inb : ∀ (v989 : IVec S16 32) (k0_hw188 : k0_chk188 v989), ∀ a x, ((![v989] : Fin 1 → IVec S16 32) a x).toNat < S100000.size a := fun v989 k0_hw188 => k0_hw188

def k0_chk189 (v994 : IVec S16 32) : Prop :=
  (∀ a x, ((![v994] : Fin 1 → IVec S16 32) a x).toNat < S100000.size a)
theorem k0_idx189_inb : ∀ (v994 : IVec S16 32) (k0_hw189 : k0_chk189 v994), ∀ a x, ((![v994] : Fin 1 → IVec S16 32) a x).toNat < S100000.size a := fun v994 k0_hw189 => k0_hw189

def k0_chk190 (v999 : IVec S16 32) : Prop :=
  (∀ a x, ((![v999] : Fin 1 → IVec S16 32) a x).toNat < S100000.size a)
theorem k0_idx190_inb : ∀ (v999 : IVec S16 32) (k0_hw190 : k0_chk190 v999), ∀ a x, ((![v999] : Fin 1 → IVec S16 32) a x).toNat < S100000.size a := fun v999 k0_hw190 => k0_hw190

def k0_chk191 (v1004 : IVec S16 32) : Prop :=
  (∀ a x, ((![v1004] : Fin 1 → IVec S16 32) a x).toNat < S100000.size a)
theorem k0_idx191_inb : ∀ (v1004 : IVec S16 32) (k0_hw191 : k0_chk191 v1004), ∀ a x, ((![v1004] : Fin 1 → IVec S16 32) a x).toNat < S100000.size a := fun v1004 k0_hw191 => k0_hw191

def k0_chk192 (v1009 : IVec S16 32) : Prop :=
  (∀ a x, ((![v1009] : Fin 1 → IVec S16 32) a x).toNat < S100000.size a)
theorem k0_idx192_inb : ∀ (v1009 : IVec S16 32) (k0_hw192 : k0_chk192 v1009), ∀ a x, ((![v1009] : Fin 1 → IVec S16 32) a x).toNat < S100000.size a := fun v1009 k0_hw192 => k0_hw192

def k0_chk193 (v1014 : IVec S16 32) : Prop :=
  (∀ a x, ((![v1014] : Fin 1 → IVec S16 32) a x).toNat < S100000.size a)
theorem k0_idx193_inb : ∀ (v1014 : IVec S16 32) (k0_hw193 : k0_chk193 v1014), ∀ a x, ((![v1014] : Fin 1 → IVec S16 32) a x).toNat < S100000.size a := fun v1014 k0_hw193 => k0_hw193

def k0_chk194 (v1019 : IVec S16 32) : Prop :=
  (∀ a x, ((![v1019] : Fin 1 → IVec S16 32) a x).toNat < S100000.size a)
theorem k0_idx194_inb : ∀ (v1019 : IVec S16 32) (k0_hw194 : k0_chk194 v1019), ∀ a x, ((![v1019] : Fin 1 → IVec S16 32) a x).toNat < S100000.size a := fun v1019 k0_hw194 => k0_hw194

def k0_chk195 (v1024 : IVec S16 32) : Prop :=
  (∀ a x, ((![v1024] : Fin 1 → IVec S16 32) a x).toNat < S100000.size a)
theorem k0_idx195_inb : ∀ (v1024 : IVec S16 32) (k0_hw195 : k0_chk195 v1024), ∀ a x, ((![v1024] : Fin 1 → IVec S16 32) a x).toNat < S100000.size a := fun v1024 k0_hw195 => k0_hw195

def k0_chk196 (v1029 : IVec S16 32) : Prop :=
  (∀ a x, ((![v1029] : Fin 1 → IVec S16 32) a x).toNat < S100000.size a)
theorem k0_idx196_inb : ∀ (v1029 : IVec S16 32) (k0_hw196 : k0_chk196 v1029), ∀ a x, ((![v1029] : Fin 1 → IVec S16 32) a x).toNat < S100000.size a := fun v1029 k0_hw196 => k0_hw196

def k0_chk197 (v1034 : IVec S16 32) : Prop :=
  (∀ a x, ((![v1034] : Fin 1 → IVec S16 32) a x).toNat < S100000.size a)
theorem k0_idx197_inb : ∀ (v1034 : IVec S16 32) (k0_hw197 : k0_chk197 v1034), ∀ a x, ((![v1034] : Fin 1 → IVec S16 32) a x).toNat < S100000.size a := fun v1034 k0_hw197 => k0_hw197

def k0_chk198 (v1039 : IVec S16 32) : Prop :=
  (∀ a x, ((![v1039] : Fin 1 → IVec S16 32) a x).toNat < S100000.size a)
theorem k0_idx198_inb : ∀ (v1039 : IVec S16 32) (k0_hw198 : k0_chk198 v1039), ∀ a x, ((![v1039] : Fin 1 → IVec S16 32) a x).toNat < S100000.size a := fun v1039 k0_hw198 => k0_hw198

def k0_chk199 (v1044 : IVec S16 32) : Prop :=
  (∀ a x, ((![v1044] : Fin 1 → IVec S16 32) a x).toNat < S100000.size a)
theorem k0_idx199_inb : ∀ (v1044 : IVec S16 32) (k0_hw199 : k0_chk199 v1044), ∀ a x, ((![v1044] : Fin 1 → IVec S16 32) a x).toNat < S100000.size a := fun v1044 k0_hw199 => k0_hw199

def k0_chk200 (v1049 : IVec S16 32) : Prop :=
  (∀ a x, ((![v1049] : Fin 1 → IVec S16 32) a x).toNat < S100000.size a)
theorem k0_idx200_inb : ∀ (v1049 : IVec S16 32) (k0_hw200 : k0_chk200 v1049), ∀ a x, ((![v1049] : Fin 1 → IVec S16 32) a x).toNat < S100000.size a := fun v1049 k0_hw200 => k0_hw200

def k0_chk201 (v1054 : IVec S16 32) : Prop :=
  (∀ a x, ((![v1054] : Fin 1 → IVec S16 32) a x).toNat < S100000.size a)
theorem k0_idx201_inb : ∀ (v1054 : IVec S16 32) (k0_hw201 : k0_chk201 v1054), ∀ a x, ((![v1054] : Fin 1 → IVec S16 32) a x).toNat < S100000.size a := fun v1054 k0_hw201 => k0_hw201

def k0_chk202 (v1059 : IVec S16 32) : Prop :=
  (∀ a x, ((![v1059] : Fin 1 → IVec S16 32) a x).toNat < S100000.size a)
theorem k0_idx202_inb : ∀ (v1059 : IVec S16 32) (k0_hw202 : k0_chk202 v1059), ∀ a x, ((![v1059] : Fin 1 → IVec S16 32) a x).toNat < S100000.size a := fun v1059 k0_hw202 => k0_hw202

def k0_chk203 (v1064 : IVec S16 32) : Prop :=
  (∀ a x, ((![v1064] : Fin 1 → IVec S16 32) a x).toNat < S100000.size a)
theorem k0_idx203_inb : ∀ (v1064 : IVec S16 32) (k0_hw203 : k0_chk203 v1064), ∀ a x, ((![v1064] : Fin 1 → IVec S16 32) a x).toNat < S100000.size a := fun v1064 k0_hw203 => k0_hw203

def k0_chk204 (v1069 : IVec S16 32) : Prop :=
  (∀ a x, ((![v1069] : Fin 1 → IVec S16 32) a x).toNat < S100000.size a)
theorem k0_idx204_inb : ∀ (v1069 : IVec S16 32) (k0_hw204 : k0_chk204 v1069), ∀ a x, ((![v1069] : Fin 1 → IVec S16 32) a x).toNat < S100000.size a := fun v1069 k0_hw204 => k0_hw204

def k0_chk205 (v1074 : IVec S16 32) : Prop :=
  (∀ a x, ((![v1074] : Fin 1 → IVec S16 32) a x).toNat < S100000.size a)
theorem k0_idx205_inb : ∀ (v1074 : IVec S16 32) (k0_hw205 : k0_chk205 v1074), ∀ a x, ((![v1074] : Fin 1 → IVec S16 32) a x).toNat < S100000.size a := fun v1074 k0_hw205 => k0_hw205

def k0_chk206 (v1079 : IVec S16 32) : Prop :=
  (∀ a x, ((![v1079] : Fin 1 → IVec S16 32) a x).toNat < S100000.size a)
theorem k0_idx206_inb : ∀ (v1079 : IVec S16 32) (k0_hw206 : k0_chk206 v1079), ∀ a x, ((![v1079] : Fin 1 → IVec S16 32) a x).toNat < S100000.size a := fun v1079 k0_hw206 => k0_hw206

def k0_chk207 (v1084 : IVec S16 32) : Prop :=
  (∀ a x, ((![v1084] : Fin 1 → IVec S16 32) a x).toNat < S100000.size a)
theorem k0_idx207_inb : ∀ (v1084 : IVec S16 32) (k0_hw207 : k0_chk207 v1084), ∀ a x, ((![v1084] : Fin 1 → IVec S16 32) a x).toNat < S100000.size a := fun v1084 k0_hw207 => k0_hw207

def k0_chk208 (v1089 : IVec S16 32) : Prop :=
  (∀ a x, ((![v1089] : Fin 1 → IVec S16 32) a x).toNat < S100000.size a)
theorem k0_idx208_inb : ∀ (v1089 : IVec S16 32) (k0_hw208 : k0_chk208 v1089), ∀ a x, ((![v1089] : Fin 1 → IVec S16 32) a x).toNat < S100000.size a := fun v1089 k0_hw208 => k0_hw208

def k0_chk209 (v1094 : IVec S16 32) : Prop :=
  (∀ a x, ((![v1094] : Fin 1 → IVec S16 32) a x).toNat < S100000.size a)
theorem k0_idx209_inb : ∀ (v1094 : IVec S16 32) (k0_hw209 : k0_chk209 v1094), ∀ a x, ((![v1094] : Fin 1 → IVec S16 32) a x).toNat < S100000.size a := fun v1094 k0_hw209 => k0_hw209

def k0_chk210 (v1099 : IVec S16 32) : Prop :=
  (∀ a x, ((![v1099] : Fin 1 → IVec S16 32) a x).toNat < S100000.size a)
theorem k0_idx210_inb : ∀ (v1099 : IVec S16 32) (k0_hw210 : k0_chk210 v1099), ∀ a x, ((![v1099] : Fin 1 → IVec S16 32) a x).toNat < S100000.size a := fun v1099 k0_hw210 => k0_hw210

def k0_chk211 (v1104 : IVec S16 32) : Prop :=
  (∀ a x, ((![v1104] : Fin 1 → IVec S16 32) a x).toNat < S100000.size a)
theorem k0_idx211_inb : ∀ (v1104 : IVec S16 32) (k0_hw211 : k0_chk211 v1104), ∀ a x, ((![v1104] : Fin 1 → IVec S16 32) a x).toNat < S100000.size a := fun v1104 k0_hw211 => k0_hw211

def k0_chk212 (v1109 : IVec S16 32) : Prop :=
  (∀ a x, ((![v1109] : Fin 1 → IVec S16 32) a x).toNat < S100000.size a)
theorem k0_idx212_inb : ∀ (v1109 : IVec S16 32) (k0_hw212 : k0_chk212 v1109), ∀ a x, ((![v1109] : Fin 1 → IVec S16 32) a x).toNat < S100000.size a := fun v1109 k0_hw212 => k0_hw212

def k0_chk213 (v1114 : IVec S16 32) : Prop :=
  (∀ a x, ((![v1114] : Fin 1 → IVec S16 32) a x).toNat < S100000.size a)
theorem k0_idx213_inb : ∀ (v1114 : IVec S16 32) (k0_hw213 : k0_chk213 v1114), ∀ a x, ((![v1114] : Fin 1 → IVec S16 32) a x).toNat < S100000.size a := fun v1114 k0_hw213 => k0_hw213

def k0_chk214 (v1119 : IVec S16 32) : Prop :=
  (∀ a x, ((![v1119] : Fin 1 → IVec S16 32) a x).toNat < S100000.size a)
theorem k0_idx214_inb : ∀ (v1119 : IVec S16 32) (k0_hw214 : k0_chk214 v1119), ∀ a x, ((![v1119] : Fin 1 → IVec S16 32) a x).toNat < S100000.size a := fun v1119 k0_hw214 => k0_hw214

def k0_chk215 (v1124 : IVec S16 32) : Prop :=
  (∀ a x, ((![v1124] : Fin 1 → IVec S16 32) a x).toNat < S100000.size a)
theorem k0_idx215_inb : ∀ (v1124 : IVec S16 32) (k0_hw215 : k0_chk215 v1124), ∀ a x, ((![v1124] : Fin 1 → IVec S16 32) a x).toNat < S100000.size a := fun v1124 k0_hw215 => k0_hw215

def k0_chk216 (v1129 : IVec S16 32) : Prop :=
  (∀ a x, ((![v1129] : Fin 1 → IVec S16 32) a x).toNat < S100000.size a)
theorem k0_idx216_inb : ∀ (v1129 : IVec S16 32) (k0_hw216 : k0_chk216 v1129), ∀ a x, ((![v1129] : Fin 1 → IVec S16 32) a x).toNat < S100000.size a := fun v1129 k0_hw216 => k0_hw216

def k0_chk217 (v1134 : IVec S16 32) : Prop :=
  (∀ a x, ((![v1134] : Fin 1 → IVec S16 32) a x).toNat < S100000.size a)
theorem k0_idx217_inb : ∀ (v1134 : IVec S16 32) (k0_hw217 : k0_chk217 v1134), ∀ a x, ((![v1134] : Fin 1 → IVec S16 32) a x).toNat < S100000.size a := fun v1134 k0_hw217 => k0_hw217

def k0_chk218 (v1139 : IVec S16 32) : Prop :=
  (∀ a x, ((![v1139] : Fin 1 → IVec S16 32) a x).toNat < S100000.size a)
theorem k0_idx218_inb : ∀ (v1139 : IVec S16 32) (k0_hw218 : k0_chk218 v1139), ∀ a x, ((![v1139] : Fin 1 → IVec S16 32) a x).toNat < S100000.size a := fun v1139 k0_hw218 => k0_hw218

def k0_chk219 (v1144 : IVec S16 32) : Prop :=
  (∀ a x, ((![v1144] : Fin 1 → IVec S16 32) a x).toNat < S100000.size a)
theorem k0_idx219_inb : ∀ (v1144 : IVec S16 32) (k0_hw219 : k0_chk219 v1144), ∀ a x, ((![v1144] : Fin 1 → IVec S16 32) a x).toNat < S100000.size a := fun v1144 k0_hw219 => k0_hw219

def k0_chk220 (v1149 : IVec S16 32) : Prop :=
  (∀ a x, ((![v1149] : Fin 1 → IVec S16 32) a x).toNat < S100000.size a)
theorem k0_idx220_inb : ∀ (v1149 : IVec S16 32) (k0_hw220 : k0_chk220 v1149), ∀ a x, ((![v1149] : Fin 1 → IVec S16 32) a x).toNat < S100000.size a := fun v1149 k0_hw220 => k0_hw220

def k0_chk221 (v1154 : IVec S16 32) : Prop :=
  (∀ a x, ((![v1154] : Fin 1 → IVec S16 32) a x).toNat < S100000.size a)
theorem k0_idx221_inb : ∀ (v1154 : IVec S16 32) (k0_hw221 : k0_chk221 v1154), ∀ a x, ((![v1154] : Fin 1 → IVec S16 32) a x).toNat < S100000.size a := fun v1154 k0_hw221 => k0_hw221

def k0_chk222 (v1159 : IVec S16 32) : Prop :=
  (∀ a x, ((![v1159] : Fin 1 → IVec S16 32) a x).toNat < S100000.size a)
theorem k0_idx222_inb : ∀ (v1159 : IVec S16 32) (k0_hw222 : k0_chk222 v1159), ∀ a x, ((![v1159] : Fin 1 → IVec S16 32) a x).toNat < S100000.size a := fun v1159 k0_hw222 => k0_hw222

def k0_chk223 (v1164 : IVec S16 32) : Prop :=
  (∀ a x, ((![v1164] : Fin 1 → IVec S16 32) a x).toNat < S100000.size a)
theorem k0_idx223_inb : ∀ (v1164 : IVec S16 32) (k0_hw223 : k0_chk223 v1164), ∀ a x, ((![v1164] : Fin 1 → IVec S16 32) a x).toNat < S100000.size a := fun v1164 k0_hw223 => k0_hw223

def k0_chk224 (v1169 : IVec S16 32) : Prop :=
  (∀ a x, ((![v1169] : Fin 1 → IVec S16 32) a x).toNat < S100000.size a)
theorem k0_idx224_inb : ∀ (v1169 : IVec S16 32) (k0_hw224 : k0_chk224 v1169), ∀ a x, ((![v1169] : Fin 1 → IVec S16 32) a x).toNat < S100000.size a := fun v1169 k0_hw224 => k0_hw224

def k0_chk225 (v1174 : IVec S16 32) : Prop :=
  (∀ a x, ((![v1174] : Fin 1 → IVec S16 32) a x).toNat < S100000.size a)
theorem k0_idx225_inb : ∀ (v1174 : IVec S16 32) (k0_hw225 : k0_chk225 v1174), ∀ a x, ((![v1174] : Fin 1 → IVec S16 32) a x).toNat < S100000.size a := fun v1174 k0_hw225 => k0_hw225

def k0_chk226 (v1179 : IVec S16 32) : Prop :=
  (∀ a x, ((![v1179] : Fin 1 → IVec S16 32) a x).toNat < S100000.size a)
theorem k0_idx226_inb : ∀ (v1179 : IVec S16 32) (k0_hw226 : k0_chk226 v1179), ∀ a x, ((![v1179] : Fin 1 → IVec S16 32) a x).toNat < S100000.size a := fun v1179 k0_hw226 => k0_hw226

def k0_chk227 (v1184 : IVec S16 32) : Prop :=
  (∀ a x, ((![v1184] : Fin 1 → IVec S16 32) a x).toNat < S100000.size a)
theorem k0_idx227_inb : ∀ (v1184 : IVec S16 32) (k0_hw227 : k0_chk227 v1184), ∀ a x, ((![v1184] : Fin 1 → IVec S16 32) a x).toNat < S100000.size a := fun v1184 k0_hw227 => k0_hw227

def k0_chk228 (v1189 : IVec S16 32) : Prop :=
  (∀ a x, ((![v1189] : Fin 1 → IVec S16 32) a x).toNat < S100000.size a)
theorem k0_idx228_inb : ∀ (v1189 : IVec S16 32) (k0_hw228 : k0_chk228 v1189), ∀ a x, ((![v1189] : Fin 1 → IVec S16 32) a x).toNat < S100000.size a := fun v1189 k0_hw228 => k0_hw228

def k0_chk229 (v1194 : IVec S16 32) : Prop :=
  (∀ a x, ((![v1194] : Fin 1 → IVec S16 32) a x).toNat < S100000.size a)
theorem k0_idx229_inb : ∀ (v1194 : IVec S16 32) (k0_hw229 : k0_chk229 v1194), ∀ a x, ((![v1194] : Fin 1 → IVec S16 32) a x).toNat < S100000.size a := fun v1194 k0_hw229 => k0_hw229

def k0_chk230 (v1199 : IVec S16 32) : Prop :=
  (∀ a x, ((![v1199] : Fin 1 → IVec S16 32) a x).toNat < S100000.size a)
theorem k0_idx230_inb : ∀ (v1199 : IVec S16 32) (k0_hw230 : k0_chk230 v1199), ∀ a x, ((![v1199] : Fin 1 → IVec S16 32) a x).toNat < S100000.size a := fun v1199 k0_hw230 => k0_hw230

def k0_chk231 (v1204 : IVec S16 32) : Prop :=
  (∀ a x, ((![v1204] : Fin 1 → IVec S16 32) a x).toNat < S100000.size a)
theorem k0_idx231_inb : ∀ (v1204 : IVec S16 32) (k0_hw231 : k0_chk231 v1204), ∀ a x, ((![v1204] : Fin 1 → IVec S16 32) a x).toNat < S100000.size a := fun v1204 k0_hw231 => k0_hw231

def k0_chk232 (v1209 : IVec S16 32) : Prop :=
  (∀ a x, ((![v1209] : Fin 1 → IVec S16 32) a x).toNat < S100000.size a)
theorem k0_idx232_inb : ∀ (v1209 : IVec S16 32) (k0_hw232 : k0_chk232 v1209), ∀ a x, ((![v1209] : Fin 1 → IVec S16 32) a x).toNat < S100000.size a := fun v1209 k0_hw232 => k0_hw232

def k0_chk233 (v1214 : IVec S16 32) : Prop :=
  (∀ a x, ((![v1214] : Fin 1 → IVec S16 32) a x).toNat < S100000.size a)
theorem k0_idx233_inb : ∀ (v1214 : IVec S16 32) (k0_hw233 : k0_chk233 v1214), ∀ a x, ((![v1214] : Fin 1 → IVec S16 32) a x).toNat < S100000.size a := fun v1214 k0_hw233 => k0_hw233

def k0_chk234 (v1219 : IVec S16 32) : Prop :=
  (∀ a x, ((![v1219] : Fin 1 → IVec S16 32) a x).toNat < S100000.size a)
theorem k0_idx234_inb : ∀ (v1219 : IVec S16 32) (k0_hw234 : k0_chk234 v1219), ∀ a x, ((![v1219] : Fin 1 → IVec S16 32) a x).toNat < S100000.size a := fun v1219 k0_hw234 => k0_hw234

def k0_chk235 (v1224 : IVec S16 32) : Prop :=
  (∀ a x, ((![v1224] : Fin 1 → IVec S16 32) a x).toNat < S100000.size a)
theorem k0_idx235_inb : ∀ (v1224 : IVec S16 32) (k0_hw235 : k0_chk235 v1224), ∀ a x, ((![v1224] : Fin 1 → IVec S16 32) a x).toNat < S100000.size a := fun v1224 k0_hw235 => k0_hw235

def k0_chk236 (v1229 : IVec S16 32) : Prop :=
  (∀ a x, ((![v1229] : Fin 1 → IVec S16 32) a x).toNat < S100000.size a)
theorem k0_idx236_inb : ∀ (v1229 : IVec S16 32) (k0_hw236 : k0_chk236 v1229), ∀ a x, ((![v1229] : Fin 1 → IVec S16 32) a x).toNat < S100000.size a := fun v1229 k0_hw236 => k0_hw236

def k0_chk237 (v1234 : IVec S16 32) : Prop :=
  (∀ a x, ((![v1234] : Fin 1 → IVec S16 32) a x).toNat < S100000.size a)
theorem k0_idx237_inb : ∀ (v1234 : IVec S16 32) (k0_hw237 : k0_chk237 v1234), ∀ a x, ((![v1234] : Fin 1 → IVec S16 32) a x).toNat < S100000.size a := fun v1234 k0_hw237 => k0_hw237

def k0_chk238 (v1239 : IVec S16 32) : Prop :=
  (∀ a x, ((![v1239] : Fin 1 → IVec S16 32) a x).toNat < S100000.size a)
theorem k0_idx238_inb : ∀ (v1239 : IVec S16 32) (k0_hw238 : k0_chk238 v1239), ∀ a x, ((![v1239] : Fin 1 → IVec S16 32) a x).toNat < S100000.size a := fun v1239 k0_hw238 => k0_hw238

def k0_chk239 (v1244 : IVec S16 32) : Prop :=
  (∀ a x, ((![v1244] : Fin 1 → IVec S16 32) a x).toNat < S100000.size a)
theorem k0_idx239_inb : ∀ (v1244 : IVec S16 32) (k0_hw239 : k0_chk239 v1244), ∀ a x, ((![v1244] : Fin 1 → IVec S16 32) a x).toNat < S100000.size a := fun v1244 k0_hw239 => k0_hw239

def k0_chk240 (v1249 : IVec S16 32) : Prop :=
  (∀ a x, ((![v1249] : Fin 1 → IVec S16 32) a x).toNat < S100000.size a)
theorem k0_idx240_inb : ∀ (v1249 : IVec S16 32) (k0_hw240 : k0_chk240 v1249), ∀ a x, ((![v1249] : Fin 1 → IVec S16 32) a x).toNat < S100000.size a := fun v1249 k0_hw240 => k0_hw240

def k0_chk241 (v1254 : IVec S16 32) : Prop :=
  (∀ a x, ((![v1254] : Fin 1 → IVec S16 32) a x).toNat < S100000.size a)
theorem k0_idx241_inb : ∀ (v1254 : IVec S16 32) (k0_hw241 : k0_chk241 v1254), ∀ a x, ((![v1254] : Fin 1 → IVec S16 32) a x).toNat < S100000.size a := fun v1254 k0_hw241 => k0_hw241

def k0_chk242 (v1259 : IVec S16 32) : Prop :=
  (∀ a x, ((![v1259] : Fin 1 → IVec S16 32) a x).toNat < S100000.size a)
theorem k0_idx242_inb : ∀ (v1259 : IVec S16 32) (k0_hw242 : k0_chk242 v1259), ∀ a x, ((![v1259] : Fin 1 → IVec S16 32) a x).toNat < S100000.size a := fun v1259 k0_hw242 => k0_hw242

def k0_chk243 (v1264 : IVec S16 32) : Prop :=
  (∀ a x, ((![v1264] : Fin 1 → IVec S16 32) a x).toNat < S100000.size a)
theorem k0_idx243_inb : ∀ (v1264 : IVec S16 32) (k0_hw243 : k0_chk243 v1264), ∀ a x, ((![v1264] : Fin 1 → IVec S16 32) a x).toNat < S100000.size a := fun v1264 k0_hw243 => k0_hw243

def k0_chk244 (v1269 : IVec S16 32) : Prop :=
  (∀ a x, ((![v1269] : Fin 1 → IVec S16 32) a x).toNat < S100000.size a)
theorem k0_idx244_inb : ∀ (v1269 : IVec S16 32) (k0_hw244 : k0_chk244 v1269), ∀ a x, ((![v1269] : Fin 1 → IVec S16 32) a x).toNat < S100000.size a := fun v1269 k0_hw244 => k0_hw244

def k0_chk245 (v1274 : IVec S16 32) : Prop :=
  (∀ a x, ((![v1274] : Fin 1 → IVec S16 32) a x).toNat < S100000.size a)
theorem k0_idx245_inb : ∀ (v1274 : IVec S16 32) (k0_hw245 : k0_chk245 v1274), ∀ a x, ((![v1274] : Fin 1 → IVec S16 32) a x).toNat < S100000.size a := fun v1274 k0_hw245 => k0_hw245

def k0_chk246 (v1279 : IVec S16 32) : Prop :=
  (∀ a x, ((![v1279] : Fin 1 → IVec S16 32) a x).toNat < S100000.size a)
theorem k0_idx246_inb : ∀ (v1279 : IVec S16 32) (k0_hw246 : k0_chk246 v1279), ∀ a x, ((![v1279] : Fin 1 → IVec S16 32) a x).toNat < S100000.size a := fun v1279 k0_hw246 => k0_hw246

def k0_chk247 (v1284 : IVec S16 32) : Prop :=
  (∀ a x, ((![v1284] : Fin 1 → IVec S16 32) a x).toNat < S100000.size a)
theorem k0_idx247_inb : ∀ (v1284 : IVec S16 32) (k0_hw247 : k0_chk247 v1284), ∀ a x, ((![v1284] : Fin 1 → IVec S16 32) a x).toNat < S100000.size a := fun v1284 k0_hw247 => k0_hw247

def k0_chk248 (v1289 : IVec S16 32) : Prop :=
  (∀ a x, ((![v1289] : Fin 1 → IVec S16 32) a x).toNat < S100000.size a)
theorem k0_idx248_inb : ∀ (v1289 : IVec S16 32) (k0_hw248 : k0_chk248 v1289), ∀ a x, ((![v1289] : Fin 1 → IVec S16 32) a x).toNat < S100000.size a := fun v1289 k0_hw248 => k0_hw248

def k0_chk249 (v1294 : IVec S16 32) : Prop :=
  (∀ a x, ((![v1294] : Fin 1 → IVec S16 32) a x).toNat < S100000.size a)
theorem k0_idx249_inb : ∀ (v1294 : IVec S16 32) (k0_hw249 : k0_chk249 v1294), ∀ a x, ((![v1294] : Fin 1 → IVec S16 32) a x).toNat < S100000.size a := fun v1294 k0_hw249 => k0_hw249

def k0_chk250 (v1299 : IVec S16 32) : Prop :=
  (∀ a x, ((![v1299] : Fin 1 → IVec S16 32) a x).toNat < S100000.size a)
theorem k0_idx250_inb : ∀ (v1299 : IVec S16 32) (k0_hw250 : k0_chk250 v1299), ∀ a x, ((![v1299] : Fin 1 → IVec S16 32) a x).toNat < S100000.size a := fun v1299 k0_hw250 => k0_hw250

def k0_chk251 (v1304 : IVec S16 32) : Prop :=
  (∀ a x, ((![v1304] : Fin 1 → IVec S16 32) a x).toNat < S100000.size a)
theorem k0_idx251_inb : ∀ (v1304 : IVec S16 32) (k0_hw251 : k0_chk251 v1304), ∀ a x, ((![v1304] : Fin 1 → IVec S16 32) a x).toNat < S100000.size a := fun v1304 k0_hw251 => k0_hw251

def k0_chk252 (v1309 : IVec S16 32) : Prop :=
  (∀ a x, ((![v1309] : Fin 1 → IVec S16 32) a x).toNat < S100000.size a)
theorem k0_idx252_inb : ∀ (v1309 : IVec S16 32) (k0_hw252 : k0_chk252 v1309), ∀ a x, ((![v1309] : Fin 1 → IVec S16 32) a x).toNat < S100000.size a := fun v1309 k0_hw252 => k0_hw252

def k0_chk253 (v1314 : IVec S16 32) : Prop :=
  (∀ a x, ((![v1314] : Fin 1 → IVec S16 32) a x).toNat < S100000.size a)
theorem k0_idx253_inb : ∀ (v1314 : IVec S16 32) (k0_hw253 : k0_chk253 v1314), ∀ a x, ((![v1314] : Fin 1 → IVec S16 32) a x).toNat < S100000.size a := fun v1314 k0_hw253 => k0_hw253

def k0_chk254 (v1319 : IVec S16 32) : Prop :=
  (∀ a x, ((![v1319] : Fin 1 → IVec S16 32) a x).toNat < S100000.size a)
theorem k0_idx254_inb : ∀ (v1319 : IVec S16 32) (k0_hw254 : k0_chk254 v1319), ∀ a x, ((![v1319] : Fin 1 → IVec S16 32) a x).toNat < S100000.size a := fun v1319 k0_hw254 => k0_hw254

def k0_chk255 (v1324 : IVec S16 32) : Prop :=
  (∀ a x, ((![v1324] : Fin 1 → IVec S16 32) a x).toNat < S100000.size a)
theorem k0_idx255_inb : ∀ (v1324 : IVec S16 32) (k0_hw255 : k0_chk255 v1324), ∀ a x, ((![v1324] : Fin 1 → IVec S16 32) a x).toNat < S100000.size a := fun v1324 k0_hw255 => k0_hw255

def k0_chk256 (v1329 : IVec S16 32) : Prop :=
  (∀ a x, ((![v1329] : Fin 1 → IVec S16 32) a x).toNat < S100000.size a)
theorem k0_idx256_inb : ∀ (v1329 : IVec S16 32) (k0_hw256 : k0_chk256 v1329), ∀ a x, ((![v1329] : Fin 1 → IVec S16 32) a x).toNat < S100000.size a := fun v1329 k0_hw256 => k0_hw256
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_794 : BitVec 32 := 0#32
  ![v18.toNat, v28.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_797 : BitVec 32 := 16#32
  let v1341 : BitVec 1 := Scalar.cmpi .slt v1 c16_i32_797
  let v1342 : BitVec 32 := Scalar.extui v1341
  let c0_i32_798 : BitVec 32 := 0#32
  let v1343 : BitVec 1 := Scalar.cmpi .ne v1342 c0_i32_798
  v1343

def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v1352 : BitVec 32 := Scalar.addi v1 c32_i32
  let c0_i32_805 : BitVec 32 := 0#32
  let v1354 : BitVec 1 := Scalar.cmpi .sgt v1352 c0_i32_805
  let v1355 : BitVec 32 := Scalar.extui v1354
  let c0_i32_806 : BitVec 32 := 0#32
  let v1356 : BitVec 1 := Scalar.cmpi .slt v1352 c0_i32_806
  let v1357 : BitVec 32 := Scalar.extui v1356
  let v1358 : BitVec 32 := Scalar.subi v1355 v1357
  let c16_i32_804 : BitVec 32 := 16#32
  let c0_i32_807 : BitVec 32 := 0#32
  let v1359 : BitVec 1 := Scalar.cmpi .sgt c16_i32_804 c0_i32_807
  let v1360 : BitVec 32 := Scalar.extui v1359
  let c0_i32_808 : BitVec 32 := 0#32
  let v1361 : BitVec 1 := Scalar.cmpi .slt c16_i32_804 c0_i32_808
  let v1362 : BitVec 32 := Scalar.extui v1361
  let v1363 : BitVec 32 := Scalar.subi v1360 v1362
  let v1364 : BitVec 1 := Scalar.cmpi .ne v1358 v1363
  let v1365 : BitVec 32 := Scalar.remsi v1352 c16_i32_804
  let c0_i32_809 : BitVec 32 := 0#32
  let v1366 : BitVec 1 := Scalar.cmpi .ne v1365 c0_i32_809
  let v1367 : BitVec 1 := Scalar.andi v1364 v1366
  let v1353 : BitVec 32 := Scalar.divsi v1352 c16_i32_804
  let c1_i32_810 : BitVec 32 := 1#32
  let v1368 : BitVec 32 := Scalar.subi v1353 c1_i32_810
  let v1369 : BitVec 32 := Scalar.select v1367 v1368 v1353
  let c16_i32_811 : BitVec 32 := 16#32
  let c0_i32_812 : BitVec 32 := 0#32
  let v1370 : BitVec 1 := Scalar.cmpi .eq c16_i32_811 c0_i32_812
  let c1_i32_813 : BitVec 32 := 1#32
  let v1371 : BitVec 32 := Scalar.select v1370 c1_i32_813 c16_i32_811
  let v1372 : BitVec 32 := Scalar.remsi v1352 v1371
  let c0_i32_815 : BitVec 32 := 0#32
  let v1374 : BitVec 1 := Scalar.cmpi .slt v1372 c0_i32_815
  let c0_i32_816 : BitVec 32 := 0#32
  let v1375 : BitVec 1 := Scalar.cmpi .slt v1371 c0_i32_816
  let v1376 : BitVec 1 := Scalar.xori v1374 v1375
  let c0_i32_814 : BitVec 32 := 0#32
  let v1373 : BitVec 1 := Scalar.cmpi .ne v1372 c0_i32_814
  let v1377 : BitVec 1 := Scalar.andi v1376 v1373
  let v1378 : BitVec 32 := Scalar.addi v1372 v1371
  let v1379 : BitVec 32 := Scalar.select v1377 v1378 v1372
  let c0_i32_817 : BitVec 32 := 0#32
  ![v1369.toNat, v1379.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v1352 : BitVec 32 := Scalar.addi v1 c32_i32
  let c16_i32_811 : BitVec 32 := 16#32
  let c0_i32_812 : BitVec 32 := 0#32
  let v1370 : BitVec 1 := Scalar.cmpi .eq c16_i32_811 c0_i32_812
  let c1_i32_813 : BitVec 32 := 1#32
  let v1371 : BitVec 32 := Scalar.select v1370 c1_i32_813 c16_i32_811
  let v1372 : BitVec 32 := Scalar.remsi v1352 v1371
  let c0_i32_815 : BitVec 32 := 0#32
  let v1374 : BitVec 1 := Scalar.cmpi .slt v1372 c0_i32_815
  let c0_i32_816 : BitVec 32 := 0#32
  let v1375 : BitVec 1 := Scalar.cmpi .slt v1371 c0_i32_816
  let v1376 : BitVec 1 := Scalar.xori v1374 v1375
  let c0_i32_814 : BitVec 32 := 0#32
  let v1373 : BitVec 1 := Scalar.cmpi .ne v1372 c0_i32_814
  let v1377 : BitVec 1 := Scalar.andi v1376 v1373
  let v1378 : BitVec 32 := Scalar.addi v1372 v1371
  let v1379 : BitVec 32 := Scalar.select v1377 v1378 v1372
  let c0_i32_821 : BitVec 32 := 0#32
  ![v1379.toNat, 0]

def k0_chk257 (i : grid0.Coords) (v1405 : IVec S16 32) : Prop :=
  (∀ (k0_h1 : k0_cond1 i = 1#1), ∀ a x, ((![v1405] : Fin 1 → IVec S16 32) a x).toNat < S100000.size a)
theorem k0_idx257_inb : ∀ (i : grid0.Coords) (v1405 : IVec S16 32) (k0_hw257 : k0_chk257 i v1405), ∀ (k0_h1 : k0_cond1 i = 1#1), ∀ a x, ((![v1405] : Fin 1 → IVec S16 32) a x).toNat < S100000.size a := fun i v1405 k0_hw257 k0_h1 => k0_hw257 k0_h1

def k0_chk258 (i : grid0.Coords) (v1410 : IVec S16 32) : Prop :=
  (∀ (k0_h1 : k0_cond1 i = 1#1), ∀ a x, ((![v1410] : Fin 1 → IVec S16 32) a x).toNat < S100000.size a)
theorem k0_idx258_inb : ∀ (i : grid0.Coords) (v1410 : IVec S16 32) (k0_hw258 : k0_chk258 i v1410), ∀ (k0_h1 : k0_cond1 i = 1#1), ∀ a x, ((![v1410] : Fin 1 → IVec S16 32) a x).toNat < S100000.size a := fun i v1410 k0_hw258 k0_h1 => k0_hw258 k0_h1

def k0_chk259 (i : grid0.Coords) (v1415 : IVec S16 32) : Prop :=
  (∀ (k0_h1 : k0_cond1 i = 1#1), ∀ a x, ((![v1415] : Fin 1 → IVec S16 32) a x).toNat < S100000.size a)
theorem k0_idx259_inb : ∀ (i : grid0.Coords) (v1415 : IVec S16 32) (k0_hw259 : k0_chk259 i v1415), ∀ (k0_h1 : k0_cond1 i = 1#1), ∀ a x, ((![v1415] : Fin 1 → IVec S16 32) a x).toNat < S100000.size a := fun i v1415 k0_hw259 k0_h1 => k0_hw259 k0_h1

def k0_chk260 (i : grid0.Coords) (v1420 : IVec S16 32) : Prop :=
  (∀ (k0_h1 : k0_cond1 i = 1#1), ∀ a x, ((![v1420] : Fin 1 → IVec S16 32) a x).toNat < S100000.size a)
theorem k0_idx260_inb : ∀ (i : grid0.Coords) (v1420 : IVec S16 32) (k0_hw260 : k0_chk260 i v1420), ∀ (k0_h1 : k0_cond1 i = 1#1), ∀ a x, ((![v1420] : Fin 1 → IVec S16 32) a x).toNat < S100000.size a := fun i v1420 k0_hw260 k0_h1 => k0_hw260 k0_h1

def k0_chk261 (i : grid0.Coords) (v1425 : IVec S16 32) : Prop :=
  (∀ (k0_h1 : k0_cond1 i = 1#1), ∀ a x, ((![v1425] : Fin 1 → IVec S16 32) a x).toNat < S100000.size a)
theorem k0_idx261_inb : ∀ (i : grid0.Coords) (v1425 : IVec S16 32) (k0_hw261 : k0_chk261 i v1425), ∀ (k0_h1 : k0_cond1 i = 1#1), ∀ a x, ((![v1425] : Fin 1 → IVec S16 32) a x).toNat < S100000.size a := fun i v1425 k0_hw261 k0_h1 => k0_hw261 k0_h1

def k0_chk262 (i : grid0.Coords) (v1430 : IVec S16 32) : Prop :=
  (∀ (k0_h1 : k0_cond1 i = 1#1), ∀ a x, ((![v1430] : Fin 1 → IVec S16 32) a x).toNat < S100000.size a)
theorem k0_idx262_inb : ∀ (i : grid0.Coords) (v1430 : IVec S16 32) (k0_hw262 : k0_chk262 i v1430), ∀ (k0_h1 : k0_cond1 i = 1#1), ∀ a x, ((![v1430] : Fin 1 → IVec S16 32) a x).toNat < S100000.size a := fun i v1430 k0_hw262 k0_h1 => k0_hw262 k0_h1

def k0_chk263 (i : grid0.Coords) (v1435 : IVec S16 32) : Prop :=
  (∀ (k0_h1 : k0_cond1 i = 1#1), ∀ a x, ((![v1435] : Fin 1 → IVec S16 32) a x).toNat < S100000.size a)
theorem k0_idx263_inb : ∀ (i : grid0.Coords) (v1435 : IVec S16 32) (k0_hw263 : k0_chk263 i v1435), ∀ (k0_h1 : k0_cond1 i = 1#1), ∀ a x, ((![v1435] : Fin 1 → IVec S16 32) a x).toNat < S100000.size a := fun i v1435 k0_hw263 k0_h1 => k0_hw263 k0_h1

def k0_chk264 (i : grid0.Coords) (v1440 : IVec S16 32) : Prop :=
  (∀ (k0_h1 : k0_cond1 i = 1#1), ∀ a x, ((![v1440] : Fin 1 → IVec S16 32) a x).toNat < S100000.size a)
theorem k0_idx264_inb : ∀ (i : grid0.Coords) (v1440 : IVec S16 32) (k0_hw264 : k0_chk264 i v1440), ∀ (k0_h1 : k0_cond1 i = 1#1), ∀ a x, ((![v1440] : Fin 1 → IVec S16 32) a x).toNat < S100000.size a := fun i v1440 k0_hw264 k0_h1 => k0_hw264 k0_h1

def k0_chk265 (i : grid0.Coords) (v1445 : IVec S16 32) : Prop :=
  (∀ (k0_h1 : k0_cond1 i = 1#1), ∀ a x, ((![v1445] : Fin 1 → IVec S16 32) a x).toNat < S100000.size a)
theorem k0_idx265_inb : ∀ (i : grid0.Coords) (v1445 : IVec S16 32) (k0_hw265 : k0_chk265 i v1445), ∀ (k0_h1 : k0_cond1 i = 1#1), ∀ a x, ((![v1445] : Fin 1 → IVec S16 32) a x).toNat < S100000.size a := fun i v1445 k0_hw265 k0_h1 => k0_hw265 k0_h1

def k0_chk266 (i : grid0.Coords) (v1450 : IVec S16 32) : Prop :=
  (∀ (k0_h1 : k0_cond1 i = 1#1), ∀ a x, ((![v1450] : Fin 1 → IVec S16 32) a x).toNat < S100000.size a)
theorem k0_idx266_inb : ∀ (i : grid0.Coords) (v1450 : IVec S16 32) (k0_hw266 : k0_chk266 i v1450), ∀ (k0_h1 : k0_cond1 i = 1#1), ∀ a x, ((![v1450] : Fin 1 → IVec S16 32) a x).toNat < S100000.size a := fun i v1450 k0_hw266 k0_h1 => k0_hw266 k0_h1

def k0_chk267 (i : grid0.Coords) (v1455 : IVec S16 32) : Prop :=
  (∀ (k0_h1 : k0_cond1 i = 1#1), ∀ a x, ((![v1455] : Fin 1 → IVec S16 32) a x).toNat < S100000.size a)
theorem k0_idx267_inb : ∀ (i : grid0.Coords) (v1455 : IVec S16 32) (k0_hw267 : k0_chk267 i v1455), ∀ (k0_h1 : k0_cond1 i = 1#1), ∀ a x, ((![v1455] : Fin 1 → IVec S16 32) a x).toNat < S100000.size a := fun i v1455 k0_hw267 k0_h1 => k0_hw267 k0_h1

def k0_chk268 (i : grid0.Coords) (v1460 : IVec S16 32) : Prop :=
  (∀ (k0_h1 : k0_cond1 i = 1#1), ∀ a x, ((![v1460] : Fin 1 → IVec S16 32) a x).toNat < S100000.size a)
theorem k0_idx268_inb : ∀ (i : grid0.Coords) (v1460 : IVec S16 32) (k0_hw268 : k0_chk268 i v1460), ∀ (k0_h1 : k0_cond1 i = 1#1), ∀ a x, ((![v1460] : Fin 1 → IVec S16 32) a x).toNat < S100000.size a := fun i v1460 k0_hw268 k0_h1 => k0_hw268 k0_h1

def k0_chk269 (i : grid0.Coords) (v1465 : IVec S16 32) : Prop :=
  (∀ (k0_h1 : k0_cond1 i = 1#1), ∀ a x, ((![v1465] : Fin 1 → IVec S16 32) a x).toNat < S100000.size a)
theorem k0_idx269_inb : ∀ (i : grid0.Coords) (v1465 : IVec S16 32) (k0_hw269 : k0_chk269 i v1465), ∀ (k0_h1 : k0_cond1 i = 1#1), ∀ a x, ((![v1465] : Fin 1 → IVec S16 32) a x).toNat < S100000.size a := fun i v1465 k0_hw269 k0_h1 => k0_hw269 k0_h1

def k0_chk270 (i : grid0.Coords) (v1470 : IVec S16 32) : Prop :=
  (∀ (k0_h1 : k0_cond1 i = 1#1), ∀ a x, ((![v1470] : Fin 1 → IVec S16 32) a x).toNat < S100000.size a)
theorem k0_idx270_inb : ∀ (i : grid0.Coords) (v1470 : IVec S16 32) (k0_hw270 : k0_chk270 i v1470), ∀ (k0_h1 : k0_cond1 i = 1#1), ∀ a x, ((![v1470] : Fin 1 → IVec S16 32) a x).toNat < S100000.size a := fun i v1470 k0_hw270 k0_h1 => k0_hw270 k0_h1

def k0_chk271 (i : grid0.Coords) (v1475 : IVec S16 32) : Prop :=
  (∀ (k0_h1 : k0_cond1 i = 1#1), ∀ a x, ((![v1475] : Fin 1 → IVec S16 32) a x).toNat < S100000.size a)
theorem k0_idx271_inb : ∀ (i : grid0.Coords) (v1475 : IVec S16 32) (k0_hw271 : k0_chk271 i v1475), ∀ (k0_h1 : k0_cond1 i = 1#1), ∀ a x, ((![v1475] : Fin 1 → IVec S16 32) a x).toNat < S100000.size a := fun i v1475 k0_hw271 k0_h1 => k0_hw271 k0_h1

def k0_chk272 (i : grid0.Coords) (v1480 : IVec S16 32) : Prop :=
  (∀ (k0_h1 : k0_cond1 i = 1#1), ∀ a x, ((![v1480] : Fin 1 → IVec S16 32) a x).toNat < S100000.size a)
theorem k0_idx272_inb : ∀ (i : grid0.Coords) (v1480 : IVec S16 32) (k0_hw272 : k0_chk272 i v1480), ∀ (k0_h1 : k0_cond1 i = 1#1), ∀ a x, ((![v1480] : Fin 1 → IVec S16 32) a x).toNat < S100000.size a := fun i v1480 k0_hw272 k0_h1 => k0_hw272 k0_h1

def k0_chk273 (i : grid0.Coords) (v1485 : IVec S16 32) : Prop :=
  (∀ (k0_h1 : k0_cond1 i = 1#1), ∀ a x, ((![v1485] : Fin 1 → IVec S16 32) a x).toNat < S100000.size a)
theorem k0_idx273_inb : ∀ (i : grid0.Coords) (v1485 : IVec S16 32) (k0_hw273 : k0_chk273 i v1485), ∀ (k0_h1 : k0_cond1 i = 1#1), ∀ a x, ((![v1485] : Fin 1 → IVec S16 32) a x).toNat < S100000.size a := fun i v1485 k0_hw273 k0_h1 => k0_hw273 k0_h1

def k0_chk274 (i : grid0.Coords) (v1490 : IVec S16 32) : Prop :=
  (∀ (k0_h1 : k0_cond1 i = 1#1), ∀ a x, ((![v1490] : Fin 1 → IVec S16 32) a x).toNat < S100000.size a)
theorem k0_idx274_inb : ∀ (i : grid0.Coords) (v1490 : IVec S16 32) (k0_hw274 : k0_chk274 i v1490), ∀ (k0_h1 : k0_cond1 i = 1#1), ∀ a x, ((![v1490] : Fin 1 → IVec S16 32) a x).toNat < S100000.size a := fun i v1490 k0_hw274 k0_h1 => k0_hw274 k0_h1

def k0_chk275 (i : grid0.Coords) (v1495 : IVec S16 32) : Prop :=
  (∀ (k0_h1 : k0_cond1 i = 1#1), ∀ a x, ((![v1495] : Fin 1 → IVec S16 32) a x).toNat < S100000.size a)
theorem k0_idx275_inb : ∀ (i : grid0.Coords) (v1495 : IVec S16 32) (k0_hw275 : k0_chk275 i v1495), ∀ (k0_h1 : k0_cond1 i = 1#1), ∀ a x, ((![v1495] : Fin 1 → IVec S16 32) a x).toNat < S100000.size a := fun i v1495 k0_hw275 k0_h1 => k0_hw275 k0_h1

def k0_chk276 (i : grid0.Coords) (v1500 : IVec S16 32) : Prop :=
  (∀ (k0_h1 : k0_cond1 i = 1#1), ∀ a x, ((![v1500] : Fin 1 → IVec S16 32) a x).toNat < S100000.size a)
theorem k0_idx276_inb : ∀ (i : grid0.Coords) (v1500 : IVec S16 32) (k0_hw276 : k0_chk276 i v1500), ∀ (k0_h1 : k0_cond1 i = 1#1), ∀ a x, ((![v1500] : Fin 1 → IVec S16 32) a x).toNat < S100000.size a := fun i v1500 k0_hw276 k0_h1 => k0_hw276 k0_h1

def k0_chk277 (i : grid0.Coords) (v1505 : IVec S16 32) : Prop :=
  (∀ (k0_h1 : k0_cond1 i = 1#1), ∀ a x, ((![v1505] : Fin 1 → IVec S16 32) a x).toNat < S100000.size a)
theorem k0_idx277_inb : ∀ (i : grid0.Coords) (v1505 : IVec S16 32) (k0_hw277 : k0_chk277 i v1505), ∀ (k0_h1 : k0_cond1 i = 1#1), ∀ a x, ((![v1505] : Fin 1 → IVec S16 32) a x).toNat < S100000.size a := fun i v1505 k0_hw277 k0_h1 => k0_hw277 k0_h1

def k0_chk278 (i : grid0.Coords) (v1510 : IVec S16 32) : Prop :=
  (∀ (k0_h1 : k0_cond1 i = 1#1), ∀ a x, ((![v1510] : Fin 1 → IVec S16 32) a x).toNat < S100000.size a)
theorem k0_idx278_inb : ∀ (i : grid0.Coords) (v1510 : IVec S16 32) (k0_hw278 : k0_chk278 i v1510), ∀ (k0_h1 : k0_cond1 i = 1#1), ∀ a x, ((![v1510] : Fin 1 → IVec S16 32) a x).toNat < S100000.size a := fun i v1510 k0_hw278 k0_h1 => k0_hw278 k0_h1

def k0_chk279 (i : grid0.Coords) (v1515 : IVec S16 32) : Prop :=
  (∀ (k0_h1 : k0_cond1 i = 1#1), ∀ a x, ((![v1515] : Fin 1 → IVec S16 32) a x).toNat < S100000.size a)
theorem k0_idx279_inb : ∀ (i : grid0.Coords) (v1515 : IVec S16 32) (k0_hw279 : k0_chk279 i v1515), ∀ (k0_h1 : k0_cond1 i = 1#1), ∀ a x, ((![v1515] : Fin 1 → IVec S16 32) a x).toNat < S100000.size a := fun i v1515 k0_hw279 k0_h1 => k0_hw279 k0_h1

def k0_chk280 (i : grid0.Coords) (v1520 : IVec S16 32) : Prop :=
  (∀ (k0_h1 : k0_cond1 i = 1#1), ∀ a x, ((![v1520] : Fin 1 → IVec S16 32) a x).toNat < S100000.size a)
theorem k0_idx280_inb : ∀ (i : grid0.Coords) (v1520 : IVec S16 32) (k0_hw280 : k0_chk280 i v1520), ∀ (k0_h1 : k0_cond1 i = 1#1), ∀ a x, ((![v1520] : Fin 1 → IVec S16 32) a x).toNat < S100000.size a := fun i v1520 k0_hw280 k0_h1 => k0_hw280 k0_h1

def k0_chk281 (i : grid0.Coords) (v1525 : IVec S16 32) : Prop :=
  (∀ (k0_h1 : k0_cond1 i = 1#1), ∀ a x, ((![v1525] : Fin 1 → IVec S16 32) a x).toNat < S100000.size a)
theorem k0_idx281_inb : ∀ (i : grid0.Coords) (v1525 : IVec S16 32) (k0_hw281 : k0_chk281 i v1525), ∀ (k0_h1 : k0_cond1 i = 1#1), ∀ a x, ((![v1525] : Fin 1 → IVec S16 32) a x).toNat < S100000.size a := fun i v1525 k0_hw281 k0_h1 => k0_hw281 k0_h1

def k0_chk282 (i : grid0.Coords) (v1530 : IVec S16 32) : Prop :=
  (∀ (k0_h1 : k0_cond1 i = 1#1), ∀ a x, ((![v1530] : Fin 1 → IVec S16 32) a x).toNat < S100000.size a)
theorem k0_idx282_inb : ∀ (i : grid0.Coords) (v1530 : IVec S16 32) (k0_hw282 : k0_chk282 i v1530), ∀ (k0_h1 : k0_cond1 i = 1#1), ∀ a x, ((![v1530] : Fin 1 → IVec S16 32) a x).toNat < S100000.size a := fun i v1530 k0_hw282 k0_h1 => k0_hw282 k0_h1

def k0_chk283 (i : grid0.Coords) (v1535 : IVec S16 32) : Prop :=
  (∀ (k0_h1 : k0_cond1 i = 1#1), ∀ a x, ((![v1535] : Fin 1 → IVec S16 32) a x).toNat < S100000.size a)
theorem k0_idx283_inb : ∀ (i : grid0.Coords) (v1535 : IVec S16 32) (k0_hw283 : k0_chk283 i v1535), ∀ (k0_h1 : k0_cond1 i = 1#1), ∀ a x, ((![v1535] : Fin 1 → IVec S16 32) a x).toNat < S100000.size a := fun i v1535 k0_hw283 k0_h1 => k0_hw283 k0_h1

def k0_chk284 (i : grid0.Coords) (v1540 : IVec S16 32) : Prop :=
  (∀ (k0_h1 : k0_cond1 i = 1#1), ∀ a x, ((![v1540] : Fin 1 → IVec S16 32) a x).toNat < S100000.size a)
theorem k0_idx284_inb : ∀ (i : grid0.Coords) (v1540 : IVec S16 32) (k0_hw284 : k0_chk284 i v1540), ∀ (k0_h1 : k0_cond1 i = 1#1), ∀ a x, ((![v1540] : Fin 1 → IVec S16 32) a x).toNat < S100000.size a := fun i v1540 k0_hw284 k0_h1 => k0_hw284 k0_h1

def k0_chk285 (i : grid0.Coords) (v1545 : IVec S16 32) : Prop :=
  (∀ (k0_h1 : k0_cond1 i = 1#1), ∀ a x, ((![v1545] : Fin 1 → IVec S16 32) a x).toNat < S100000.size a)
theorem k0_idx285_inb : ∀ (i : grid0.Coords) (v1545 : IVec S16 32) (k0_hw285 : k0_chk285 i v1545), ∀ (k0_h1 : k0_cond1 i = 1#1), ∀ a x, ((![v1545] : Fin 1 → IVec S16 32) a x).toNat < S100000.size a := fun i v1545 k0_hw285 k0_h1 => k0_hw285 k0_h1

def k0_chk286 (i : grid0.Coords) (v1550 : IVec S16 32) : Prop :=
  (∀ (k0_h1 : k0_cond1 i = 1#1), ∀ a x, ((![v1550] : Fin 1 → IVec S16 32) a x).toNat < S100000.size a)
theorem k0_idx286_inb : ∀ (i : grid0.Coords) (v1550 : IVec S16 32) (k0_hw286 : k0_chk286 i v1550), ∀ (k0_h1 : k0_cond1 i = 1#1), ∀ a x, ((![v1550] : Fin 1 → IVec S16 32) a x).toNat < S100000.size a := fun i v1550 k0_hw286 k0_h1 => k0_hw286 k0_h1

def k0_chk287 (i : grid0.Coords) (v1555 : IVec S16 32) : Prop :=
  (∀ (k0_h1 : k0_cond1 i = 1#1), ∀ a x, ((![v1555] : Fin 1 → IVec S16 32) a x).toNat < S100000.size a)
theorem k0_idx287_inb : ∀ (i : grid0.Coords) (v1555 : IVec S16 32) (k0_hw287 : k0_chk287 i v1555), ∀ (k0_h1 : k0_cond1 i = 1#1), ∀ a x, ((![v1555] : Fin 1 → IVec S16 32) a x).toNat < S100000.size a := fun i v1555 k0_hw287 k0_h1 => k0_hw287 k0_h1

def k0_chk288 (i : grid0.Coords) (v1560 : IVec S16 32) : Prop :=
  (∀ (k0_h1 : k0_cond1 i = 1#1), ∀ a x, ((![v1560] : Fin 1 → IVec S16 32) a x).toNat < S100000.size a)
theorem k0_idx288_inb : ∀ (i : grid0.Coords) (v1560 : IVec S16 32) (k0_hw288 : k0_chk288 i v1560), ∀ (k0_h1 : k0_cond1 i = 1#1), ∀ a x, ((![v1560] : Fin 1 → IVec S16 32) a x).toNat < S100000.size a := fun i v1560 k0_hw288 k0_h1 => k0_hw288 k0_h1

def k0_chk289 (i : grid0.Coords) (v1565 : IVec S16 32) : Prop :=
  (∀ (k0_h1 : k0_cond1 i = 1#1), ∀ a x, ((![v1565] : Fin 1 → IVec S16 32) a x).toNat < S100000.size a)
theorem k0_idx289_inb : ∀ (i : grid0.Coords) (v1565 : IVec S16 32) (k0_hw289 : k0_chk289 i v1565), ∀ (k0_h1 : k0_cond1 i = 1#1), ∀ a x, ((![v1565] : Fin 1 → IVec S16 32) a x).toNat < S100000.size a := fun i v1565 k0_hw289 k0_h1 => k0_hw289 k0_h1

def k0_chk290 (i : grid0.Coords) (v1570 : IVec S16 32) : Prop :=
  (∀ (k0_h1 : k0_cond1 i = 1#1), ∀ a x, ((![v1570] : Fin 1 → IVec S16 32) a x).toNat < S100000.size a)
theorem k0_idx290_inb : ∀ (i : grid0.Coords) (v1570 : IVec S16 32) (k0_hw290 : k0_chk290 i v1570), ∀ (k0_h1 : k0_cond1 i = 1#1), ∀ a x, ((![v1570] : Fin 1 → IVec S16 32) a x).toNat < S100000.size a := fun i v1570 k0_hw290 k0_h1 => k0_hw290 k0_h1

def k0_chk291 (i : grid0.Coords) (v1575 : IVec S16 32) : Prop :=
  (∀ (k0_h1 : k0_cond1 i = 1#1), ∀ a x, ((![v1575] : Fin 1 → IVec S16 32) a x).toNat < S100000.size a)
theorem k0_idx291_inb : ∀ (i : grid0.Coords) (v1575 : IVec S16 32) (k0_hw291 : k0_chk291 i v1575), ∀ (k0_h1 : k0_cond1 i = 1#1), ∀ a x, ((![v1575] : Fin 1 → IVec S16 32) a x).toNat < S100000.size a := fun i v1575 k0_hw291 k0_h1 => k0_hw291 k0_h1

def k0_chk292 (i : grid0.Coords) (v1580 : IVec S16 32) : Prop :=
  (∀ (k0_h1 : k0_cond1 i = 1#1), ∀ a x, ((![v1580] : Fin 1 → IVec S16 32) a x).toNat < S100000.size a)
theorem k0_idx292_inb : ∀ (i : grid0.Coords) (v1580 : IVec S16 32) (k0_hw292 : k0_chk292 i v1580), ∀ (k0_h1 : k0_cond1 i = 1#1), ∀ a x, ((![v1580] : Fin 1 → IVec S16 32) a x).toNat < S100000.size a := fun i v1580 k0_hw292 k0_h1 => k0_hw292 k0_h1

def k0_chk293 (i : grid0.Coords) (v1585 : IVec S16 32) : Prop :=
  (∀ (k0_h1 : k0_cond1 i = 1#1), ∀ a x, ((![v1585] : Fin 1 → IVec S16 32) a x).toNat < S100000.size a)
theorem k0_idx293_inb : ∀ (i : grid0.Coords) (v1585 : IVec S16 32) (k0_hw293 : k0_chk293 i v1585), ∀ (k0_h1 : k0_cond1 i = 1#1), ∀ a x, ((![v1585] : Fin 1 → IVec S16 32) a x).toNat < S100000.size a := fun i v1585 k0_hw293 k0_h1 => k0_hw293 k0_h1

def k0_chk294 (i : grid0.Coords) (v1590 : IVec S16 32) : Prop :=
  (∀ (k0_h1 : k0_cond1 i = 1#1), ∀ a x, ((![v1590] : Fin 1 → IVec S16 32) a x).toNat < S100000.size a)
theorem k0_idx294_inb : ∀ (i : grid0.Coords) (v1590 : IVec S16 32) (k0_hw294 : k0_chk294 i v1590), ∀ (k0_h1 : k0_cond1 i = 1#1), ∀ a x, ((![v1590] : Fin 1 → IVec S16 32) a x).toNat < S100000.size a := fun i v1590 k0_hw294 k0_h1 => k0_hw294 k0_h1

def k0_chk295 (i : grid0.Coords) (v1595 : IVec S16 32) : Prop :=
  (∀ (k0_h1 : k0_cond1 i = 1#1), ∀ a x, ((![v1595] : Fin 1 → IVec S16 32) a x).toNat < S100000.size a)
theorem k0_idx295_inb : ∀ (i : grid0.Coords) (v1595 : IVec S16 32) (k0_hw295 : k0_chk295 i v1595), ∀ (k0_h1 : k0_cond1 i = 1#1), ∀ a x, ((![v1595] : Fin 1 → IVec S16 32) a x).toNat < S100000.size a := fun i v1595 k0_hw295 k0_h1 => k0_hw295 k0_h1

def k0_chk296 (i : grid0.Coords) (v1600 : IVec S16 32) : Prop :=
  (∀ (k0_h1 : k0_cond1 i = 1#1), ∀ a x, ((![v1600] : Fin 1 → IVec S16 32) a x).toNat < S100000.size a)
theorem k0_idx296_inb : ∀ (i : grid0.Coords) (v1600 : IVec S16 32) (k0_hw296 : k0_chk296 i v1600), ∀ (k0_h1 : k0_cond1 i = 1#1), ∀ a x, ((![v1600] : Fin 1 → IVec S16 32) a x).toNat < S100000.size a := fun i v1600 k0_hw296 k0_h1 => k0_hw296 k0_h1

def k0_chk297 (i : grid0.Coords) (v1605 : IVec S16 32) : Prop :=
  (∀ (k0_h1 : k0_cond1 i = 1#1), ∀ a x, ((![v1605] : Fin 1 → IVec S16 32) a x).toNat < S100000.size a)
theorem k0_idx297_inb : ∀ (i : grid0.Coords) (v1605 : IVec S16 32) (k0_hw297 : k0_chk297 i v1605), ∀ (k0_h1 : k0_cond1 i = 1#1), ∀ a x, ((![v1605] : Fin 1 → IVec S16 32) a x).toNat < S100000.size a := fun i v1605 k0_hw297 k0_h1 => k0_hw297 k0_h1

def k0_chk298 (i : grid0.Coords) (v1610 : IVec S16 32) : Prop :=
  (∀ (k0_h1 : k0_cond1 i = 1#1), ∀ a x, ((![v1610] : Fin 1 → IVec S16 32) a x).toNat < S100000.size a)
theorem k0_idx298_inb : ∀ (i : grid0.Coords) (v1610 : IVec S16 32) (k0_hw298 : k0_chk298 i v1610), ∀ (k0_h1 : k0_cond1 i = 1#1), ∀ a x, ((![v1610] : Fin 1 → IVec S16 32) a x).toNat < S100000.size a := fun i v1610 k0_hw298 k0_h1 => k0_hw298 k0_h1

def k0_chk299 (i : grid0.Coords) (v1615 : IVec S16 32) : Prop :=
  (∀ (k0_h1 : k0_cond1 i = 1#1), ∀ a x, ((![v1615] : Fin 1 → IVec S16 32) a x).toNat < S100000.size a)
theorem k0_idx299_inb : ∀ (i : grid0.Coords) (v1615 : IVec S16 32) (k0_hw299 : k0_chk299 i v1615), ∀ (k0_h1 : k0_cond1 i = 1#1), ∀ a x, ((![v1615] : Fin 1 → IVec S16 32) a x).toNat < S100000.size a := fun i v1615 k0_hw299 k0_h1 => k0_hw299 k0_h1

def k0_chk300 (i : grid0.Coords) (v1620 : IVec S16 32) : Prop :=
  (∀ (k0_h1 : k0_cond1 i = 1#1), ∀ a x, ((![v1620] : Fin 1 → IVec S16 32) a x).toNat < S100000.size a)
theorem k0_idx300_inb : ∀ (i : grid0.Coords) (v1620 : IVec S16 32) (k0_hw300 : k0_chk300 i v1620), ∀ (k0_h1 : k0_cond1 i = 1#1), ∀ a x, ((![v1620] : Fin 1 → IVec S16 32) a x).toNat < S100000.size a := fun i v1620 k0_hw300 k0_h1 => k0_hw300 k0_h1

def k0_chk301 (i : grid0.Coords) (v1625 : IVec S16 32) : Prop :=
  (∀ (k0_h1 : k0_cond1 i = 1#1), ∀ a x, ((![v1625] : Fin 1 → IVec S16 32) a x).toNat < S100000.size a)
theorem k0_idx301_inb : ∀ (i : grid0.Coords) (v1625 : IVec S16 32) (k0_hw301 : k0_chk301 i v1625), ∀ (k0_h1 : k0_cond1 i = 1#1), ∀ a x, ((![v1625] : Fin 1 → IVec S16 32) a x).toNat < S100000.size a := fun i v1625 k0_hw301 k0_h1 => k0_hw301 k0_h1

def k0_chk302 (i : grid0.Coords) (v1630 : IVec S16 32) : Prop :=
  (∀ (k0_h1 : k0_cond1 i = 1#1), ∀ a x, ((![v1630] : Fin 1 → IVec S16 32) a x).toNat < S100000.size a)
theorem k0_idx302_inb : ∀ (i : grid0.Coords) (v1630 : IVec S16 32) (k0_hw302 : k0_chk302 i v1630), ∀ (k0_h1 : k0_cond1 i = 1#1), ∀ a x, ((![v1630] : Fin 1 → IVec S16 32) a x).toNat < S100000.size a := fun i v1630 k0_hw302 k0_h1 => k0_hw302 k0_h1

def k0_chk303 (i : grid0.Coords) (v1635 : IVec S16 32) : Prop :=
  (∀ (k0_h1 : k0_cond1 i = 1#1), ∀ a x, ((![v1635] : Fin 1 → IVec S16 32) a x).toNat < S100000.size a)
theorem k0_idx303_inb : ∀ (i : grid0.Coords) (v1635 : IVec S16 32) (k0_hw303 : k0_chk303 i v1635), ∀ (k0_h1 : k0_cond1 i = 1#1), ∀ a x, ((![v1635] : Fin 1 → IVec S16 32) a x).toNat < S100000.size a := fun i v1635 k0_hw303 k0_h1 => k0_hw303 k0_h1

def k0_chk304 (i : grid0.Coords) (v1640 : IVec S16 32) : Prop :=
  (∀ (k0_h1 : k0_cond1 i = 1#1), ∀ a x, ((![v1640] : Fin 1 → IVec S16 32) a x).toNat < S100000.size a)
theorem k0_idx304_inb : ∀ (i : grid0.Coords) (v1640 : IVec S16 32) (k0_hw304 : k0_chk304 i v1640), ∀ (k0_h1 : k0_cond1 i = 1#1), ∀ a x, ((![v1640] : Fin 1 → IVec S16 32) a x).toNat < S100000.size a := fun i v1640 k0_hw304 k0_h1 => k0_hw304 k0_h1

def k0_chk305 (i : grid0.Coords) (v1645 : IVec S16 32) : Prop :=
  (∀ (k0_h1 : k0_cond1 i = 1#1), ∀ a x, ((![v1645] : Fin 1 → IVec S16 32) a x).toNat < S100000.size a)
theorem k0_idx305_inb : ∀ (i : grid0.Coords) (v1645 : IVec S16 32) (k0_hw305 : k0_chk305 i v1645), ∀ (k0_h1 : k0_cond1 i = 1#1), ∀ a x, ((![v1645] : Fin 1 → IVec S16 32) a x).toNat < S100000.size a := fun i v1645 k0_hw305 k0_h1 => k0_hw305 k0_h1

def k0_chk306 (i : grid0.Coords) (v1650 : IVec S16 32) : Prop :=
  (∀ (k0_h1 : k0_cond1 i = 1#1), ∀ a x, ((![v1650] : Fin 1 → IVec S16 32) a x).toNat < S100000.size a)
theorem k0_idx306_inb : ∀ (i : grid0.Coords) (v1650 : IVec S16 32) (k0_hw306 : k0_chk306 i v1650), ∀ (k0_h1 : k0_cond1 i = 1#1), ∀ a x, ((![v1650] : Fin 1 → IVec S16 32) a x).toNat < S100000.size a := fun i v1650 k0_hw306 k0_h1 => k0_hw306 k0_h1

def k0_chk307 (i : grid0.Coords) (v1655 : IVec S16 32) : Prop :=
  (∀ (k0_h1 : k0_cond1 i = 1#1), ∀ a x, ((![v1655] : Fin 1 → IVec S16 32) a x).toNat < S100000.size a)
theorem k0_idx307_inb : ∀ (i : grid0.Coords) (v1655 : IVec S16 32) (k0_hw307 : k0_chk307 i v1655), ∀ (k0_h1 : k0_cond1 i = 1#1), ∀ a x, ((![v1655] : Fin 1 → IVec S16 32) a x).toNat < S100000.size a := fun i v1655 k0_hw307 k0_h1 => k0_hw307 k0_h1

def k0_chk308 (i : grid0.Coords) (v1660 : IVec S16 32) : Prop :=
  (∀ (k0_h1 : k0_cond1 i = 1#1), ∀ a x, ((![v1660] : Fin 1 → IVec S16 32) a x).toNat < S100000.size a)
theorem k0_idx308_inb : ∀ (i : grid0.Coords) (v1660 : IVec S16 32) (k0_hw308 : k0_chk308 i v1660), ∀ (k0_h1 : k0_cond1 i = 1#1), ∀ a x, ((![v1660] : Fin 1 → IVec S16 32) a x).toNat < S100000.size a := fun i v1660 k0_hw308 k0_h1 => k0_hw308 k0_h1

def k0_chk309 (i : grid0.Coords) (v1665 : IVec S16 32) : Prop :=
  (∀ (k0_h1 : k0_cond1 i = 1#1), ∀ a x, ((![v1665] : Fin 1 → IVec S16 32) a x).toNat < S100000.size a)
theorem k0_idx309_inb : ∀ (i : grid0.Coords) (v1665 : IVec S16 32) (k0_hw309 : k0_chk309 i v1665), ∀ (k0_h1 : k0_cond1 i = 1#1), ∀ a x, ((![v1665] : Fin 1 → IVec S16 32) a x).toNat < S100000.size a := fun i v1665 k0_hw309 k0_h1 => k0_hw309 k0_h1

def k0_chk310 (i : grid0.Coords) (v1670 : IVec S16 32) : Prop :=
  (∀ (k0_h1 : k0_cond1 i = 1#1), ∀ a x, ((![v1670] : Fin 1 → IVec S16 32) a x).toNat < S100000.size a)
theorem k0_idx310_inb : ∀ (i : grid0.Coords) (v1670 : IVec S16 32) (k0_hw310 : k0_chk310 i v1670), ∀ (k0_h1 : k0_cond1 i = 1#1), ∀ a x, ((![v1670] : Fin 1 → IVec S16 32) a x).toNat < S100000.size a := fun i v1670 k0_hw310 k0_h1 => k0_hw310 k0_h1

def k0_chk311 (i : grid0.Coords) (v1675 : IVec S16 32) : Prop :=
  (∀ (k0_h1 : k0_cond1 i = 1#1), ∀ a x, ((![v1675] : Fin 1 → IVec S16 32) a x).toNat < S100000.size a)
theorem k0_idx311_inb : ∀ (i : grid0.Coords) (v1675 : IVec S16 32) (k0_hw311 : k0_chk311 i v1675), ∀ (k0_h1 : k0_cond1 i = 1#1), ∀ a x, ((![v1675] : Fin 1 → IVec S16 32) a x).toNat < S100000.size a := fun i v1675 k0_hw311 k0_h1 => k0_hw311 k0_h1

def k0_chk312 (i : grid0.Coords) (v1680 : IVec S16 32) : Prop :=
  (∀ (k0_h1 : k0_cond1 i = 1#1), ∀ a x, ((![v1680] : Fin 1 → IVec S16 32) a x).toNat < S100000.size a)
theorem k0_idx312_inb : ∀ (i : grid0.Coords) (v1680 : IVec S16 32) (k0_hw312 : k0_chk312 i v1680), ∀ (k0_h1 : k0_cond1 i = 1#1), ∀ a x, ((![v1680] : Fin 1 → IVec S16 32) a x).toNat < S100000.size a := fun i v1680 k0_hw312 k0_h1 => k0_hw312 k0_h1

def k0_chk313 (i : grid0.Coords) (v1685 : IVec S16 32) : Prop :=
  (∀ (k0_h1 : k0_cond1 i = 1#1), ∀ a x, ((![v1685] : Fin 1 → IVec S16 32) a x).toNat < S100000.size a)
theorem k0_idx313_inb : ∀ (i : grid0.Coords) (v1685 : IVec S16 32) (k0_hw313 : k0_chk313 i v1685), ∀ (k0_h1 : k0_cond1 i = 1#1), ∀ a x, ((![v1685] : Fin 1 → IVec S16 32) a x).toNat < S100000.size a := fun i v1685 k0_hw313 k0_h1 => k0_hw313 k0_h1

def k0_chk314 (i : grid0.Coords) (v1690 : IVec S16 32) : Prop :=
  (∀ (k0_h1 : k0_cond1 i = 1#1), ∀ a x, ((![v1690] : Fin 1 → IVec S16 32) a x).toNat < S100000.size a)
theorem k0_idx314_inb : ∀ (i : grid0.Coords) (v1690 : IVec S16 32) (k0_hw314 : k0_chk314 i v1690), ∀ (k0_h1 : k0_cond1 i = 1#1), ∀ a x, ((![v1690] : Fin 1 → IVec S16 32) a x).toNat < S100000.size a := fun i v1690 k0_hw314 k0_h1 => k0_hw314 k0_h1

def k0_chk315 (i : grid0.Coords) (v1695 : IVec S16 32) : Prop :=
  (∀ (k0_h1 : k0_cond1 i = 1#1), ∀ a x, ((![v1695] : Fin 1 → IVec S16 32) a x).toNat < S100000.size a)
theorem k0_idx315_inb : ∀ (i : grid0.Coords) (v1695 : IVec S16 32) (k0_hw315 : k0_chk315 i v1695), ∀ (k0_h1 : k0_cond1 i = 1#1), ∀ a x, ((![v1695] : Fin 1 → IVec S16 32) a x).toNat < S100000.size a := fun i v1695 k0_hw315 k0_h1 => k0_hw315 k0_h1

def k0_chk316 (i : grid0.Coords) (v1700 : IVec S16 32) : Prop :=
  (∀ (k0_h1 : k0_cond1 i = 1#1), ∀ a x, ((![v1700] : Fin 1 → IVec S16 32) a x).toNat < S100000.size a)
theorem k0_idx316_inb : ∀ (i : grid0.Coords) (v1700 : IVec S16 32) (k0_hw316 : k0_chk316 i v1700), ∀ (k0_h1 : k0_cond1 i = 1#1), ∀ a x, ((![v1700] : Fin 1 → IVec S16 32) a x).toNat < S100000.size a := fun i v1700 k0_hw316 k0_h1 => k0_hw316 k0_h1

def k0_chk317 (i : grid0.Coords) (v1705 : IVec S16 32) : Prop :=
  (∀ (k0_h1 : k0_cond1 i = 1#1), ∀ a x, ((![v1705] : Fin 1 → IVec S16 32) a x).toNat < S100000.size a)
theorem k0_idx317_inb : ∀ (i : grid0.Coords) (v1705 : IVec S16 32) (k0_hw317 : k0_chk317 i v1705), ∀ (k0_h1 : k0_cond1 i = 1#1), ∀ a x, ((![v1705] : Fin 1 → IVec S16 32) a x).toNat < S100000.size a := fun i v1705 k0_hw317 k0_h1 => k0_hw317 k0_h1

def k0_chk318 (i : grid0.Coords) (v1710 : IVec S16 32) : Prop :=
  (∀ (k0_h1 : k0_cond1 i = 1#1), ∀ a x, ((![v1710] : Fin 1 → IVec S16 32) a x).toNat < S100000.size a)
theorem k0_idx318_inb : ∀ (i : grid0.Coords) (v1710 : IVec S16 32) (k0_hw318 : k0_chk318 i v1710), ∀ (k0_h1 : k0_cond1 i = 1#1), ∀ a x, ((![v1710] : Fin 1 → IVec S16 32) a x).toNat < S100000.size a := fun i v1710 k0_hw318 k0_h1 => k0_hw318 k0_h1

def k0_chk319 (i : grid0.Coords) (v1715 : IVec S16 32) : Prop :=
  (∀ (k0_h1 : k0_cond1 i = 1#1), ∀ a x, ((![v1715] : Fin 1 → IVec S16 32) a x).toNat < S100000.size a)
theorem k0_idx319_inb : ∀ (i : grid0.Coords) (v1715 : IVec S16 32) (k0_hw319 : k0_chk319 i v1715), ∀ (k0_h1 : k0_cond1 i = 1#1), ∀ a x, ((![v1715] : Fin 1 → IVec S16 32) a x).toNat < S100000.size a := fun i v1715 k0_hw319 k0_h1 => k0_hw319 k0_h1

def k0_chk320 (i : grid0.Coords) (v1720 : IVec S16 32) : Prop :=
  (∀ (k0_h1 : k0_cond1 i = 1#1), ∀ a x, ((![v1720] : Fin 1 → IVec S16 32) a x).toNat < S100000.size a)
theorem k0_idx320_inb : ∀ (i : grid0.Coords) (v1720 : IVec S16 32) (k0_hw320 : k0_chk320 i v1720), ∀ (k0_h1 : k0_cond1 i = 1#1), ∀ a x, ((![v1720] : Fin 1 → IVec S16 32) a x).toNat < S100000.size a := fun i v1720 k0_hw320 k0_h1 => k0_hw320 k0_h1

def k0_chk321 (i : grid0.Coords) (v1725 : IVec S16 32) : Prop :=
  (∀ (k0_h1 : k0_cond1 i = 1#1), ∀ a x, ((![v1725] : Fin 1 → IVec S16 32) a x).toNat < S100000.size a)
theorem k0_idx321_inb : ∀ (i : grid0.Coords) (v1725 : IVec S16 32) (k0_hw321 : k0_chk321 i v1725), ∀ (k0_h1 : k0_cond1 i = 1#1), ∀ a x, ((![v1725] : Fin 1 → IVec S16 32) a x).toNat < S100000.size a := fun i v1725 k0_hw321 k0_h1 => k0_hw321 k0_h1

def k0_chk322 (i : grid0.Coords) (v1730 : IVec S16 32) : Prop :=
  (∀ (k0_h1 : k0_cond1 i = 1#1), ∀ a x, ((![v1730] : Fin 1 → IVec S16 32) a x).toNat < S100000.size a)
theorem k0_idx322_inb : ∀ (i : grid0.Coords) (v1730 : IVec S16 32) (k0_hw322 : k0_chk322 i v1730), ∀ (k0_h1 : k0_cond1 i = 1#1), ∀ a x, ((![v1730] : Fin 1 → IVec S16 32) a x).toNat < S100000.size a := fun i v1730 k0_hw322 k0_h1 => k0_hw322 k0_h1

def k0_chk323 (i : grid0.Coords) (v1735 : IVec S16 32) : Prop :=
  (∀ (k0_h1 : k0_cond1 i = 1#1), ∀ a x, ((![v1735] : Fin 1 → IVec S16 32) a x).toNat < S100000.size a)
theorem k0_idx323_inb : ∀ (i : grid0.Coords) (v1735 : IVec S16 32) (k0_hw323 : k0_chk323 i v1735), ∀ (k0_h1 : k0_cond1 i = 1#1), ∀ a x, ((![v1735] : Fin 1 → IVec S16 32) a x).toNat < S100000.size a := fun i v1735 k0_hw323 k0_h1 => k0_hw323 k0_h1

def k0_chk324 (i : grid0.Coords) (v1740 : IVec S16 32) : Prop :=
  (∀ (k0_h1 : k0_cond1 i = 1#1), ∀ a x, ((![v1740] : Fin 1 → IVec S16 32) a x).toNat < S100000.size a)
theorem k0_idx324_inb : ∀ (i : grid0.Coords) (v1740 : IVec S16 32) (k0_hw324 : k0_chk324 i v1740), ∀ (k0_h1 : k0_cond1 i = 1#1), ∀ a x, ((![v1740] : Fin 1 → IVec S16 32) a x).toNat < S100000.size a := fun i v1740 k0_hw324 k0_h1 => k0_hw324 k0_h1

def k0_chk325 (i : grid0.Coords) (v1745 : IVec S16 32) : Prop :=
  (∀ (k0_h1 : k0_cond1 i = 1#1), ∀ a x, ((![v1745] : Fin 1 → IVec S16 32) a x).toNat < S100000.size a)
theorem k0_idx325_inb : ∀ (i : grid0.Coords) (v1745 : IVec S16 32) (k0_hw325 : k0_chk325 i v1745), ∀ (k0_h1 : k0_cond1 i = 1#1), ∀ a x, ((![v1745] : Fin 1 → IVec S16 32) a x).toNat < S100000.size a := fun i v1745 k0_hw325 k0_h1 => k0_hw325 k0_h1

def k0_chk326 (i : grid0.Coords) (v1750 : IVec S16 32) : Prop :=
  (∀ (k0_h1 : k0_cond1 i = 1#1), ∀ a x, ((![v1750] : Fin 1 → IVec S16 32) a x).toNat < S100000.size a)
theorem k0_idx326_inb : ∀ (i : grid0.Coords) (v1750 : IVec S16 32) (k0_hw326 : k0_chk326 i v1750), ∀ (k0_h1 : k0_cond1 i = 1#1), ∀ a x, ((![v1750] : Fin 1 → IVec S16 32) a x).toNat < S100000.size a := fun i v1750 k0_hw326 k0_h1 => k0_hw326 k0_h1

def k0_chk327 (i : grid0.Coords) (v1755 : IVec S16 32) : Prop :=
  (∀ (k0_h1 : k0_cond1 i = 1#1), ∀ a x, ((![v1755] : Fin 1 → IVec S16 32) a x).toNat < S100000.size a)
theorem k0_idx327_inb : ∀ (i : grid0.Coords) (v1755 : IVec S16 32) (k0_hw327 : k0_chk327 i v1755), ∀ (k0_h1 : k0_cond1 i = 1#1), ∀ a x, ((![v1755] : Fin 1 → IVec S16 32) a x).toNat < S100000.size a := fun i v1755 k0_hw327 k0_h1 => k0_hw327 k0_h1

def k0_chk328 (i : grid0.Coords) (v1760 : IVec S16 32) : Prop :=
  (∀ (k0_h1 : k0_cond1 i = 1#1), ∀ a x, ((![v1760] : Fin 1 → IVec S16 32) a x).toNat < S100000.size a)
theorem k0_idx328_inb : ∀ (i : grid0.Coords) (v1760 : IVec S16 32) (k0_hw328 : k0_chk328 i v1760), ∀ (k0_h1 : k0_cond1 i = 1#1), ∀ a x, ((![v1760] : Fin 1 → IVec S16 32) a x).toNat < S100000.size a := fun i v1760 k0_hw328 k0_h1 => k0_hw328 k0_h1

def k0_chk329 (i : grid0.Coords) (v1765 : IVec S16 32) : Prop :=
  (∀ (k0_h1 : k0_cond1 i = 1#1), ∀ a x, ((![v1765] : Fin 1 → IVec S16 32) a x).toNat < S100000.size a)
theorem k0_idx329_inb : ∀ (i : grid0.Coords) (v1765 : IVec S16 32) (k0_hw329 : k0_chk329 i v1765), ∀ (k0_h1 : k0_cond1 i = 1#1), ∀ a x, ((![v1765] : Fin 1 → IVec S16 32) a x).toNat < S100000.size a := fun i v1765 k0_hw329 k0_h1 => k0_hw329 k0_h1

def k0_chk330 (i : grid0.Coords) (v1770 : IVec S16 32) : Prop :=
  (∀ (k0_h1 : k0_cond1 i = 1#1), ∀ a x, ((![v1770] : Fin 1 → IVec S16 32) a x).toNat < S100000.size a)
theorem k0_idx330_inb : ∀ (i : grid0.Coords) (v1770 : IVec S16 32) (k0_hw330 : k0_chk330 i v1770), ∀ (k0_h1 : k0_cond1 i = 1#1), ∀ a x, ((![v1770] : Fin 1 → IVec S16 32) a x).toNat < S100000.size a := fun i v1770 k0_hw330 k0_h1 => k0_hw330 k0_h1

def k0_chk331 (i : grid0.Coords) (v1775 : IVec S16 32) : Prop :=
  (∀ (k0_h1 : k0_cond1 i = 1#1), ∀ a x, ((![v1775] : Fin 1 → IVec S16 32) a x).toNat < S100000.size a)
theorem k0_idx331_inb : ∀ (i : grid0.Coords) (v1775 : IVec S16 32) (k0_hw331 : k0_chk331 i v1775), ∀ (k0_h1 : k0_cond1 i = 1#1), ∀ a x, ((![v1775] : Fin 1 → IVec S16 32) a x).toNat < S100000.size a := fun i v1775 k0_hw331 k0_h1 => k0_hw331 k0_h1

def k0_chk332 (i : grid0.Coords) (v1780 : IVec S16 32) : Prop :=
  (∀ (k0_h1 : k0_cond1 i = 1#1), ∀ a x, ((![v1780] : Fin 1 → IVec S16 32) a x).toNat < S100000.size a)
theorem k0_idx332_inb : ∀ (i : grid0.Coords) (v1780 : IVec S16 32) (k0_hw332 : k0_chk332 i v1780), ∀ (k0_h1 : k0_cond1 i = 1#1), ∀ a x, ((![v1780] : Fin 1 → IVec S16 32) a x).toNat < S100000.size a := fun i v1780 k0_hw332 k0_h1 => k0_hw332 k0_h1

def k0_chk333 (i : grid0.Coords) (v1785 : IVec S16 32) : Prop :=
  (∀ (k0_h1 : k0_cond1 i = 1#1), ∀ a x, ((![v1785] : Fin 1 → IVec S16 32) a x).toNat < S100000.size a)
theorem k0_idx333_inb : ∀ (i : grid0.Coords) (v1785 : IVec S16 32) (k0_hw333 : k0_chk333 i v1785), ∀ (k0_h1 : k0_cond1 i = 1#1), ∀ a x, ((![v1785] : Fin 1 → IVec S16 32) a x).toNat < S100000.size a := fun i v1785 k0_hw333 k0_h1 => k0_hw333 k0_h1

def k0_chk334 (i : grid0.Coords) (v1790 : IVec S16 32) : Prop :=
  (∀ (k0_h1 : k0_cond1 i = 1#1), ∀ a x, ((![v1790] : Fin 1 → IVec S16 32) a x).toNat < S100000.size a)
theorem k0_idx334_inb : ∀ (i : grid0.Coords) (v1790 : IVec S16 32) (k0_hw334 : k0_chk334 i v1790), ∀ (k0_h1 : k0_cond1 i = 1#1), ∀ a x, ((![v1790] : Fin 1 → IVec S16 32) a x).toNat < S100000.size a := fun i v1790 k0_hw334 k0_h1 => k0_hw334 k0_h1

def k0_chk335 (i : grid0.Coords) (v1795 : IVec S16 32) : Prop :=
  (∀ (k0_h1 : k0_cond1 i = 1#1), ∀ a x, ((![v1795] : Fin 1 → IVec S16 32) a x).toNat < S100000.size a)
theorem k0_idx335_inb : ∀ (i : grid0.Coords) (v1795 : IVec S16 32) (k0_hw335 : k0_chk335 i v1795), ∀ (k0_h1 : k0_cond1 i = 1#1), ∀ a x, ((![v1795] : Fin 1 → IVec S16 32) a x).toNat < S100000.size a := fun i v1795 k0_hw335 k0_h1 => k0_hw335 k0_h1

def k0_chk336 (i : grid0.Coords) (v1800 : IVec S16 32) : Prop :=
  (∀ (k0_h1 : k0_cond1 i = 1#1), ∀ a x, ((![v1800] : Fin 1 → IVec S16 32) a x).toNat < S100000.size a)
theorem k0_idx336_inb : ∀ (i : grid0.Coords) (v1800 : IVec S16 32) (k0_hw336 : k0_chk336 i v1800), ∀ (k0_h1 : k0_cond1 i = 1#1), ∀ a x, ((![v1800] : Fin 1 → IVec S16 32) a x).toNat < S100000.size a := fun i v1800 k0_hw336 k0_h1 => k0_hw336 k0_h1

def k0_chk337 (i : grid0.Coords) (v1805 : IVec S16 32) : Prop :=
  (∀ (k0_h1 : k0_cond1 i = 1#1), ∀ a x, ((![v1805] : Fin 1 → IVec S16 32) a x).toNat < S100000.size a)
theorem k0_idx337_inb : ∀ (i : grid0.Coords) (v1805 : IVec S16 32) (k0_hw337 : k0_chk337 i v1805), ∀ (k0_h1 : k0_cond1 i = 1#1), ∀ a x, ((![v1805] : Fin 1 → IVec S16 32) a x).toNat < S100000.size a := fun i v1805 k0_hw337 k0_h1 => k0_hw337 k0_h1

def k0_chk338 (i : grid0.Coords) (v1810 : IVec S16 32) : Prop :=
  (∀ (k0_h1 : k0_cond1 i = 1#1), ∀ a x, ((![v1810] : Fin 1 → IVec S16 32) a x).toNat < S100000.size a)
theorem k0_idx338_inb : ∀ (i : grid0.Coords) (v1810 : IVec S16 32) (k0_hw338 : k0_chk338 i v1810), ∀ (k0_h1 : k0_cond1 i = 1#1), ∀ a x, ((![v1810] : Fin 1 → IVec S16 32) a x).toNat < S100000.size a := fun i v1810 k0_hw338 k0_h1 => k0_hw338 k0_h1

def k0_chk339 (i : grid0.Coords) (v1815 : IVec S16 32) : Prop :=
  (∀ (k0_h1 : k0_cond1 i = 1#1), ∀ a x, ((![v1815] : Fin 1 → IVec S16 32) a x).toNat < S100000.size a)
theorem k0_idx339_inb : ∀ (i : grid0.Coords) (v1815 : IVec S16 32) (k0_hw339 : k0_chk339 i v1815), ∀ (k0_h1 : k0_cond1 i = 1#1), ∀ a x, ((![v1815] : Fin 1 → IVec S16 32) a x).toNat < S100000.size a := fun i v1815 k0_hw339 k0_h1 => k0_hw339 k0_h1

def k0_chk340 (i : grid0.Coords) (v1820 : IVec S16 32) : Prop :=
  (∀ (k0_h1 : k0_cond1 i = 1#1), ∀ a x, ((![v1820] : Fin 1 → IVec S16 32) a x).toNat < S100000.size a)
theorem k0_idx340_inb : ∀ (i : grid0.Coords) (v1820 : IVec S16 32) (k0_hw340 : k0_chk340 i v1820), ∀ (k0_h1 : k0_cond1 i = 1#1), ∀ a x, ((![v1820] : Fin 1 → IVec S16 32) a x).toNat < S100000.size a := fun i v1820 k0_hw340 k0_h1 => k0_hw340 k0_h1

def k0_chk341 (i : grid0.Coords) (v1825 : IVec S16 32) : Prop :=
  (∀ (k0_h1 : k0_cond1 i = 1#1), ∀ a x, ((![v1825] : Fin 1 → IVec S16 32) a x).toNat < S100000.size a)
theorem k0_idx341_inb : ∀ (i : grid0.Coords) (v1825 : IVec S16 32) (k0_hw341 : k0_chk341 i v1825), ∀ (k0_h1 : k0_cond1 i = 1#1), ∀ a x, ((![v1825] : Fin 1 → IVec S16 32) a x).toNat < S100000.size a := fun i v1825 k0_hw341 k0_h1 => k0_hw341 k0_h1

def k0_chk342 (i : grid0.Coords) (v1830 : IVec S16 32) : Prop :=
  (∀ (k0_h1 : k0_cond1 i = 1#1), ∀ a x, ((![v1830] : Fin 1 → IVec S16 32) a x).toNat < S100000.size a)
theorem k0_idx342_inb : ∀ (i : grid0.Coords) (v1830 : IVec S16 32) (k0_hw342 : k0_chk342 i v1830), ∀ (k0_h1 : k0_cond1 i = 1#1), ∀ a x, ((![v1830] : Fin 1 → IVec S16 32) a x).toNat < S100000.size a := fun i v1830 k0_hw342 k0_h1 => k0_hw342 k0_h1

def k0_chk343 (i : grid0.Coords) (v1835 : IVec S16 32) : Prop :=
  (∀ (k0_h1 : k0_cond1 i = 1#1), ∀ a x, ((![v1835] : Fin 1 → IVec S16 32) a x).toNat < S100000.size a)
theorem k0_idx343_inb : ∀ (i : grid0.Coords) (v1835 : IVec S16 32) (k0_hw343 : k0_chk343 i v1835), ∀ (k0_h1 : k0_cond1 i = 1#1), ∀ a x, ((![v1835] : Fin 1 → IVec S16 32) a x).toNat < S100000.size a := fun i v1835 k0_hw343 k0_h1 => k0_hw343 k0_h1

def k0_chk344 (i : grid0.Coords) (v1840 : IVec S16 32) : Prop :=
  (∀ (k0_h1 : k0_cond1 i = 1#1), ∀ a x, ((![v1840] : Fin 1 → IVec S16 32) a x).toNat < S100000.size a)
theorem k0_idx344_inb : ∀ (i : grid0.Coords) (v1840 : IVec S16 32) (k0_hw344 : k0_chk344 i v1840), ∀ (k0_h1 : k0_cond1 i = 1#1), ∀ a x, ((![v1840] : Fin 1 → IVec S16 32) a x).toNat < S100000.size a := fun i v1840 k0_hw344 k0_h1 => k0_hw344 k0_h1

def k0_chk345 (i : grid0.Coords) (v1845 : IVec S16 32) : Prop :=
  (∀ (k0_h1 : k0_cond1 i = 1#1), ∀ a x, ((![v1845] : Fin 1 → IVec S16 32) a x).toNat < S100000.size a)
theorem k0_idx345_inb : ∀ (i : grid0.Coords) (v1845 : IVec S16 32) (k0_hw345 : k0_chk345 i v1845), ∀ (k0_h1 : k0_cond1 i = 1#1), ∀ a x, ((![v1845] : Fin 1 → IVec S16 32) a x).toNat < S100000.size a := fun i v1845 k0_hw345 k0_h1 => k0_hw345 k0_h1

def k0_chk346 (i : grid0.Coords) (v1850 : IVec S16 32) : Prop :=
  (∀ (k0_h1 : k0_cond1 i = 1#1), ∀ a x, ((![v1850] : Fin 1 → IVec S16 32) a x).toNat < S100000.size a)
theorem k0_idx346_inb : ∀ (i : grid0.Coords) (v1850 : IVec S16 32) (k0_hw346 : k0_chk346 i v1850), ∀ (k0_h1 : k0_cond1 i = 1#1), ∀ a x, ((![v1850] : Fin 1 → IVec S16 32) a x).toNat < S100000.size a := fun i v1850 k0_hw346 k0_h1 => k0_hw346 k0_h1

def k0_chk347 (i : grid0.Coords) (v1855 : IVec S16 32) : Prop :=
  (∀ (k0_h1 : k0_cond1 i = 1#1), ∀ a x, ((![v1855] : Fin 1 → IVec S16 32) a x).toNat < S100000.size a)
theorem k0_idx347_inb : ∀ (i : grid0.Coords) (v1855 : IVec S16 32) (k0_hw347 : k0_chk347 i v1855), ∀ (k0_h1 : k0_cond1 i = 1#1), ∀ a x, ((![v1855] : Fin 1 → IVec S16 32) a x).toNat < S100000.size a := fun i v1855 k0_hw347 k0_h1 => k0_hw347 k0_h1

def k0_chk348 (i : grid0.Coords) (v1860 : IVec S16 32) : Prop :=
  (∀ (k0_h1 : k0_cond1 i = 1#1), ∀ a x, ((![v1860] : Fin 1 → IVec S16 32) a x).toNat < S100000.size a)
theorem k0_idx348_inb : ∀ (i : grid0.Coords) (v1860 : IVec S16 32) (k0_hw348 : k0_chk348 i v1860), ∀ (k0_h1 : k0_cond1 i = 1#1), ∀ a x, ((![v1860] : Fin 1 → IVec S16 32) a x).toNat < S100000.size a := fun i v1860 k0_hw348 k0_h1 => k0_hw348 k0_h1

def k0_chk349 (i : grid0.Coords) (v1865 : IVec S16 32) : Prop :=
  (∀ (k0_h1 : k0_cond1 i = 1#1), ∀ a x, ((![v1865] : Fin 1 → IVec S16 32) a x).toNat < S100000.size a)
theorem k0_idx349_inb : ∀ (i : grid0.Coords) (v1865 : IVec S16 32) (k0_hw349 : k0_chk349 i v1865), ∀ (k0_h1 : k0_cond1 i = 1#1), ∀ a x, ((![v1865] : Fin 1 → IVec S16 32) a x).toNat < S100000.size a := fun i v1865 k0_hw349 k0_h1 => k0_hw349 k0_h1

def k0_chk350 (i : grid0.Coords) (v1870 : IVec S16 32) : Prop :=
  (∀ (k0_h1 : k0_cond1 i = 1#1), ∀ a x, ((![v1870] : Fin 1 → IVec S16 32) a x).toNat < S100000.size a)
theorem k0_idx350_inb : ∀ (i : grid0.Coords) (v1870 : IVec S16 32) (k0_hw350 : k0_chk350 i v1870), ∀ (k0_h1 : k0_cond1 i = 1#1), ∀ a x, ((![v1870] : Fin 1 → IVec S16 32) a x).toNat < S100000.size a := fun i v1870 k0_hw350 k0_h1 => k0_hw350 k0_h1

def k0_chk351 (i : grid0.Coords) (v1875 : IVec S16 32) : Prop :=
  (∀ (k0_h1 : k0_cond1 i = 1#1), ∀ a x, ((![v1875] : Fin 1 → IVec S16 32) a x).toNat < S100000.size a)
theorem k0_idx351_inb : ∀ (i : grid0.Coords) (v1875 : IVec S16 32) (k0_hw351 : k0_chk351 i v1875), ∀ (k0_h1 : k0_cond1 i = 1#1), ∀ a x, ((![v1875] : Fin 1 → IVec S16 32) a x).toNat < S100000.size a := fun i v1875 k0_hw351 k0_h1 => k0_hw351 k0_h1

def k0_chk352 (i : grid0.Coords) (v1880 : IVec S16 32) : Prop :=
  (∀ (k0_h1 : k0_cond1 i = 1#1), ∀ a x, ((![v1880] : Fin 1 → IVec S16 32) a x).toNat < S100000.size a)
theorem k0_idx352_inb : ∀ (i : grid0.Coords) (v1880 : IVec S16 32) (k0_hw352 : k0_chk352 i v1880), ∀ (k0_h1 : k0_cond1 i = 1#1), ∀ a x, ((![v1880] : Fin 1 → IVec S16 32) a x).toNat < S100000.size a := fun i v1880 k0_hw352 k0_h1 => k0_hw352 k0_h1

def k0_chk353 (i : grid0.Coords) (v1885 : IVec S16 32) : Prop :=
  (∀ (k0_h1 : k0_cond1 i = 1#1), ∀ a x, ((![v1885] : Fin 1 → IVec S16 32) a x).toNat < S100000.size a)
theorem k0_idx353_inb : ∀ (i : grid0.Coords) (v1885 : IVec S16 32) (k0_hw353 : k0_chk353 i v1885), ∀ (k0_h1 : k0_cond1 i = 1#1), ∀ a x, ((![v1885] : Fin 1 → IVec S16 32) a x).toNat < S100000.size a := fun i v1885 k0_hw353 k0_h1 => k0_hw353 k0_h1

def k0_chk354 (i : grid0.Coords) (v1890 : IVec S16 32) : Prop :=
  (∀ (k0_h1 : k0_cond1 i = 1#1), ∀ a x, ((![v1890] : Fin 1 → IVec S16 32) a x).toNat < S100000.size a)
theorem k0_idx354_inb : ∀ (i : grid0.Coords) (v1890 : IVec S16 32) (k0_hw354 : k0_chk354 i v1890), ∀ (k0_h1 : k0_cond1 i = 1#1), ∀ a x, ((![v1890] : Fin 1 → IVec S16 32) a x).toNat < S100000.size a := fun i v1890 k0_hw354 k0_h1 => k0_hw354 k0_h1

def k0_chk355 (i : grid0.Coords) (v1895 : IVec S16 32) : Prop :=
  (∀ (k0_h1 : k0_cond1 i = 1#1), ∀ a x, ((![v1895] : Fin 1 → IVec S16 32) a x).toNat < S100000.size a)
theorem k0_idx355_inb : ∀ (i : grid0.Coords) (v1895 : IVec S16 32) (k0_hw355 : k0_chk355 i v1895), ∀ (k0_h1 : k0_cond1 i = 1#1), ∀ a x, ((![v1895] : Fin 1 → IVec S16 32) a x).toNat < S100000.size a := fun i v1895 k0_hw355 k0_h1 => k0_hw355 k0_h1

def k0_chk356 (i : grid0.Coords) (v1900 : IVec S16 32) : Prop :=
  (∀ (k0_h1 : k0_cond1 i = 1#1), ∀ a x, ((![v1900] : Fin 1 → IVec S16 32) a x).toNat < S100000.size a)
theorem k0_idx356_inb : ∀ (i : grid0.Coords) (v1900 : IVec S16 32) (k0_hw356 : k0_chk356 i v1900), ∀ (k0_h1 : k0_cond1 i = 1#1), ∀ a x, ((![v1900] : Fin 1 → IVec S16 32) a x).toNat < S100000.size a := fun i v1900 k0_hw356 k0_h1 => k0_hw356 k0_h1

def k0_chk357 (i : grid0.Coords) (v1905 : IVec S16 32) : Prop :=
  (∀ (k0_h1 : k0_cond1 i = 1#1), ∀ a x, ((![v1905] : Fin 1 → IVec S16 32) a x).toNat < S100000.size a)
theorem k0_idx357_inb : ∀ (i : grid0.Coords) (v1905 : IVec S16 32) (k0_hw357 : k0_chk357 i v1905), ∀ (k0_h1 : k0_cond1 i = 1#1), ∀ a x, ((![v1905] : Fin 1 → IVec S16 32) a x).toNat < S100000.size a := fun i v1905 k0_hw357 k0_h1 => k0_hw357 k0_h1

def k0_chk358 (i : grid0.Coords) (v1910 : IVec S16 32) : Prop :=
  (∀ (k0_h1 : k0_cond1 i = 1#1), ∀ a x, ((![v1910] : Fin 1 → IVec S16 32) a x).toNat < S100000.size a)
theorem k0_idx358_inb : ∀ (i : grid0.Coords) (v1910 : IVec S16 32) (k0_hw358 : k0_chk358 i v1910), ∀ (k0_h1 : k0_cond1 i = 1#1), ∀ a x, ((![v1910] : Fin 1 → IVec S16 32) a x).toNat < S100000.size a := fun i v1910 k0_hw358 k0_h1 => k0_hw358 k0_h1

def k0_chk359 (i : grid0.Coords) (v1915 : IVec S16 32) : Prop :=
  (∀ (k0_h1 : k0_cond1 i = 1#1), ∀ a x, ((![v1915] : Fin 1 → IVec S16 32) a x).toNat < S100000.size a)
theorem k0_idx359_inb : ∀ (i : grid0.Coords) (v1915 : IVec S16 32) (k0_hw359 : k0_chk359 i v1915), ∀ (k0_h1 : k0_cond1 i = 1#1), ∀ a x, ((![v1915] : Fin 1 → IVec S16 32) a x).toNat < S100000.size a := fun i v1915 k0_hw359 k0_h1 => k0_hw359 k0_h1

def k0_chk360 (i : grid0.Coords) (v1920 : IVec S16 32) : Prop :=
  (∀ (k0_h1 : k0_cond1 i = 1#1), ∀ a x, ((![v1920] : Fin 1 → IVec S16 32) a x).toNat < S100000.size a)
theorem k0_idx360_inb : ∀ (i : grid0.Coords) (v1920 : IVec S16 32) (k0_hw360 : k0_chk360 i v1920), ∀ (k0_h1 : k0_cond1 i = 1#1), ∀ a x, ((![v1920] : Fin 1 → IVec S16 32) a x).toNat < S100000.size a := fun i v1920 k0_hw360 k0_h1 => k0_hw360 k0_h1

def k0_chk361 (i : grid0.Coords) (v1925 : IVec S16 32) : Prop :=
  (∀ (k0_h1 : k0_cond1 i = 1#1), ∀ a x, ((![v1925] : Fin 1 → IVec S16 32) a x).toNat < S100000.size a)
theorem k0_idx361_inb : ∀ (i : grid0.Coords) (v1925 : IVec S16 32) (k0_hw361 : k0_chk361 i v1925), ∀ (k0_h1 : k0_cond1 i = 1#1), ∀ a x, ((![v1925] : Fin 1 → IVec S16 32) a x).toNat < S100000.size a := fun i v1925 k0_hw361 k0_h1 => k0_hw361 k0_h1

def k0_chk362 (i : grid0.Coords) (v1930 : IVec S16 32) : Prop :=
  (∀ (k0_h1 : k0_cond1 i = 1#1), ∀ a x, ((![v1930] : Fin 1 → IVec S16 32) a x).toNat < S100000.size a)
theorem k0_idx362_inb : ∀ (i : grid0.Coords) (v1930 : IVec S16 32) (k0_hw362 : k0_chk362 i v1930), ∀ (k0_h1 : k0_cond1 i = 1#1), ∀ a x, ((![v1930] : Fin 1 → IVec S16 32) a x).toNat < S100000.size a := fun i v1930 k0_hw362 k0_h1 => k0_hw362 k0_h1

def k0_chk363 (i : grid0.Coords) (v1935 : IVec S16 32) : Prop :=
  (∀ (k0_h1 : k0_cond1 i = 1#1), ∀ a x, ((![v1935] : Fin 1 → IVec S16 32) a x).toNat < S100000.size a)
theorem k0_idx363_inb : ∀ (i : grid0.Coords) (v1935 : IVec S16 32) (k0_hw363 : k0_chk363 i v1935), ∀ (k0_h1 : k0_cond1 i = 1#1), ∀ a x, ((![v1935] : Fin 1 → IVec S16 32) a x).toNat < S100000.size a := fun i v1935 k0_hw363 k0_h1 => k0_hw363 k0_h1

def k0_chk364 (i : grid0.Coords) (v1940 : IVec S16 32) : Prop :=
  (∀ (k0_h1 : k0_cond1 i = 1#1), ∀ a x, ((![v1940] : Fin 1 → IVec S16 32) a x).toNat < S100000.size a)
theorem k0_idx364_inb : ∀ (i : grid0.Coords) (v1940 : IVec S16 32) (k0_hw364 : k0_chk364 i v1940), ∀ (k0_h1 : k0_cond1 i = 1#1), ∀ a x, ((![v1940] : Fin 1 → IVec S16 32) a x).toNat < S100000.size a := fun i v1940 k0_hw364 k0_h1 => k0_hw364 k0_h1

def k0_chk365 (i : grid0.Coords) (v1945 : IVec S16 32) : Prop :=
  (∀ (k0_h1 : k0_cond1 i = 1#1), ∀ a x, ((![v1945] : Fin 1 → IVec S16 32) a x).toNat < S100000.size a)
theorem k0_idx365_inb : ∀ (i : grid0.Coords) (v1945 : IVec S16 32) (k0_hw365 : k0_chk365 i v1945), ∀ (k0_h1 : k0_cond1 i = 1#1), ∀ a x, ((![v1945] : Fin 1 → IVec S16 32) a x).toNat < S100000.size a := fun i v1945 k0_hw365 k0_h1 => k0_hw365 k0_h1

def k0_chk366 (i : grid0.Coords) (v1950 : IVec S16 32) : Prop :=
  (∀ (k0_h1 : k0_cond1 i = 1#1), ∀ a x, ((![v1950] : Fin 1 → IVec S16 32) a x).toNat < S100000.size a)
theorem k0_idx366_inb : ∀ (i : grid0.Coords) (v1950 : IVec S16 32) (k0_hw366 : k0_chk366 i v1950), ∀ (k0_h1 : k0_cond1 i = 1#1), ∀ a x, ((![v1950] : Fin 1 → IVec S16 32) a x).toNat < S100000.size a := fun i v1950 k0_hw366 k0_h1 => k0_hw366 k0_h1

def k0_chk367 (i : grid0.Coords) (v1955 : IVec S16 32) : Prop :=
  (∀ (k0_h1 : k0_cond1 i = 1#1), ∀ a x, ((![v1955] : Fin 1 → IVec S16 32) a x).toNat < S100000.size a)
theorem k0_idx367_inb : ∀ (i : grid0.Coords) (v1955 : IVec S16 32) (k0_hw367 : k0_chk367 i v1955), ∀ (k0_h1 : k0_cond1 i = 1#1), ∀ a x, ((![v1955] : Fin 1 → IVec S16 32) a x).toNat < S100000.size a := fun i v1955 k0_hw367 k0_h1 => k0_hw367 k0_h1

def k0_chk368 (i : grid0.Coords) (v1960 : IVec S16 32) : Prop :=
  (∀ (k0_h1 : k0_cond1 i = 1#1), ∀ a x, ((![v1960] : Fin 1 → IVec S16 32) a x).toNat < S100000.size a)
theorem k0_idx368_inb : ∀ (i : grid0.Coords) (v1960 : IVec S16 32) (k0_hw368 : k0_chk368 i v1960), ∀ (k0_h1 : k0_cond1 i = 1#1), ∀ a x, ((![v1960] : Fin 1 → IVec S16 32) a x).toNat < S100000.size a := fun i v1960 k0_hw368 k0_h1 => k0_hw368 k0_h1

def k0_chk369 (i : grid0.Coords) (v1965 : IVec S16 32) : Prop :=
  (∀ (k0_h1 : k0_cond1 i = 1#1), ∀ a x, ((![v1965] : Fin 1 → IVec S16 32) a x).toNat < S100000.size a)
theorem k0_idx369_inb : ∀ (i : grid0.Coords) (v1965 : IVec S16 32) (k0_hw369 : k0_chk369 i v1965), ∀ (k0_h1 : k0_cond1 i = 1#1), ∀ a x, ((![v1965] : Fin 1 → IVec S16 32) a x).toNat < S100000.size a := fun i v1965 k0_hw369 k0_h1 => k0_hw369 k0_h1

def k0_chk370 (i : grid0.Coords) (v1970 : IVec S16 32) : Prop :=
  (∀ (k0_h1 : k0_cond1 i = 1#1), ∀ a x, ((![v1970] : Fin 1 → IVec S16 32) a x).toNat < S100000.size a)
theorem k0_idx370_inb : ∀ (i : grid0.Coords) (v1970 : IVec S16 32) (k0_hw370 : k0_chk370 i v1970), ∀ (k0_h1 : k0_cond1 i = 1#1), ∀ a x, ((![v1970] : Fin 1 → IVec S16 32) a x).toNat < S100000.size a := fun i v1970 k0_hw370 k0_h1 => k0_hw370 k0_h1

def k0_chk371 (i : grid0.Coords) (v1975 : IVec S16 32) : Prop :=
  (∀ (k0_h1 : k0_cond1 i = 1#1), ∀ a x, ((![v1975] : Fin 1 → IVec S16 32) a x).toNat < S100000.size a)
theorem k0_idx371_inb : ∀ (i : grid0.Coords) (v1975 : IVec S16 32) (k0_hw371 : k0_chk371 i v1975), ∀ (k0_h1 : k0_cond1 i = 1#1), ∀ a x, ((![v1975] : Fin 1 → IVec S16 32) a x).toNat < S100000.size a := fun i v1975 k0_hw371 k0_h1 => k0_hw371 k0_h1

def k0_chk372 (i : grid0.Coords) (v1980 : IVec S16 32) : Prop :=
  (∀ (k0_h1 : k0_cond1 i = 1#1), ∀ a x, ((![v1980] : Fin 1 → IVec S16 32) a x).toNat < S100000.size a)
theorem k0_idx372_inb : ∀ (i : grid0.Coords) (v1980 : IVec S16 32) (k0_hw372 : k0_chk372 i v1980), ∀ (k0_h1 : k0_cond1 i = 1#1), ∀ a x, ((![v1980] : Fin 1 → IVec S16 32) a x).toNat < S100000.size a := fun i v1980 k0_hw372 k0_h1 => k0_hw372 k0_h1

def k0_chk373 (i : grid0.Coords) (v1985 : IVec S16 32) : Prop :=
  (∀ (k0_h1 : k0_cond1 i = 1#1), ∀ a x, ((![v1985] : Fin 1 → IVec S16 32) a x).toNat < S100000.size a)
theorem k0_idx373_inb : ∀ (i : grid0.Coords) (v1985 : IVec S16 32) (k0_hw373 : k0_chk373 i v1985), ∀ (k0_h1 : k0_cond1 i = 1#1), ∀ a x, ((![v1985] : Fin 1 → IVec S16 32) a x).toNat < S100000.size a := fun i v1985 k0_hw373 k0_h1 => k0_hw373 k0_h1

def k0_chk374 (i : grid0.Coords) (v1990 : IVec S16 32) : Prop :=
  (∀ (k0_h1 : k0_cond1 i = 1#1), ∀ a x, ((![v1990] : Fin 1 → IVec S16 32) a x).toNat < S100000.size a)
theorem k0_idx374_inb : ∀ (i : grid0.Coords) (v1990 : IVec S16 32) (k0_hw374 : k0_chk374 i v1990), ∀ (k0_h1 : k0_cond1 i = 1#1), ∀ a x, ((![v1990] : Fin 1 → IVec S16 32) a x).toNat < S100000.size a := fun i v1990 k0_hw374 k0_h1 => k0_hw374 k0_h1

def k0_chk375 (i : grid0.Coords) (v1995 : IVec S16 32) : Prop :=
  (∀ (k0_h1 : k0_cond1 i = 1#1), ∀ a x, ((![v1995] : Fin 1 → IVec S16 32) a x).toNat < S100000.size a)
theorem k0_idx375_inb : ∀ (i : grid0.Coords) (v1995 : IVec S16 32) (k0_hw375 : k0_chk375 i v1995), ∀ (k0_h1 : k0_cond1 i = 1#1), ∀ a x, ((![v1995] : Fin 1 → IVec S16 32) a x).toNat < S100000.size a := fun i v1995 k0_hw375 k0_h1 => k0_hw375 k0_h1

def k0_chk376 (i : grid0.Coords) (v2000 : IVec S16 32) : Prop :=
  (∀ (k0_h1 : k0_cond1 i = 1#1), ∀ a x, ((![v2000] : Fin 1 → IVec S16 32) a x).toNat < S100000.size a)
theorem k0_idx376_inb : ∀ (i : grid0.Coords) (v2000 : IVec S16 32) (k0_hw376 : k0_chk376 i v2000), ∀ (k0_h1 : k0_cond1 i = 1#1), ∀ a x, ((![v2000] : Fin 1 → IVec S16 32) a x).toNat < S100000.size a := fun i v2000 k0_hw376 k0_h1 => k0_hw376 k0_h1

def k0_chk377 (i : grid0.Coords) (v2005 : IVec S16 32) : Prop :=
  (∀ (k0_h1 : k0_cond1 i = 1#1), ∀ a x, ((![v2005] : Fin 1 → IVec S16 32) a x).toNat < S100000.size a)
theorem k0_idx377_inb : ∀ (i : grid0.Coords) (v2005 : IVec S16 32) (k0_hw377 : k0_chk377 i v2005), ∀ (k0_h1 : k0_cond1 i = 1#1), ∀ a x, ((![v2005] : Fin 1 → IVec S16 32) a x).toNat < S100000.size a := fun i v2005 k0_hw377 k0_h1 => k0_hw377 k0_h1

def k0_chk378 (i : grid0.Coords) (v2010 : IVec S16 32) : Prop :=
  (∀ (k0_h1 : k0_cond1 i = 1#1), ∀ a x, ((![v2010] : Fin 1 → IVec S16 32) a x).toNat < S100000.size a)
theorem k0_idx378_inb : ∀ (i : grid0.Coords) (v2010 : IVec S16 32) (k0_hw378 : k0_chk378 i v2010), ∀ (k0_h1 : k0_cond1 i = 1#1), ∀ a x, ((![v2010] : Fin 1 → IVec S16 32) a x).toNat < S100000.size a := fun i v2010 k0_hw378 k0_h1 => k0_hw378 k0_h1

def k0_chk379 (i : grid0.Coords) (v2015 : IVec S16 32) : Prop :=
  (∀ (k0_h1 : k0_cond1 i = 1#1), ∀ a x, ((![v2015] : Fin 1 → IVec S16 32) a x).toNat < S100000.size a)
theorem k0_idx379_inb : ∀ (i : grid0.Coords) (v2015 : IVec S16 32) (k0_hw379 : k0_chk379 i v2015), ∀ (k0_h1 : k0_cond1 i = 1#1), ∀ a x, ((![v2015] : Fin 1 → IVec S16 32) a x).toNat < S100000.size a := fun i v2015 k0_hw379 k0_h1 => k0_hw379 k0_h1

def k0_chk380 (i : grid0.Coords) (v2020 : IVec S16 32) : Prop :=
  (∀ (k0_h1 : k0_cond1 i = 1#1), ∀ a x, ((![v2020] : Fin 1 → IVec S16 32) a x).toNat < S100000.size a)
theorem k0_idx380_inb : ∀ (i : grid0.Coords) (v2020 : IVec S16 32) (k0_hw380 : k0_chk380 i v2020), ∀ (k0_h1 : k0_cond1 i = 1#1), ∀ a x, ((![v2020] : Fin 1 → IVec S16 32) a x).toNat < S100000.size a := fun i v2020 k0_hw380 k0_h1 => k0_hw380 k0_h1

def k0_chk381 (i : grid0.Coords) (v2025 : IVec S16 32) : Prop :=
  (∀ (k0_h1 : k0_cond1 i = 1#1), ∀ a x, ((![v2025] : Fin 1 → IVec S16 32) a x).toNat < S100000.size a)
theorem k0_idx381_inb : ∀ (i : grid0.Coords) (v2025 : IVec S16 32) (k0_hw381 : k0_chk381 i v2025), ∀ (k0_h1 : k0_cond1 i = 1#1), ∀ a x, ((![v2025] : Fin 1 → IVec S16 32) a x).toNat < S100000.size a := fun i v2025 k0_hw381 k0_h1 => k0_hw381 k0_h1

def k0_chk382 (i : grid0.Coords) (v2030 : IVec S16 32) : Prop :=
  (∀ (k0_h1 : k0_cond1 i = 1#1), ∀ a x, ((![v2030] : Fin 1 → IVec S16 32) a x).toNat < S100000.size a)
theorem k0_idx382_inb : ∀ (i : grid0.Coords) (v2030 : IVec S16 32) (k0_hw382 : k0_chk382 i v2030), ∀ (k0_h1 : k0_cond1 i = 1#1), ∀ a x, ((![v2030] : Fin 1 → IVec S16 32) a x).toNat < S100000.size a := fun i v2030 k0_hw382 k0_h1 => k0_hw382 k0_h1

def k0_chk383 (i : grid0.Coords) (v2035 : IVec S16 32) : Prop :=
  (∀ (k0_h1 : k0_cond1 i = 1#1), ∀ a x, ((![v2035] : Fin 1 → IVec S16 32) a x).toNat < S100000.size a)
theorem k0_idx383_inb : ∀ (i : grid0.Coords) (v2035 : IVec S16 32) (k0_hw383 : k0_chk383 i v2035), ∀ (k0_h1 : k0_cond1 i = 1#1), ∀ a x, ((![v2035] : Fin 1 → IVec S16 32) a x).toNat < S100000.size a := fun i v2035 k0_hw383 k0_h1 => k0_hw383 k0_h1

def k0_chk384 (i : grid0.Coords) (v2040 : IVec S16 32) : Prop :=
  (∀ (k0_h1 : k0_cond1 i = 1#1), ∀ a x, ((![v2040] : Fin 1 → IVec S16 32) a x).toNat < S100000.size a)
theorem k0_idx384_inb : ∀ (i : grid0.Coords) (v2040 : IVec S16 32) (k0_hw384 : k0_chk384 i v2040), ∀ (k0_h1 : k0_cond1 i = 1#1), ∀ a x, ((![v2040] : Fin 1 → IVec S16 32) a x).toNat < S100000.size a := fun i v2040 k0_hw384 k0_h1 => k0_hw384 k0_h1

def k0_chk385 (i : grid0.Coords) (v2045 : IVec S16 32) : Prop :=
  (∀ (k0_h1 : k0_cond1 i = 1#1), ∀ a x, ((![v2045] : Fin 1 → IVec S16 32) a x).toNat < S100000.size a)
theorem k0_idx385_inb : ∀ (i : grid0.Coords) (v2045 : IVec S16 32) (k0_hw385 : k0_chk385 i v2045), ∀ (k0_h1 : k0_cond1 i = 1#1), ∀ a x, ((![v2045] : Fin 1 → IVec S16 32) a x).toNat < S100000.size a := fun i v2045 k0_hw385 k0_h1 => k0_hw385 k0_h1

def k0_chk386 (i : grid0.Coords) (v2050 : IVec S16 32) : Prop :=
  (∀ (k0_h1 : k0_cond1 i = 1#1), ∀ a x, ((![v2050] : Fin 1 → IVec S16 32) a x).toNat < S100000.size a)
theorem k0_idx386_inb : ∀ (i : grid0.Coords) (v2050 : IVec S16 32) (k0_hw386 : k0_chk386 i v2050), ∀ (k0_h1 : k0_cond1 i = 1#1), ∀ a x, ((![v2050] : Fin 1 → IVec S16 32) a x).toNat < S100000.size a := fun i v2050 k0_hw386 k0_h1 => k0_hw386 k0_h1

def k0_chk387 (i : grid0.Coords) (v2055 : IVec S16 32) : Prop :=
  (∀ (k0_h1 : k0_cond1 i = 1#1), ∀ a x, ((![v2055] : Fin 1 → IVec S16 32) a x).toNat < S100000.size a)
theorem k0_idx387_inb : ∀ (i : grid0.Coords) (v2055 : IVec S16 32) (k0_hw387 : k0_chk387 i v2055), ∀ (k0_h1 : k0_cond1 i = 1#1), ∀ a x, ((![v2055] : Fin 1 → IVec S16 32) a x).toNat < S100000.size a := fun i v2055 k0_hw387 k0_h1 => k0_hw387 k0_h1

def k0_chk388 (i : grid0.Coords) (v2060 : IVec S16 32) : Prop :=
  (∀ (k0_h1 : k0_cond1 i = 1#1), ∀ a x, ((![v2060] : Fin 1 → IVec S16 32) a x).toNat < S100000.size a)
theorem k0_idx388_inb : ∀ (i : grid0.Coords) (v2060 : IVec S16 32) (k0_hw388 : k0_chk388 i v2060), ∀ (k0_h1 : k0_cond1 i = 1#1), ∀ a x, ((![v2060] : Fin 1 → IVec S16 32) a x).toNat < S100000.size a := fun i v2060 k0_hw388 k0_h1 => k0_hw388 k0_h1

def k0_chk389 (i : grid0.Coords) (v2065 : IVec S16 32) : Prop :=
  (∀ (k0_h1 : k0_cond1 i = 1#1), ∀ a x, ((![v2065] : Fin 1 → IVec S16 32) a x).toNat < S100000.size a)
theorem k0_idx389_inb : ∀ (i : grid0.Coords) (v2065 : IVec S16 32) (k0_hw389 : k0_chk389 i v2065), ∀ (k0_h1 : k0_cond1 i = 1#1), ∀ a x, ((![v2065] : Fin 1 → IVec S16 32) a x).toNat < S100000.size a := fun i v2065 k0_hw389 k0_h1 => k0_hw389 k0_h1

def k0_chk390 (i : grid0.Coords) (v2070 : IVec S16 32) : Prop :=
  (∀ (k0_h1 : k0_cond1 i = 1#1), ∀ a x, ((![v2070] : Fin 1 → IVec S16 32) a x).toNat < S100000.size a)
theorem k0_idx390_inb : ∀ (i : grid0.Coords) (v2070 : IVec S16 32) (k0_hw390 : k0_chk390 i v2070), ∀ (k0_h1 : k0_cond1 i = 1#1), ∀ a x, ((![v2070] : Fin 1 → IVec S16 32) a x).toNat < S100000.size a := fun i v2070 k0_hw390 k0_h1 => k0_hw390 k0_h1

def k0_chk391 (i : grid0.Coords) (v2075 : IVec S16 32) : Prop :=
  (∀ (k0_h1 : k0_cond1 i = 1#1), ∀ a x, ((![v2075] : Fin 1 → IVec S16 32) a x).toNat < S100000.size a)
theorem k0_idx391_inb : ∀ (i : grid0.Coords) (v2075 : IVec S16 32) (k0_hw391 : k0_chk391 i v2075), ∀ (k0_h1 : k0_cond1 i = 1#1), ∀ a x, ((![v2075] : Fin 1 → IVec S16 32) a x).toNat < S100000.size a := fun i v2075 k0_hw391 k0_h1 => k0_hw391 k0_h1

def k0_chk392 (i : grid0.Coords) (v2080 : IVec S16 32) : Prop :=
  (∀ (k0_h1 : k0_cond1 i = 1#1), ∀ a x, ((![v2080] : Fin 1 → IVec S16 32) a x).toNat < S100000.size a)
theorem k0_idx392_inb : ∀ (i : grid0.Coords) (v2080 : IVec S16 32) (k0_hw392 : k0_chk392 i v2080), ∀ (k0_h1 : k0_cond1 i = 1#1), ∀ a x, ((![v2080] : Fin 1 → IVec S16 32) a x).toNat < S100000.size a := fun i v2080 k0_hw392 k0_h1 => k0_hw392 k0_h1

def k0_chk393 (i : grid0.Coords) (v2085 : IVec S16 32) : Prop :=
  (∀ (k0_h1 : k0_cond1 i = 1#1), ∀ a x, ((![v2085] : Fin 1 → IVec S16 32) a x).toNat < S100000.size a)
theorem k0_idx393_inb : ∀ (i : grid0.Coords) (v2085 : IVec S16 32) (k0_hw393 : k0_chk393 i v2085), ∀ (k0_h1 : k0_cond1 i = 1#1), ∀ a x, ((![v2085] : Fin 1 → IVec S16 32) a x).toNat < S100000.size a := fun i v2085 k0_hw393 k0_h1 => k0_hw393 k0_h1

def k0_chk394 (i : grid0.Coords) (v2090 : IVec S16 32) : Prop :=
  (∀ (k0_h1 : k0_cond1 i = 1#1), ∀ a x, ((![v2090] : Fin 1 → IVec S16 32) a x).toNat < S100000.size a)
theorem k0_idx394_inb : ∀ (i : grid0.Coords) (v2090 : IVec S16 32) (k0_hw394 : k0_chk394 i v2090), ∀ (k0_h1 : k0_cond1 i = 1#1), ∀ a x, ((![v2090] : Fin 1 → IVec S16 32) a x).toNat < S100000.size a := fun i v2090 k0_hw394 k0_h1 => k0_hw394 k0_h1

def k0_chk395 (i : grid0.Coords) (v2095 : IVec S16 32) : Prop :=
  (∀ (k0_h1 : k0_cond1 i = 1#1), ∀ a x, ((![v2095] : Fin 1 → IVec S16 32) a x).toNat < S100000.size a)
theorem k0_idx395_inb : ∀ (i : grid0.Coords) (v2095 : IVec S16 32) (k0_hw395 : k0_chk395 i v2095), ∀ (k0_h1 : k0_cond1 i = 1#1), ∀ a x, ((![v2095] : Fin 1 → IVec S16 32) a x).toNat < S100000.size a := fun i v2095 k0_hw395 k0_h1 => k0_hw395 k0_h1

def k0_chk396 (i : grid0.Coords) (v2100 : IVec S16 32) : Prop :=
  (∀ (k0_h1 : k0_cond1 i = 1#1), ∀ a x, ((![v2100] : Fin 1 → IVec S16 32) a x).toNat < S100000.size a)
theorem k0_idx396_inb : ∀ (i : grid0.Coords) (v2100 : IVec S16 32) (k0_hw396 : k0_chk396 i v2100), ∀ (k0_h1 : k0_cond1 i = 1#1), ∀ a x, ((![v2100] : Fin 1 → IVec S16 32) a x).toNat < S100000.size a := fun i v2100 k0_hw396 k0_h1 => k0_hw396 k0_h1

def k0_chk397 (i : grid0.Coords) (v2105 : IVec S16 32) : Prop :=
  (∀ (k0_h1 : k0_cond1 i = 1#1), ∀ a x, ((![v2105] : Fin 1 → IVec S16 32) a x).toNat < S100000.size a)
theorem k0_idx397_inb : ∀ (i : grid0.Coords) (v2105 : IVec S16 32) (k0_hw397 : k0_chk397 i v2105), ∀ (k0_h1 : k0_cond1 i = 1#1), ∀ a x, ((![v2105] : Fin 1 → IVec S16 32) a x).toNat < S100000.size a := fun i v2105 k0_hw397 k0_h1 => k0_hw397 k0_h1

def k0_chk398 (i : grid0.Coords) (v2110 : IVec S16 32) : Prop :=
  (∀ (k0_h1 : k0_cond1 i = 1#1), ∀ a x, ((![v2110] : Fin 1 → IVec S16 32) a x).toNat < S100000.size a)
theorem k0_idx398_inb : ∀ (i : grid0.Coords) (v2110 : IVec S16 32) (k0_hw398 : k0_chk398 i v2110), ∀ (k0_h1 : k0_cond1 i = 1#1), ∀ a x, ((![v2110] : Fin 1 → IVec S16 32) a x).toNat < S100000.size a := fun i v2110 k0_hw398 k0_h1 => k0_hw398 k0_h1

def k0_chk399 (i : grid0.Coords) (v2115 : IVec S16 32) : Prop :=
  (∀ (k0_h1 : k0_cond1 i = 1#1), ∀ a x, ((![v2115] : Fin 1 → IVec S16 32) a x).toNat < S100000.size a)
theorem k0_idx399_inb : ∀ (i : grid0.Coords) (v2115 : IVec S16 32) (k0_hw399 : k0_chk399 i v2115), ∀ (k0_h1 : k0_cond1 i = 1#1), ∀ a x, ((![v2115] : Fin 1 → IVec S16 32) a x).toNat < S100000.size a := fun i v2115 k0_hw399 k0_h1 => k0_hw399 k0_h1

def k0_chk400 (i : grid0.Coords) (v2120 : IVec S16 32) : Prop :=
  (∀ (k0_h1 : k0_cond1 i = 1#1), ∀ a x, ((![v2120] : Fin 1 → IVec S16 32) a x).toNat < S100000.size a)
theorem k0_idx400_inb : ∀ (i : grid0.Coords) (v2120 : IVec S16 32) (k0_hw400 : k0_chk400 i v2120), ∀ (k0_h1 : k0_cond1 i = 1#1), ∀ a x, ((![v2120] : Fin 1 → IVec S16 32) a x).toNat < S100000.size a := fun i v2120 k0_hw400 k0_h1 => k0_hw400 k0_h1

def k0_chk401 (i : grid0.Coords) (v2125 : IVec S16 32) : Prop :=
  (∀ (k0_h1 : k0_cond1 i = 1#1), ∀ a x, ((![v2125] : Fin 1 → IVec S16 32) a x).toNat < S100000.size a)
theorem k0_idx401_inb : ∀ (i : grid0.Coords) (v2125 : IVec S16 32) (k0_hw401 : k0_chk401 i v2125), ∀ (k0_h1 : k0_cond1 i = 1#1), ∀ a x, ((![v2125] : Fin 1 → IVec S16 32) a x).toNat < S100000.size a := fun i v2125 k0_hw401 k0_h1 => k0_hw401 k0_h1

def k0_chk402 (i : grid0.Coords) (v2130 : IVec S16 32) : Prop :=
  (∀ (k0_h1 : k0_cond1 i = 1#1), ∀ a x, ((![v2130] : Fin 1 → IVec S16 32) a x).toNat < S100000.size a)
theorem k0_idx402_inb : ∀ (i : grid0.Coords) (v2130 : IVec S16 32) (k0_hw402 : k0_chk402 i v2130), ∀ (k0_h1 : k0_cond1 i = 1#1), ∀ a x, ((![v2130] : Fin 1 → IVec S16 32) a x).toNat < S100000.size a := fun i v2130 k0_hw402 k0_h1 => k0_hw402 k0_h1

def k0_chk403 (i : grid0.Coords) (v2135 : IVec S16 32) : Prop :=
  (∀ (k0_h1 : k0_cond1 i = 1#1), ∀ a x, ((![v2135] : Fin 1 → IVec S16 32) a x).toNat < S100000.size a)
theorem k0_idx403_inb : ∀ (i : grid0.Coords) (v2135 : IVec S16 32) (k0_hw403 : k0_chk403 i v2135), ∀ (k0_h1 : k0_cond1 i = 1#1), ∀ a x, ((![v2135] : Fin 1 → IVec S16 32) a x).toNat < S100000.size a := fun i v2135 k0_hw403 k0_h1 => k0_hw403 k0_h1

def k0_chk404 (i : grid0.Coords) (v2140 : IVec S16 32) : Prop :=
  (∀ (k0_h1 : k0_cond1 i = 1#1), ∀ a x, ((![v2140] : Fin 1 → IVec S16 32) a x).toNat < S100000.size a)
theorem k0_idx404_inb : ∀ (i : grid0.Coords) (v2140 : IVec S16 32) (k0_hw404 : k0_chk404 i v2140), ∀ (k0_h1 : k0_cond1 i = 1#1), ∀ a x, ((![v2140] : Fin 1 → IVec S16 32) a x).toNat < S100000.size a := fun i v2140 k0_hw404 k0_h1 => k0_hw404 k0_h1

def k0_chk405 (i : grid0.Coords) (v2145 : IVec S16 32) : Prop :=
  (∀ (k0_h1 : k0_cond1 i = 1#1), ∀ a x, ((![v2145] : Fin 1 → IVec S16 32) a x).toNat < S100000.size a)
theorem k0_idx405_inb : ∀ (i : grid0.Coords) (v2145 : IVec S16 32) (k0_hw405 : k0_chk405 i v2145), ∀ (k0_h1 : k0_cond1 i = 1#1), ∀ a x, ((![v2145] : Fin 1 → IVec S16 32) a x).toNat < S100000.size a := fun i v2145 k0_hw405 k0_h1 => k0_hw405 k0_h1

def k0_chk406 (i : grid0.Coords) (v2150 : IVec S16 32) : Prop :=
  (∀ (k0_h1 : k0_cond1 i = 1#1), ∀ a x, ((![v2150] : Fin 1 → IVec S16 32) a x).toNat < S100000.size a)
theorem k0_idx406_inb : ∀ (i : grid0.Coords) (v2150 : IVec S16 32) (k0_hw406 : k0_chk406 i v2150), ∀ (k0_h1 : k0_cond1 i = 1#1), ∀ a x, ((![v2150] : Fin 1 → IVec S16 32) a x).toNat < S100000.size a := fun i v2150 k0_hw406 k0_h1 => k0_hw406 k0_h1

def k0_chk407 (i : grid0.Coords) (v2155 : IVec S16 32) : Prop :=
  (∀ (k0_h1 : k0_cond1 i = 1#1), ∀ a x, ((![v2155] : Fin 1 → IVec S16 32) a x).toNat < S100000.size a)
theorem k0_idx407_inb : ∀ (i : grid0.Coords) (v2155 : IVec S16 32) (k0_hw407 : k0_chk407 i v2155), ∀ (k0_h1 : k0_cond1 i = 1#1), ∀ a x, ((![v2155] : Fin 1 → IVec S16 32) a x).toNat < S100000.size a := fun i v2155 k0_hw407 k0_h1 => k0_hw407 k0_h1

def k0_chk408 (i : grid0.Coords) (v2160 : IVec S16 32) : Prop :=
  (∀ (k0_h1 : k0_cond1 i = 1#1), ∀ a x, ((![v2160] : Fin 1 → IVec S16 32) a x).toNat < S100000.size a)
theorem k0_idx408_inb : ∀ (i : grid0.Coords) (v2160 : IVec S16 32) (k0_hw408 : k0_chk408 i v2160), ∀ (k0_h1 : k0_cond1 i = 1#1), ∀ a x, ((![v2160] : Fin 1 → IVec S16 32) a x).toNat < S100000.size a := fun i v2160 k0_hw408 k0_h1 => k0_hw408 k0_h1

def k0_chk409 (i : grid0.Coords) (v2165 : IVec S16 32) : Prop :=
  (∀ (k0_h1 : k0_cond1 i = 1#1), ∀ a x, ((![v2165] : Fin 1 → IVec S16 32) a x).toNat < S100000.size a)
theorem k0_idx409_inb : ∀ (i : grid0.Coords) (v2165 : IVec S16 32) (k0_hw409 : k0_chk409 i v2165), ∀ (k0_h1 : k0_cond1 i = 1#1), ∀ a x, ((![v2165] : Fin 1 → IVec S16 32) a x).toNat < S100000.size a := fun i v2165 k0_hw409 k0_h1 => k0_hw409 k0_h1

def k0_chk410 (i : grid0.Coords) (v2170 : IVec S16 32) : Prop :=
  (∀ (k0_h1 : k0_cond1 i = 1#1), ∀ a x, ((![v2170] : Fin 1 → IVec S16 32) a x).toNat < S100000.size a)
theorem k0_idx410_inb : ∀ (i : grid0.Coords) (v2170 : IVec S16 32) (k0_hw410 : k0_chk410 i v2170), ∀ (k0_h1 : k0_cond1 i = 1#1), ∀ a x, ((![v2170] : Fin 1 → IVec S16 32) a x).toNat < S100000.size a := fun i v2170 k0_hw410 k0_h1 => k0_hw410 k0_h1

def k0_chk411 (i : grid0.Coords) (v2175 : IVec S16 32) : Prop :=
  (∀ (k0_h1 : k0_cond1 i = 1#1), ∀ a x, ((![v2175] : Fin 1 → IVec S16 32) a x).toNat < S100000.size a)
theorem k0_idx411_inb : ∀ (i : grid0.Coords) (v2175 : IVec S16 32) (k0_hw411 : k0_chk411 i v2175), ∀ (k0_h1 : k0_cond1 i = 1#1), ∀ a x, ((![v2175] : Fin 1 → IVec S16 32) a x).toNat < S100000.size a := fun i v2175 k0_hw411 k0_h1 => k0_hw411 k0_h1

def k0_chk412 (i : grid0.Coords) (v2180 : IVec S16 32) : Prop :=
  (∀ (k0_h1 : k0_cond1 i = 1#1), ∀ a x, ((![v2180] : Fin 1 → IVec S16 32) a x).toNat < S100000.size a)
theorem k0_idx412_inb : ∀ (i : grid0.Coords) (v2180 : IVec S16 32) (k0_hw412 : k0_chk412 i v2180), ∀ (k0_h1 : k0_cond1 i = 1#1), ∀ a x, ((![v2180] : Fin 1 → IVec S16 32) a x).toNat < S100000.size a := fun i v2180 k0_hw412 k0_h1 => k0_hw412 k0_h1

def k0_chk413 (i : grid0.Coords) (v2185 : IVec S16 32) : Prop :=
  (∀ (k0_h1 : k0_cond1 i = 1#1), ∀ a x, ((![v2185] : Fin 1 → IVec S16 32) a x).toNat < S100000.size a)
theorem k0_idx413_inb : ∀ (i : grid0.Coords) (v2185 : IVec S16 32) (k0_hw413 : k0_chk413 i v2185), ∀ (k0_h1 : k0_cond1 i = 1#1), ∀ a x, ((![v2185] : Fin 1 → IVec S16 32) a x).toNat < S100000.size a := fun i v2185 k0_hw413 k0_h1 => k0_hw413 k0_h1

def k0_chk414 (i : grid0.Coords) (v2190 : IVec S16 32) : Prop :=
  (∀ (k0_h1 : k0_cond1 i = 1#1), ∀ a x, ((![v2190] : Fin 1 → IVec S16 32) a x).toNat < S100000.size a)
theorem k0_idx414_inb : ∀ (i : grid0.Coords) (v2190 : IVec S16 32) (k0_hw414 : k0_chk414 i v2190), ∀ (k0_h1 : k0_cond1 i = 1#1), ∀ a x, ((![v2190] : Fin 1 → IVec S16 32) a x).toNat < S100000.size a := fun i v2190 k0_hw414 k0_h1 => k0_hw414 k0_h1

def k0_chk415 (i : grid0.Coords) (v2195 : IVec S16 32) : Prop :=
  (∀ (k0_h1 : k0_cond1 i = 1#1), ∀ a x, ((![v2195] : Fin 1 → IVec S16 32) a x).toNat < S100000.size a)
theorem k0_idx415_inb : ∀ (i : grid0.Coords) (v2195 : IVec S16 32) (k0_hw415 : k0_chk415 i v2195), ∀ (k0_h1 : k0_cond1 i = 1#1), ∀ a x, ((![v2195] : Fin 1 → IVec S16 32) a x).toNat < S100000.size a := fun i v2195 k0_hw415 k0_h1 => k0_hw415 k0_h1

def k0_chk416 (i : grid0.Coords) (v2200 : IVec S16 32) : Prop :=
  (∀ (k0_h1 : k0_cond1 i = 1#1), ∀ a x, ((![v2200] : Fin 1 → IVec S16 32) a x).toNat < S100000.size a)
theorem k0_idx416_inb : ∀ (i : grid0.Coords) (v2200 : IVec S16 32) (k0_hw416 : k0_chk416 i v2200), ∀ (k0_h1 : k0_cond1 i = 1#1), ∀ a x, ((![v2200] : Fin 1 → IVec S16 32) a x).toNat < S100000.size a := fun i v2200 k0_hw416 k0_h1 => k0_hw416 k0_h1

def k0_chk417 (i : grid0.Coords) (v2205 : IVec S16 32) : Prop :=
  (∀ (k0_h1 : k0_cond1 i = 1#1), ∀ a x, ((![v2205] : Fin 1 → IVec S16 32) a x).toNat < S100000.size a)
theorem k0_idx417_inb : ∀ (i : grid0.Coords) (v2205 : IVec S16 32) (k0_hw417 : k0_chk417 i v2205), ∀ (k0_h1 : k0_cond1 i = 1#1), ∀ a x, ((![v2205] : Fin 1 → IVec S16 32) a x).toNat < S100000.size a := fun i v2205 k0_hw417 k0_h1 => k0_hw417 k0_h1

def k0_chk418 (i : grid0.Coords) (v2210 : IVec S16 32) : Prop :=
  (∀ (k0_h1 : k0_cond1 i = 1#1), ∀ a x, ((![v2210] : Fin 1 → IVec S16 32) a x).toNat < S100000.size a)
theorem k0_idx418_inb : ∀ (i : grid0.Coords) (v2210 : IVec S16 32) (k0_hw418 : k0_chk418 i v2210), ∀ (k0_h1 : k0_cond1 i = 1#1), ∀ a x, ((![v2210] : Fin 1 → IVec S16 32) a x).toNat < S100000.size a := fun i v2210 k0_hw418 k0_h1 => k0_hw418 k0_h1

def k0_chk419 (i : grid0.Coords) (v2215 : IVec S16 32) : Prop :=
  (∀ (k0_h1 : k0_cond1 i = 1#1), ∀ a x, ((![v2215] : Fin 1 → IVec S16 32) a x).toNat < S100000.size a)
theorem k0_idx419_inb : ∀ (i : grid0.Coords) (v2215 : IVec S16 32) (k0_hw419 : k0_chk419 i v2215), ∀ (k0_h1 : k0_cond1 i = 1#1), ∀ a x, ((![v2215] : Fin 1 → IVec S16 32) a x).toNat < S100000.size a := fun i v2215 k0_hw419 k0_h1 => k0_hw419 k0_h1

def k0_chk420 (i : grid0.Coords) (v2220 : IVec S16 32) : Prop :=
  (∀ (k0_h1 : k0_cond1 i = 1#1), ∀ a x, ((![v2220] : Fin 1 → IVec S16 32) a x).toNat < S100000.size a)
theorem k0_idx420_inb : ∀ (i : grid0.Coords) (v2220 : IVec S16 32) (k0_hw420 : k0_chk420 i v2220), ∀ (k0_h1 : k0_cond1 i = 1#1), ∀ a x, ((![v2220] : Fin 1 → IVec S16 32) a x).toNat < S100000.size a := fun i v2220 k0_hw420 k0_h1 => k0_hw420 k0_h1

def k0_chk421 (i : grid0.Coords) (v2225 : IVec S16 32) : Prop :=
  (∀ (k0_h1 : k0_cond1 i = 1#1), ∀ a x, ((![v2225] : Fin 1 → IVec S16 32) a x).toNat < S100000.size a)
theorem k0_idx421_inb : ∀ (i : grid0.Coords) (v2225 : IVec S16 32) (k0_hw421 : k0_chk421 i v2225), ∀ (k0_h1 : k0_cond1 i = 1#1), ∀ a x, ((![v2225] : Fin 1 → IVec S16 32) a x).toNat < S100000.size a := fun i v2225 k0_hw421 k0_h1 => k0_hw421 k0_h1

def k0_chk422 (i : grid0.Coords) (v2230 : IVec S16 32) : Prop :=
  (∀ (k0_h1 : k0_cond1 i = 1#1), ∀ a x, ((![v2230] : Fin 1 → IVec S16 32) a x).toNat < S100000.size a)
theorem k0_idx422_inb : ∀ (i : grid0.Coords) (v2230 : IVec S16 32) (k0_hw422 : k0_chk422 i v2230), ∀ (k0_h1 : k0_cond1 i = 1#1), ∀ a x, ((![v2230] : Fin 1 → IVec S16 32) a x).toNat < S100000.size a := fun i v2230 k0_hw422 k0_h1 => k0_hw422 k0_h1

def k0_chk423 (i : grid0.Coords) (v2235 : IVec S16 32) : Prop :=
  (∀ (k0_h1 : k0_cond1 i = 1#1), ∀ a x, ((![v2235] : Fin 1 → IVec S16 32) a x).toNat < S100000.size a)
theorem k0_idx423_inb : ∀ (i : grid0.Coords) (v2235 : IVec S16 32) (k0_hw423 : k0_chk423 i v2235), ∀ (k0_h1 : k0_cond1 i = 1#1), ∀ a x, ((![v2235] : Fin 1 → IVec S16 32) a x).toNat < S100000.size a := fun i v2235 k0_hw423 k0_h1 => k0_hw423 k0_h1

def k0_chk424 (i : grid0.Coords) (v2240 : IVec S16 32) : Prop :=
  (∀ (k0_h1 : k0_cond1 i = 1#1), ∀ a x, ((![v2240] : Fin 1 → IVec S16 32) a x).toNat < S100000.size a)
theorem k0_idx424_inb : ∀ (i : grid0.Coords) (v2240 : IVec S16 32) (k0_hw424 : k0_chk424 i v2240), ∀ (k0_h1 : k0_cond1 i = 1#1), ∀ a x, ((![v2240] : Fin 1 → IVec S16 32) a x).toNat < S100000.size a := fun i v2240 k0_hw424 k0_h1 => k0_hw424 k0_h1

def k0_chk425 (i : grid0.Coords) (v2245 : IVec S16 32) : Prop :=
  (∀ (k0_h1 : k0_cond1 i = 1#1), ∀ a x, ((![v2245] : Fin 1 → IVec S16 32) a x).toNat < S100000.size a)
theorem k0_idx425_inb : ∀ (i : grid0.Coords) (v2245 : IVec S16 32) (k0_hw425 : k0_chk425 i v2245), ∀ (k0_h1 : k0_cond1 i = 1#1), ∀ a x, ((![v2245] : Fin 1 → IVec S16 32) a x).toNat < S100000.size a := fun i v2245 k0_hw425 k0_h1 => k0_hw425 k0_h1

def k0_chk426 (i : grid0.Coords) (v2250 : IVec S16 32) : Prop :=
  (∀ (k0_h1 : k0_cond1 i = 1#1), ∀ a x, ((![v2250] : Fin 1 → IVec S16 32) a x).toNat < S100000.size a)
theorem k0_idx426_inb : ∀ (i : grid0.Coords) (v2250 : IVec S16 32) (k0_hw426 : k0_chk426 i v2250), ∀ (k0_h1 : k0_cond1 i = 1#1), ∀ a x, ((![v2250] : Fin 1 → IVec S16 32) a x).toNat < S100000.size a := fun i v2250 k0_hw426 k0_h1 => k0_hw426 k0_h1

def k0_chk427 (i : grid0.Coords) (v2255 : IVec S16 32) : Prop :=
  (∀ (k0_h1 : k0_cond1 i = 1#1), ∀ a x, ((![v2255] : Fin 1 → IVec S16 32) a x).toNat < S100000.size a)
theorem k0_idx427_inb : ∀ (i : grid0.Coords) (v2255 : IVec S16 32) (k0_hw427 : k0_chk427 i v2255), ∀ (k0_h1 : k0_cond1 i = 1#1), ∀ a x, ((![v2255] : Fin 1 → IVec S16 32) a x).toNat < S100000.size a := fun i v2255 k0_hw427 k0_h1 => k0_hw427 k0_h1

def k0_chk428 (i : grid0.Coords) (v2260 : IVec S16 32) : Prop :=
  (∀ (k0_h1 : k0_cond1 i = 1#1), ∀ a x, ((![v2260] : Fin 1 → IVec S16 32) a x).toNat < S100000.size a)
theorem k0_idx428_inb : ∀ (i : grid0.Coords) (v2260 : IVec S16 32) (k0_hw428 : k0_chk428 i v2260), ∀ (k0_h1 : k0_cond1 i = 1#1), ∀ a x, ((![v2260] : Fin 1 → IVec S16 32) a x).toNat < S100000.size a := fun i v2260 k0_hw428 k0_h1 => k0_hw428 k0_h1

def k0_chk429 (i : grid0.Coords) (v2265 : IVec S16 32) : Prop :=
  (∀ (k0_h1 : k0_cond1 i = 1#1), ∀ a x, ((![v2265] : Fin 1 → IVec S16 32) a x).toNat < S100000.size a)
theorem k0_idx429_inb : ∀ (i : grid0.Coords) (v2265 : IVec S16 32) (k0_hw429 : k0_chk429 i v2265), ∀ (k0_h1 : k0_cond1 i = 1#1), ∀ a x, ((![v2265] : Fin 1 → IVec S16 32) a x).toNat < S100000.size a := fun i v2265 k0_hw429 k0_h1 => k0_hw429 k0_h1

def k0_chk430 (i : grid0.Coords) (v2270 : IVec S16 32) : Prop :=
  (∀ (k0_h1 : k0_cond1 i = 1#1), ∀ a x, ((![v2270] : Fin 1 → IVec S16 32) a x).toNat < S100000.size a)
theorem k0_idx430_inb : ∀ (i : grid0.Coords) (v2270 : IVec S16 32) (k0_hw430 : k0_chk430 i v2270), ∀ (k0_h1 : k0_cond1 i = 1#1), ∀ a x, ((![v2270] : Fin 1 → IVec S16 32) a x).toNat < S100000.size a := fun i v2270 k0_hw430 k0_h1 => k0_hw430 k0_h1

def k0_chk431 (i : grid0.Coords) (v2275 : IVec S16 32) : Prop :=
  (∀ (k0_h1 : k0_cond1 i = 1#1), ∀ a x, ((![v2275] : Fin 1 → IVec S16 32) a x).toNat < S100000.size a)
theorem k0_idx431_inb : ∀ (i : grid0.Coords) (v2275 : IVec S16 32) (k0_hw431 : k0_chk431 i v2275), ∀ (k0_h1 : k0_cond1 i = 1#1), ∀ a x, ((![v2275] : Fin 1 → IVec S16 32) a x).toNat < S100000.size a := fun i v2275 k0_hw431 k0_h1 => k0_hw431 k0_h1

def k0_chk432 (i : grid0.Coords) (v2280 : IVec S16 32) : Prop :=
  (∀ (k0_h1 : k0_cond1 i = 1#1), ∀ a x, ((![v2280] : Fin 1 → IVec S16 32) a x).toNat < S100000.size a)
theorem k0_idx432_inb : ∀ (i : grid0.Coords) (v2280 : IVec S16 32) (k0_hw432 : k0_chk432 i v2280), ∀ (k0_h1 : k0_cond1 i = 1#1), ∀ a x, ((![v2280] : Fin 1 → IVec S16 32) a x).toNat < S100000.size a := fun i v2280 k0_hw432 k0_h1 => k0_hw432 k0_h1

def k0_chk433 (i : grid0.Coords) (v2285 : IVec S16 32) : Prop :=
  (∀ (k0_h1 : k0_cond1 i = 1#1), ∀ a x, ((![v2285] : Fin 1 → IVec S16 32) a x).toNat < S100000.size a)
theorem k0_idx433_inb : ∀ (i : grid0.Coords) (v2285 : IVec S16 32) (k0_hw433 : k0_chk433 i v2285), ∀ (k0_h1 : k0_cond1 i = 1#1), ∀ a x, ((![v2285] : Fin 1 → IVec S16 32) a x).toNat < S100000.size a := fun i v2285 k0_hw433 k0_h1 => k0_hw433 k0_h1

def k0_chk434 (i : grid0.Coords) (v2290 : IVec S16 32) : Prop :=
  (∀ (k0_h1 : k0_cond1 i = 1#1), ∀ a x, ((![v2290] : Fin 1 → IVec S16 32) a x).toNat < S100000.size a)
theorem k0_idx434_inb : ∀ (i : grid0.Coords) (v2290 : IVec S16 32) (k0_hw434 : k0_chk434 i v2290), ∀ (k0_h1 : k0_cond1 i = 1#1), ∀ a x, ((![v2290] : Fin 1 → IVec S16 32) a x).toNat < S100000.size a := fun i v2290 k0_hw434 k0_h1 => k0_hw434 k0_h1

def k0_chk435 (i : grid0.Coords) (v2295 : IVec S16 32) : Prop :=
  (∀ (k0_h1 : k0_cond1 i = 1#1), ∀ a x, ((![v2295] : Fin 1 → IVec S16 32) a x).toNat < S100000.size a)
theorem k0_idx435_inb : ∀ (i : grid0.Coords) (v2295 : IVec S16 32) (k0_hw435 : k0_chk435 i v2295), ∀ (k0_h1 : k0_cond1 i = 1#1), ∀ a x, ((![v2295] : Fin 1 → IVec S16 32) a x).toNat < S100000.size a := fun i v2295 k0_hw435 k0_h1 => k0_hw435 k0_h1

def k0_chk436 (i : grid0.Coords) (v2300 : IVec S16 32) : Prop :=
  (∀ (k0_h1 : k0_cond1 i = 1#1), ∀ a x, ((![v2300] : Fin 1 → IVec S16 32) a x).toNat < S100000.size a)
theorem k0_idx436_inb : ∀ (i : grid0.Coords) (v2300 : IVec S16 32) (k0_hw436 : k0_chk436 i v2300), ∀ (k0_h1 : k0_cond1 i = 1#1), ∀ a x, ((![v2300] : Fin 1 → IVec S16 32) a x).toNat < S100000.size a := fun i v2300 k0_hw436 k0_h1 => k0_hw436 k0_h1

def k0_chk437 (i : grid0.Coords) (v2305 : IVec S16 32) : Prop :=
  (∀ (k0_h1 : k0_cond1 i = 1#1), ∀ a x, ((![v2305] : Fin 1 → IVec S16 32) a x).toNat < S100000.size a)
theorem k0_idx437_inb : ∀ (i : grid0.Coords) (v2305 : IVec S16 32) (k0_hw437 : k0_chk437 i v2305), ∀ (k0_h1 : k0_cond1 i = 1#1), ∀ a x, ((![v2305] : Fin 1 → IVec S16 32) a x).toNat < S100000.size a := fun i v2305 k0_hw437 k0_h1 => k0_hw437 k0_h1

def k0_chk438 (i : grid0.Coords) (v2310 : IVec S16 32) : Prop :=
  (∀ (k0_h1 : k0_cond1 i = 1#1), ∀ a x, ((![v2310] : Fin 1 → IVec S16 32) a x).toNat < S100000.size a)
theorem k0_idx438_inb : ∀ (i : grid0.Coords) (v2310 : IVec S16 32) (k0_hw438 : k0_chk438 i v2310), ∀ (k0_h1 : k0_cond1 i = 1#1), ∀ a x, ((![v2310] : Fin 1 → IVec S16 32) a x).toNat < S100000.size a := fun i v2310 k0_hw438 k0_h1 => k0_hw438 k0_h1

def k0_chk439 (i : grid0.Coords) (v2315 : IVec S16 32) : Prop :=
  (∀ (k0_h1 : k0_cond1 i = 1#1), ∀ a x, ((![v2315] : Fin 1 → IVec S16 32) a x).toNat < S100000.size a)
theorem k0_idx439_inb : ∀ (i : grid0.Coords) (v2315 : IVec S16 32) (k0_hw439 : k0_chk439 i v2315), ∀ (k0_h1 : k0_cond1 i = 1#1), ∀ a x, ((![v2315] : Fin 1 → IVec S16 32) a x).toNat < S100000.size a := fun i v2315 k0_hw439 k0_h1 => k0_hw439 k0_h1

def k0_chk440 (i : grid0.Coords) (v2320 : IVec S16 32) : Prop :=
  (∀ (k0_h1 : k0_cond1 i = 1#1), ∀ a x, ((![v2320] : Fin 1 → IVec S16 32) a x).toNat < S100000.size a)
theorem k0_idx440_inb : ∀ (i : grid0.Coords) (v2320 : IVec S16 32) (k0_hw440 : k0_chk440 i v2320), ∀ (k0_h1 : k0_cond1 i = 1#1), ∀ a x, ((![v2320] : Fin 1 → IVec S16 32) a x).toNat < S100000.size a := fun i v2320 k0_hw440 k0_h1 => k0_hw440 k0_h1

def k0_chk441 (i : grid0.Coords) (v2325 : IVec S16 32) : Prop :=
  (∀ (k0_h1 : k0_cond1 i = 1#1), ∀ a x, ((![v2325] : Fin 1 → IVec S16 32) a x).toNat < S100000.size a)
theorem k0_idx441_inb : ∀ (i : grid0.Coords) (v2325 : IVec S16 32) (k0_hw441 : k0_chk441 i v2325), ∀ (k0_h1 : k0_cond1 i = 1#1), ∀ a x, ((![v2325] : Fin 1 → IVec S16 32) a x).toNat < S100000.size a := fun i v2325 k0_hw441 k0_h1 => k0_hw441 k0_h1

def k0_chk442 (i : grid0.Coords) (v2330 : IVec S16 32) : Prop :=
  (∀ (k0_h1 : k0_cond1 i = 1#1), ∀ a x, ((![v2330] : Fin 1 → IVec S16 32) a x).toNat < S100000.size a)
theorem k0_idx442_inb : ∀ (i : grid0.Coords) (v2330 : IVec S16 32) (k0_hw442 : k0_chk442 i v2330), ∀ (k0_h1 : k0_cond1 i = 1#1), ∀ a x, ((![v2330] : Fin 1 → IVec S16 32) a x).toNat < S100000.size a := fun i v2330 k0_hw442 k0_h1 => k0_hw442 k0_h1

def k0_chk443 (i : grid0.Coords) (v2335 : IVec S16 32) : Prop :=
  (∀ (k0_h1 : k0_cond1 i = 1#1), ∀ a x, ((![v2335] : Fin 1 → IVec S16 32) a x).toNat < S100000.size a)
theorem k0_idx443_inb : ∀ (i : grid0.Coords) (v2335 : IVec S16 32) (k0_hw443 : k0_chk443 i v2335), ∀ (k0_h1 : k0_cond1 i = 1#1), ∀ a x, ((![v2335] : Fin 1 → IVec S16 32) a x).toNat < S100000.size a := fun i v2335 k0_hw443 k0_h1 => k0_hw443 k0_h1

def k0_chk444 (i : grid0.Coords) (v2340 : IVec S16 32) : Prop :=
  (∀ (k0_h1 : k0_cond1 i = 1#1), ∀ a x, ((![v2340] : Fin 1 → IVec S16 32) a x).toNat < S100000.size a)
theorem k0_idx444_inb : ∀ (i : grid0.Coords) (v2340 : IVec S16 32) (k0_hw444 : k0_chk444 i v2340), ∀ (k0_h1 : k0_cond1 i = 1#1), ∀ a x, ((![v2340] : Fin 1 → IVec S16 32) a x).toNat < S100000.size a := fun i v2340 k0_hw444 k0_h1 => k0_hw444 k0_h1

def k0_chk445 (i : grid0.Coords) (v2345 : IVec S16 32) : Prop :=
  (∀ (k0_h1 : k0_cond1 i = 1#1), ∀ a x, ((![v2345] : Fin 1 → IVec S16 32) a x).toNat < S100000.size a)
theorem k0_idx445_inb : ∀ (i : grid0.Coords) (v2345 : IVec S16 32) (k0_hw445 : k0_chk445 i v2345), ∀ (k0_h1 : k0_cond1 i = 1#1), ∀ a x, ((![v2345] : Fin 1 → IVec S16 32) a x).toNat < S100000.size a := fun i v2345 k0_hw445 k0_h1 => k0_hw445 k0_h1

def k0_chk446 (i : grid0.Coords) (v2350 : IVec S16 32) : Prop :=
  (∀ (k0_h1 : k0_cond1 i = 1#1), ∀ a x, ((![v2350] : Fin 1 → IVec S16 32) a x).toNat < S100000.size a)
theorem k0_idx446_inb : ∀ (i : grid0.Coords) (v2350 : IVec S16 32) (k0_hw446 : k0_chk446 i v2350), ∀ (k0_h1 : k0_cond1 i = 1#1), ∀ a x, ((![v2350] : Fin 1 → IVec S16 32) a x).toNat < S100000.size a := fun i v2350 k0_hw446 k0_h1 => k0_hw446 k0_h1

def k0_chk447 (i : grid0.Coords) (v2355 : IVec S16 32) : Prop :=
  (∀ (k0_h1 : k0_cond1 i = 1#1), ∀ a x, ((![v2355] : Fin 1 → IVec S16 32) a x).toNat < S100000.size a)
theorem k0_idx447_inb : ∀ (i : grid0.Coords) (v2355 : IVec S16 32) (k0_hw447 : k0_chk447 i v2355), ∀ (k0_h1 : k0_cond1 i = 1#1), ∀ a x, ((![v2355] : Fin 1 → IVec S16 32) a x).toNat < S100000.size a := fun i v2355 k0_hw447 k0_h1 => k0_hw447 k0_h1

def k0_chk448 (i : grid0.Coords) (v2360 : IVec S16 32) : Prop :=
  (∀ (k0_h1 : k0_cond1 i = 1#1), ∀ a x, ((![v2360] : Fin 1 → IVec S16 32) a x).toNat < S100000.size a)
theorem k0_idx448_inb : ∀ (i : grid0.Coords) (v2360 : IVec S16 32) (k0_hw448 : k0_chk448 i v2360), ∀ (k0_h1 : k0_cond1 i = 1#1), ∀ a x, ((![v2360] : Fin 1 → IVec S16 32) a x).toNat < S100000.size a := fun i v2360 k0_hw448 k0_h1 => k0_hw448 k0_h1

def k0_chk449 (i : grid0.Coords) (v2365 : IVec S16 32) : Prop :=
  (∀ (k0_h1 : k0_cond1 i = 1#1), ∀ a x, ((![v2365] : Fin 1 → IVec S16 32) a x).toNat < S100000.size a)
theorem k0_idx449_inb : ∀ (i : grid0.Coords) (v2365 : IVec S16 32) (k0_hw449 : k0_chk449 i v2365), ∀ (k0_h1 : k0_cond1 i = 1#1), ∀ a x, ((![v2365] : Fin 1 → IVec S16 32) a x).toNat < S100000.size a := fun i v2365 k0_hw449 k0_h1 => k0_hw449 k0_h1

def k0_chk450 (i : grid0.Coords) (v2370 : IVec S16 32) : Prop :=
  (∀ (k0_h1 : k0_cond1 i = 1#1), ∀ a x, ((![v2370] : Fin 1 → IVec S16 32) a x).toNat < S100000.size a)
theorem k0_idx450_inb : ∀ (i : grid0.Coords) (v2370 : IVec S16 32) (k0_hw450 : k0_chk450 i v2370), ∀ (k0_h1 : k0_cond1 i = 1#1), ∀ a x, ((![v2370] : Fin 1 → IVec S16 32) a x).toNat < S100000.size a := fun i v2370 k0_hw450 k0_h1 => k0_hw450 k0_h1

def k0_chk451 (i : grid0.Coords) (v2375 : IVec S16 32) : Prop :=
  (∀ (k0_h1 : k0_cond1 i = 1#1), ∀ a x, ((![v2375] : Fin 1 → IVec S16 32) a x).toNat < S100000.size a)
theorem k0_idx451_inb : ∀ (i : grid0.Coords) (v2375 : IVec S16 32) (k0_hw451 : k0_chk451 i v2375), ∀ (k0_h1 : k0_cond1 i = 1#1), ∀ a x, ((![v2375] : Fin 1 → IVec S16 32) a x).toNat < S100000.size a := fun i v2375 k0_hw451 k0_h1 => k0_hw451 k0_h1

def k0_chk452 (i : grid0.Coords) (v2380 : IVec S16 32) : Prop :=
  (∀ (k0_h1 : k0_cond1 i = 1#1), ∀ a x, ((![v2380] : Fin 1 → IVec S16 32) a x).toNat < S100000.size a)
theorem k0_idx452_inb : ∀ (i : grid0.Coords) (v2380 : IVec S16 32) (k0_hw452 : k0_chk452 i v2380), ∀ (k0_h1 : k0_cond1 i = 1#1), ∀ a x, ((![v2380] : Fin 1 → IVec S16 32) a x).toNat < S100000.size a := fun i v2380 k0_hw452 k0_h1 => k0_hw452 k0_h1

def k0_chk453 (i : grid0.Coords) (v2385 : IVec S16 32) : Prop :=
  (∀ (k0_h1 : k0_cond1 i = 1#1), ∀ a x, ((![v2385] : Fin 1 → IVec S16 32) a x).toNat < S100000.size a)
theorem k0_idx453_inb : ∀ (i : grid0.Coords) (v2385 : IVec S16 32) (k0_hw453 : k0_chk453 i v2385), ∀ (k0_h1 : k0_cond1 i = 1#1), ∀ a x, ((![v2385] : Fin 1 → IVec S16 32) a x).toNat < S100000.size a := fun i v2385 k0_hw453 k0_h1 => k0_hw453 k0_h1

def k0_chk454 (i : grid0.Coords) (v2390 : IVec S16 32) : Prop :=
  (∀ (k0_h1 : k0_cond1 i = 1#1), ∀ a x, ((![v2390] : Fin 1 → IVec S16 32) a x).toNat < S100000.size a)
theorem k0_idx454_inb : ∀ (i : grid0.Coords) (v2390 : IVec S16 32) (k0_hw454 : k0_chk454 i v2390), ∀ (k0_h1 : k0_cond1 i = 1#1), ∀ a x, ((![v2390] : Fin 1 → IVec S16 32) a x).toNat < S100000.size a := fun i v2390 k0_hw454 k0_h1 => k0_hw454 k0_h1

def k0_chk455 (i : grid0.Coords) (v2395 : IVec S16 32) : Prop :=
  (∀ (k0_h1 : k0_cond1 i = 1#1), ∀ a x, ((![v2395] : Fin 1 → IVec S16 32) a x).toNat < S100000.size a)
theorem k0_idx455_inb : ∀ (i : grid0.Coords) (v2395 : IVec S16 32) (k0_hw455 : k0_chk455 i v2395), ∀ (k0_h1 : k0_cond1 i = 1#1), ∀ a x, ((![v2395] : Fin 1 → IVec S16 32) a x).toNat < S100000.size a := fun i v2395 k0_hw455 k0_h1 => k0_hw455 k0_h1

def k0_chk456 (i : grid0.Coords) (v2400 : IVec S16 32) : Prop :=
  (∀ (k0_h1 : k0_cond1 i = 1#1), ∀ a x, ((![v2400] : Fin 1 → IVec S16 32) a x).toNat < S100000.size a)
theorem k0_idx456_inb : ∀ (i : grid0.Coords) (v2400 : IVec S16 32) (k0_hw456 : k0_chk456 i v2400), ∀ (k0_h1 : k0_cond1 i = 1#1), ∀ a x, ((![v2400] : Fin 1 → IVec S16 32) a x).toNat < S100000.size a := fun i v2400 k0_hw456 k0_h1 => k0_hw456 k0_h1

def k0_chk457 (i : grid0.Coords) (v2405 : IVec S16 32) : Prop :=
  (∀ (k0_h1 : k0_cond1 i = 1#1), ∀ a x, ((![v2405] : Fin 1 → IVec S16 32) a x).toNat < S100000.size a)
theorem k0_idx457_inb : ∀ (i : grid0.Coords) (v2405 : IVec S16 32) (k0_hw457 : k0_chk457 i v2405), ∀ (k0_h1 : k0_cond1 i = 1#1), ∀ a x, ((![v2405] : Fin 1 → IVec S16 32) a x).toNat < S100000.size a := fun i v2405 k0_hw457 k0_h1 => k0_hw457 k0_h1

def k0_chk458 (i : grid0.Coords) (v2410 : IVec S16 32) : Prop :=
  (∀ (k0_h1 : k0_cond1 i = 1#1), ∀ a x, ((![v2410] : Fin 1 → IVec S16 32) a x).toNat < S100000.size a)
theorem k0_idx458_inb : ∀ (i : grid0.Coords) (v2410 : IVec S16 32) (k0_hw458 : k0_chk458 i v2410), ∀ (k0_h1 : k0_cond1 i = 1#1), ∀ a x, ((![v2410] : Fin 1 → IVec S16 32) a x).toNat < S100000.size a := fun i v2410 k0_hw458 k0_h1 => k0_hw458 k0_h1

def k0_chk459 (i : grid0.Coords) (v2415 : IVec S16 32) : Prop :=
  (∀ (k0_h1 : k0_cond1 i = 1#1), ∀ a x, ((![v2415] : Fin 1 → IVec S16 32) a x).toNat < S100000.size a)
theorem k0_idx459_inb : ∀ (i : grid0.Coords) (v2415 : IVec S16 32) (k0_hw459 : k0_chk459 i v2415), ∀ (k0_h1 : k0_cond1 i = 1#1), ∀ a x, ((![v2415] : Fin 1 → IVec S16 32) a x).toNat < S100000.size a := fun i v2415 k0_hw459 k0_h1 => k0_hw459 k0_h1

def k0_chk460 (i : grid0.Coords) (v2420 : IVec S16 32) : Prop :=
  (∀ (k0_h1 : k0_cond1 i = 1#1), ∀ a x, ((![v2420] : Fin 1 → IVec S16 32) a x).toNat < S100000.size a)
theorem k0_idx460_inb : ∀ (i : grid0.Coords) (v2420 : IVec S16 32) (k0_hw460 : k0_chk460 i v2420), ∀ (k0_h1 : k0_cond1 i = 1#1), ∀ a x, ((![v2420] : Fin 1 → IVec S16 32) a x).toNat < S100000.size a := fun i v2420 k0_hw460 k0_h1 => k0_hw460 k0_h1

def k0_chk461 (i : grid0.Coords) (v2425 : IVec S16 32) : Prop :=
  (∀ (k0_h1 : k0_cond1 i = 1#1), ∀ a x, ((![v2425] : Fin 1 → IVec S16 32) a x).toNat < S100000.size a)
theorem k0_idx461_inb : ∀ (i : grid0.Coords) (v2425 : IVec S16 32) (k0_hw461 : k0_chk461 i v2425), ∀ (k0_h1 : k0_cond1 i = 1#1), ∀ a x, ((![v2425] : Fin 1 → IVec S16 32) a x).toNat < S100000.size a := fun i v2425 k0_hw461 k0_h1 => k0_hw461 k0_h1

def k0_chk462 (i : grid0.Coords) (v2430 : IVec S16 32) : Prop :=
  (∀ (k0_h1 : k0_cond1 i = 1#1), ∀ a x, ((![v2430] : Fin 1 → IVec S16 32) a x).toNat < S100000.size a)
theorem k0_idx462_inb : ∀ (i : grid0.Coords) (v2430 : IVec S16 32) (k0_hw462 : k0_chk462 i v2430), ∀ (k0_h1 : k0_cond1 i = 1#1), ∀ a x, ((![v2430] : Fin 1 → IVec S16 32) a x).toNat < S100000.size a := fun i v2430 k0_hw462 k0_h1 => k0_hw462 k0_h1

def k0_chk463 (i : grid0.Coords) (v2435 : IVec S16 32) : Prop :=
  (∀ (k0_h1 : k0_cond1 i = 1#1), ∀ a x, ((![v2435] : Fin 1 → IVec S16 32) a x).toNat < S100000.size a)
theorem k0_idx463_inb : ∀ (i : grid0.Coords) (v2435 : IVec S16 32) (k0_hw463 : k0_chk463 i v2435), ∀ (k0_h1 : k0_cond1 i = 1#1), ∀ a x, ((![v2435] : Fin 1 → IVec S16 32) a x).toNat < S100000.size a := fun i v2435 k0_hw463 k0_h1 => k0_hw463 k0_h1

def k0_chk464 (i : grid0.Coords) (v2440 : IVec S16 32) : Prop :=
  (∀ (k0_h1 : k0_cond1 i = 1#1), ∀ a x, ((![v2440] : Fin 1 → IVec S16 32) a x).toNat < S100000.size a)
theorem k0_idx464_inb : ∀ (i : grid0.Coords) (v2440 : IVec S16 32) (k0_hw464 : k0_chk464 i v2440), ∀ (k0_h1 : k0_cond1 i = 1#1), ∀ a x, ((![v2440] : Fin 1 → IVec S16 32) a x).toNat < S100000.size a := fun i v2440 k0_hw464 k0_h1 => k0_hw464 k0_h1

def k0_chk465 (i : grid0.Coords) (v2445 : IVec S16 32) : Prop :=
  (∀ (k0_h1 : k0_cond1 i = 1#1), ∀ a x, ((![v2445] : Fin 1 → IVec S16 32) a x).toNat < S100000.size a)
theorem k0_idx465_inb : ∀ (i : grid0.Coords) (v2445 : IVec S16 32) (k0_hw465 : k0_chk465 i v2445), ∀ (k0_h1 : k0_cond1 i = 1#1), ∀ a x, ((![v2445] : Fin 1 → IVec S16 32) a x).toNat < S100000.size a := fun i v2445 k0_hw465 k0_h1 => k0_hw465 k0_h1

def k0_chk466 (i : grid0.Coords) (v2450 : IVec S16 32) : Prop :=
  (∀ (k0_h1 : k0_cond1 i = 1#1), ∀ a x, ((![v2450] : Fin 1 → IVec S16 32) a x).toNat < S100000.size a)
theorem k0_idx466_inb : ∀ (i : grid0.Coords) (v2450 : IVec S16 32) (k0_hw466 : k0_chk466 i v2450), ∀ (k0_h1 : k0_cond1 i = 1#1), ∀ a x, ((![v2450] : Fin 1 → IVec S16 32) a x).toNat < S100000.size a := fun i v2450 k0_hw466 k0_h1 => k0_hw466 k0_h1

def k0_chk467 (i : grid0.Coords) (v2455 : IVec S16 32) : Prop :=
  (∀ (k0_h1 : k0_cond1 i = 1#1), ∀ a x, ((![v2455] : Fin 1 → IVec S16 32) a x).toNat < S100000.size a)
theorem k0_idx467_inb : ∀ (i : grid0.Coords) (v2455 : IVec S16 32) (k0_hw467 : k0_chk467 i v2455), ∀ (k0_h1 : k0_cond1 i = 1#1), ∀ a x, ((![v2455] : Fin 1 → IVec S16 32) a x).toNat < S100000.size a := fun i v2455 k0_hw467 k0_h1 => k0_hw467 k0_h1

def k0_chk468 (i : grid0.Coords) (v2460 : IVec S16 32) : Prop :=
  (∀ (k0_h1 : k0_cond1 i = 1#1), ∀ a x, ((![v2460] : Fin 1 → IVec S16 32) a x).toNat < S100000.size a)
theorem k0_idx468_inb : ∀ (i : grid0.Coords) (v2460 : IVec S16 32) (k0_hw468 : k0_chk468 i v2460), ∀ (k0_h1 : k0_cond1 i = 1#1), ∀ a x, ((![v2460] : Fin 1 → IVec S16 32) a x).toNat < S100000.size a := fun i v2460 k0_hw468 k0_h1 => k0_hw468 k0_h1

def k0_chk469 (i : grid0.Coords) (v2465 : IVec S16 32) : Prop :=
  (∀ (k0_h1 : k0_cond1 i = 1#1), ∀ a x, ((![v2465] : Fin 1 → IVec S16 32) a x).toNat < S100000.size a)
theorem k0_idx469_inb : ∀ (i : grid0.Coords) (v2465 : IVec S16 32) (k0_hw469 : k0_chk469 i v2465), ∀ (k0_h1 : k0_cond1 i = 1#1), ∀ a x, ((![v2465] : Fin 1 → IVec S16 32) a x).toNat < S100000.size a := fun i v2465 k0_hw469 k0_h1 => k0_hw469 k0_h1

def k0_chk470 (i : grid0.Coords) (v2470 : IVec S16 32) : Prop :=
  (∀ (k0_h1 : k0_cond1 i = 1#1), ∀ a x, ((![v2470] : Fin 1 → IVec S16 32) a x).toNat < S100000.size a)
theorem k0_idx470_inb : ∀ (i : grid0.Coords) (v2470 : IVec S16 32) (k0_hw470 : k0_chk470 i v2470), ∀ (k0_h1 : k0_cond1 i = 1#1), ∀ a x, ((![v2470] : Fin 1 → IVec S16 32) a x).toNat < S100000.size a := fun i v2470 k0_hw470 k0_h1 => k0_hw470 k0_h1

def k0_chk471 (i : grid0.Coords) (v2475 : IVec S16 32) : Prop :=
  (∀ (k0_h1 : k0_cond1 i = 1#1), ∀ a x, ((![v2475] : Fin 1 → IVec S16 32) a x).toNat < S100000.size a)
theorem k0_idx471_inb : ∀ (i : grid0.Coords) (v2475 : IVec S16 32) (k0_hw471 : k0_chk471 i v2475), ∀ (k0_h1 : k0_cond1 i = 1#1), ∀ a x, ((![v2475] : Fin 1 → IVec S16 32) a x).toNat < S100000.size a := fun i v2475 k0_hw471 k0_h1 => k0_hw471 k0_h1

def k0_chk472 (i : grid0.Coords) (v2480 : IVec S16 32) : Prop :=
  (∀ (k0_h1 : k0_cond1 i = 1#1), ∀ a x, ((![v2480] : Fin 1 → IVec S16 32) a x).toNat < S100000.size a)
theorem k0_idx472_inb : ∀ (i : grid0.Coords) (v2480 : IVec S16 32) (k0_hw472 : k0_chk472 i v2480), ∀ (k0_h1 : k0_cond1 i = 1#1), ∀ a x, ((![v2480] : Fin 1 → IVec S16 32) a x).toNat < S100000.size a := fun i v2480 k0_hw472 k0_h1 => k0_hw472 k0_h1

def k0_chk473 (i : grid0.Coords) (v2485 : IVec S16 32) : Prop :=
  (∀ (k0_h1 : k0_cond1 i = 1#1), ∀ a x, ((![v2485] : Fin 1 → IVec S16 32) a x).toNat < S100000.size a)
theorem k0_idx473_inb : ∀ (i : grid0.Coords) (v2485 : IVec S16 32) (k0_hw473 : k0_chk473 i v2485), ∀ (k0_h1 : k0_cond1 i = 1#1), ∀ a x, ((![v2485] : Fin 1 → IVec S16 32) a x).toNat < S100000.size a := fun i v2485 k0_hw473 k0_h1 => k0_hw473 k0_h1

def k0_chk474 (i : grid0.Coords) (v2490 : IVec S16 32) : Prop :=
  (∀ (k0_h1 : k0_cond1 i = 1#1), ∀ a x, ((![v2490] : Fin 1 → IVec S16 32) a x).toNat < S100000.size a)
theorem k0_idx474_inb : ∀ (i : grid0.Coords) (v2490 : IVec S16 32) (k0_hw474 : k0_chk474 i v2490), ∀ (k0_h1 : k0_cond1 i = 1#1), ∀ a x, ((![v2490] : Fin 1 → IVec S16 32) a x).toNat < S100000.size a := fun i v2490 k0_hw474 k0_h1 => k0_hw474 k0_h1

def k0_chk475 (i : grid0.Coords) (v2495 : IVec S16 32) : Prop :=
  (∀ (k0_h1 : k0_cond1 i = 1#1), ∀ a x, ((![v2495] : Fin 1 → IVec S16 32) a x).toNat < S100000.size a)
theorem k0_idx475_inb : ∀ (i : grid0.Coords) (v2495 : IVec S16 32) (k0_hw475 : k0_chk475 i v2495), ∀ (k0_h1 : k0_cond1 i = 1#1), ∀ a x, ((![v2495] : Fin 1 → IVec S16 32) a x).toNat < S100000.size a := fun i v2495 k0_hw475 k0_h1 => k0_hw475 k0_h1

def k0_chk476 (i : grid0.Coords) (v2500 : IVec S16 32) : Prop :=
  (∀ (k0_h1 : k0_cond1 i = 1#1), ∀ a x, ((![v2500] : Fin 1 → IVec S16 32) a x).toNat < S100000.size a)
theorem k0_idx476_inb : ∀ (i : grid0.Coords) (v2500 : IVec S16 32) (k0_hw476 : k0_chk476 i v2500), ∀ (k0_h1 : k0_cond1 i = 1#1), ∀ a x, ((![v2500] : Fin 1 → IVec S16 32) a x).toNat < S100000.size a := fun i v2500 k0_hw476 k0_h1 => k0_hw476 k0_h1

def k0_chk477 (i : grid0.Coords) (v2505 : IVec S16 32) : Prop :=
  (∀ (k0_h1 : k0_cond1 i = 1#1), ∀ a x, ((![v2505] : Fin 1 → IVec S16 32) a x).toNat < S100000.size a)
theorem k0_idx477_inb : ∀ (i : grid0.Coords) (v2505 : IVec S16 32) (k0_hw477 : k0_chk477 i v2505), ∀ (k0_h1 : k0_cond1 i = 1#1), ∀ a x, ((![v2505] : Fin 1 → IVec S16 32) a x).toNat < S100000.size a := fun i v2505 k0_hw477 k0_h1 => k0_hw477 k0_h1

def k0_chk478 (i : grid0.Coords) (v2510 : IVec S16 32) : Prop :=
  (∀ (k0_h1 : k0_cond1 i = 1#1), ∀ a x, ((![v2510] : Fin 1 → IVec S16 32) a x).toNat < S100000.size a)
theorem k0_idx478_inb : ∀ (i : grid0.Coords) (v2510 : IVec S16 32) (k0_hw478 : k0_chk478 i v2510), ∀ (k0_h1 : k0_cond1 i = 1#1), ∀ a x, ((![v2510] : Fin 1 → IVec S16 32) a x).toNat < S100000.size a := fun i v2510 k0_hw478 k0_h1 => k0_hw478 k0_h1

def k0_chk479 (i : grid0.Coords) (v2515 : IVec S16 32) : Prop :=
  (∀ (k0_h1 : k0_cond1 i = 1#1), ∀ a x, ((![v2515] : Fin 1 → IVec S16 32) a x).toNat < S100000.size a)
theorem k0_idx479_inb : ∀ (i : grid0.Coords) (v2515 : IVec S16 32) (k0_hw479 : k0_chk479 i v2515), ∀ (k0_h1 : k0_cond1 i = 1#1), ∀ a x, ((![v2515] : Fin 1 → IVec S16 32) a x).toNat < S100000.size a := fun i v2515 k0_hw479 k0_h1 => k0_hw479 k0_h1

def k0_chk480 (i : grid0.Coords) (v2520 : IVec S16 32) : Prop :=
  (∀ (k0_h1 : k0_cond1 i = 1#1), ∀ a x, ((![v2520] : Fin 1 → IVec S16 32) a x).toNat < S100000.size a)
theorem k0_idx480_inb : ∀ (i : grid0.Coords) (v2520 : IVec S16 32) (k0_hw480 : k0_chk480 i v2520), ∀ (k0_h1 : k0_cond1 i = 1#1), ∀ a x, ((![v2520] : Fin 1 → IVec S16 32) a x).toNat < S100000.size a := fun i v2520 k0_hw480 k0_h1 => k0_hw480 k0_h1

def k0_chk481 (i : grid0.Coords) (v2525 : IVec S16 32) : Prop :=
  (∀ (k0_h1 : k0_cond1 i = 1#1), ∀ a x, ((![v2525] : Fin 1 → IVec S16 32) a x).toNat < S100000.size a)
theorem k0_idx481_inb : ∀ (i : grid0.Coords) (v2525 : IVec S16 32) (k0_hw481 : k0_chk481 i v2525), ∀ (k0_h1 : k0_cond1 i = 1#1), ∀ a x, ((![v2525] : Fin 1 → IVec S16 32) a x).toNat < S100000.size a := fun i v2525 k0_hw481 k0_h1 => k0_hw481 k0_h1

def k0_chk482 (i : grid0.Coords) (v2530 : IVec S16 32) : Prop :=
  (∀ (k0_h1 : k0_cond1 i = 1#1), ∀ a x, ((![v2530] : Fin 1 → IVec S16 32) a x).toNat < S100000.size a)
theorem k0_idx482_inb : ∀ (i : grid0.Coords) (v2530 : IVec S16 32) (k0_hw482 : k0_chk482 i v2530), ∀ (k0_h1 : k0_cond1 i = 1#1), ∀ a x, ((![v2530] : Fin 1 → IVec S16 32) a x).toNat < S100000.size a := fun i v2530 k0_hw482 k0_h1 => k0_hw482 k0_h1

def k0_chk483 (i : grid0.Coords) (v2535 : IVec S16 32) : Prop :=
  (∀ (k0_h1 : k0_cond1 i = 1#1), ∀ a x, ((![v2535] : Fin 1 → IVec S16 32) a x).toNat < S100000.size a)
theorem k0_idx483_inb : ∀ (i : grid0.Coords) (v2535 : IVec S16 32) (k0_hw483 : k0_chk483 i v2535), ∀ (k0_h1 : k0_cond1 i = 1#1), ∀ a x, ((![v2535] : Fin 1 → IVec S16 32) a x).toNat < S100000.size a := fun i v2535 k0_hw483 k0_h1 => k0_hw483 k0_h1

def k0_chk484 (i : grid0.Coords) (v2540 : IVec S16 32) : Prop :=
  (∀ (k0_h1 : k0_cond1 i = 1#1), ∀ a x, ((![v2540] : Fin 1 → IVec S16 32) a x).toNat < S100000.size a)
theorem k0_idx484_inb : ∀ (i : grid0.Coords) (v2540 : IVec S16 32) (k0_hw484 : k0_chk484 i v2540), ∀ (k0_h1 : k0_cond1 i = 1#1), ∀ a x, ((![v2540] : Fin 1 → IVec S16 32) a x).toNat < S100000.size a := fun i v2540 k0_hw484 k0_h1 => k0_hw484 k0_h1

def k0_chk485 (i : grid0.Coords) (v2545 : IVec S16 32) : Prop :=
  (∀ (k0_h1 : k0_cond1 i = 1#1), ∀ a x, ((![v2545] : Fin 1 → IVec S16 32) a x).toNat < S100000.size a)
theorem k0_idx485_inb : ∀ (i : grid0.Coords) (v2545 : IVec S16 32) (k0_hw485 : k0_chk485 i v2545), ∀ (k0_h1 : k0_cond1 i = 1#1), ∀ a x, ((![v2545] : Fin 1 → IVec S16 32) a x).toNat < S100000.size a := fun i v2545 k0_hw485 k0_h1 => k0_hw485 k0_h1

def k0_chk486 (i : grid0.Coords) (v2550 : IVec S16 32) : Prop :=
  (∀ (k0_h1 : k0_cond1 i = 1#1), ∀ a x, ((![v2550] : Fin 1 → IVec S16 32) a x).toNat < S100000.size a)
theorem k0_idx486_inb : ∀ (i : grid0.Coords) (v2550 : IVec S16 32) (k0_hw486 : k0_chk486 i v2550), ∀ (k0_h1 : k0_cond1 i = 1#1), ∀ a x, ((![v2550] : Fin 1 → IVec S16 32) a x).toNat < S100000.size a := fun i v2550 k0_hw486 k0_h1 => k0_hw486 k0_h1

def k0_chk487 (i : grid0.Coords) (v2555 : IVec S16 32) : Prop :=
  (∀ (k0_h1 : k0_cond1 i = 1#1), ∀ a x, ((![v2555] : Fin 1 → IVec S16 32) a x).toNat < S100000.size a)
theorem k0_idx487_inb : ∀ (i : grid0.Coords) (v2555 : IVec S16 32) (k0_hw487 : k0_chk487 i v2555), ∀ (k0_h1 : k0_cond1 i = 1#1), ∀ a x, ((![v2555] : Fin 1 → IVec S16 32) a x).toNat < S100000.size a := fun i v2555 k0_hw487 k0_h1 => k0_hw487 k0_h1

def k0_chk488 (i : grid0.Coords) (v2560 : IVec S16 32) : Prop :=
  (∀ (k0_h1 : k0_cond1 i = 1#1), ∀ a x, ((![v2560] : Fin 1 → IVec S16 32) a x).toNat < S100000.size a)
theorem k0_idx488_inb : ∀ (i : grid0.Coords) (v2560 : IVec S16 32) (k0_hw488 : k0_chk488 i v2560), ∀ (k0_h1 : k0_cond1 i = 1#1), ∀ a x, ((![v2560] : Fin 1 → IVec S16 32) a x).toNat < S100000.size a := fun i v2560 k0_hw488 k0_h1 => k0_hw488 k0_h1

def k0_chk489 (i : grid0.Coords) (v2565 : IVec S16 32) : Prop :=
  (∀ (k0_h1 : k0_cond1 i = 1#1), ∀ a x, ((![v2565] : Fin 1 → IVec S16 32) a x).toNat < S100000.size a)
theorem k0_idx489_inb : ∀ (i : grid0.Coords) (v2565 : IVec S16 32) (k0_hw489 : k0_chk489 i v2565), ∀ (k0_h1 : k0_cond1 i = 1#1), ∀ a x, ((![v2565] : Fin 1 → IVec S16 32) a x).toNat < S100000.size a := fun i v2565 k0_hw489 k0_h1 => k0_hw489 k0_h1

def k0_chk490 (i : grid0.Coords) (v2570 : IVec S16 32) : Prop :=
  (∀ (k0_h1 : k0_cond1 i = 1#1), ∀ a x, ((![v2570] : Fin 1 → IVec S16 32) a x).toNat < S100000.size a)
theorem k0_idx490_inb : ∀ (i : grid0.Coords) (v2570 : IVec S16 32) (k0_hw490 : k0_chk490 i v2570), ∀ (k0_h1 : k0_cond1 i = 1#1), ∀ a x, ((![v2570] : Fin 1 → IVec S16 32) a x).toNat < S100000.size a := fun i v2570 k0_hw490 k0_h1 => k0_hw490 k0_h1

def k0_chk491 (i : grid0.Coords) (v2575 : IVec S16 32) : Prop :=
  (∀ (k0_h1 : k0_cond1 i = 1#1), ∀ a x, ((![v2575] : Fin 1 → IVec S16 32) a x).toNat < S100000.size a)
theorem k0_idx491_inb : ∀ (i : grid0.Coords) (v2575 : IVec S16 32) (k0_hw491 : k0_chk491 i v2575), ∀ (k0_h1 : k0_cond1 i = 1#1), ∀ a x, ((![v2575] : Fin 1 → IVec S16 32) a x).toNat < S100000.size a := fun i v2575 k0_hw491 k0_h1 => k0_hw491 k0_h1

def k0_chk492 (i : grid0.Coords) (v2580 : IVec S16 32) : Prop :=
  (∀ (k0_h1 : k0_cond1 i = 1#1), ∀ a x, ((![v2580] : Fin 1 → IVec S16 32) a x).toNat < S100000.size a)
theorem k0_idx492_inb : ∀ (i : grid0.Coords) (v2580 : IVec S16 32) (k0_hw492 : k0_chk492 i v2580), ∀ (k0_h1 : k0_cond1 i = 1#1), ∀ a x, ((![v2580] : Fin 1 → IVec S16 32) a x).toNat < S100000.size a := fun i v2580 k0_hw492 k0_h1 => k0_hw492 k0_h1

def k0_chk493 (i : grid0.Coords) (v2585 : IVec S16 32) : Prop :=
  (∀ (k0_h1 : k0_cond1 i = 1#1), ∀ a x, ((![v2585] : Fin 1 → IVec S16 32) a x).toNat < S100000.size a)
theorem k0_idx493_inb : ∀ (i : grid0.Coords) (v2585 : IVec S16 32) (k0_hw493 : k0_chk493 i v2585), ∀ (k0_h1 : k0_cond1 i = 1#1), ∀ a x, ((![v2585] : Fin 1 → IVec S16 32) a x).toNat < S100000.size a := fun i v2585 k0_hw493 k0_h1 => k0_hw493 k0_h1

def k0_chk494 (i : grid0.Coords) (v2590 : IVec S16 32) : Prop :=
  (∀ (k0_h1 : k0_cond1 i = 1#1), ∀ a x, ((![v2590] : Fin 1 → IVec S16 32) a x).toNat < S100000.size a)
theorem k0_idx494_inb : ∀ (i : grid0.Coords) (v2590 : IVec S16 32) (k0_hw494 : k0_chk494 i v2590), ∀ (k0_h1 : k0_cond1 i = 1#1), ∀ a x, ((![v2590] : Fin 1 → IVec S16 32) a x).toNat < S100000.size a := fun i v2590 k0_hw494 k0_h1 => k0_hw494 k0_h1

def k0_chk495 (i : grid0.Coords) (v2595 : IVec S16 32) : Prop :=
  (∀ (k0_h1 : k0_cond1 i = 1#1), ∀ a x, ((![v2595] : Fin 1 → IVec S16 32) a x).toNat < S100000.size a)
theorem k0_idx495_inb : ∀ (i : grid0.Coords) (v2595 : IVec S16 32) (k0_hw495 : k0_chk495 i v2595), ∀ (k0_h1 : k0_cond1 i = 1#1), ∀ a x, ((![v2595] : Fin 1 → IVec S16 32) a x).toNat < S100000.size a := fun i v2595 k0_hw495 k0_h1 => k0_hw495 k0_h1

def k0_chk496 (i : grid0.Coords) (v2600 : IVec S16 32) : Prop :=
  (∀ (k0_h1 : k0_cond1 i = 1#1), ∀ a x, ((![v2600] : Fin 1 → IVec S16 32) a x).toNat < S100000.size a)
theorem k0_idx496_inb : ∀ (i : grid0.Coords) (v2600 : IVec S16 32) (k0_hw496 : k0_chk496 i v2600), ∀ (k0_h1 : k0_cond1 i = 1#1), ∀ a x, ((![v2600] : Fin 1 → IVec S16 32) a x).toNat < S100000.size a := fun i v2600 k0_hw496 k0_h1 => k0_hw496 k0_h1

def k0_chk497 (i : grid0.Coords) (v2605 : IVec S16 32) : Prop :=
  (∀ (k0_h1 : k0_cond1 i = 1#1), ∀ a x, ((![v2605] : Fin 1 → IVec S16 32) a x).toNat < S100000.size a)
theorem k0_idx497_inb : ∀ (i : grid0.Coords) (v2605 : IVec S16 32) (k0_hw497 : k0_chk497 i v2605), ∀ (k0_h1 : k0_cond1 i = 1#1), ∀ a x, ((![v2605] : Fin 1 → IVec S16 32) a x).toNat < S100000.size a := fun i v2605 k0_hw497 k0_h1 => k0_hw497 k0_h1

def k0_chk498 (i : grid0.Coords) (v2610 : IVec S16 32) : Prop :=
  (∀ (k0_h1 : k0_cond1 i = 1#1), ∀ a x, ((![v2610] : Fin 1 → IVec S16 32) a x).toNat < S100000.size a)
theorem k0_idx498_inb : ∀ (i : grid0.Coords) (v2610 : IVec S16 32) (k0_hw498 : k0_chk498 i v2610), ∀ (k0_h1 : k0_cond1 i = 1#1), ∀ a x, ((![v2610] : Fin 1 → IVec S16 32) a x).toNat < S100000.size a := fun i v2610 k0_hw498 k0_h1 => k0_hw498 k0_h1

def k0_chk499 (i : grid0.Coords) (v2615 : IVec S16 32) : Prop :=
  (∀ (k0_h1 : k0_cond1 i = 1#1), ∀ a x, ((![v2615] : Fin 1 → IVec S16 32) a x).toNat < S100000.size a)
theorem k0_idx499_inb : ∀ (i : grid0.Coords) (v2615 : IVec S16 32) (k0_hw499 : k0_chk499 i v2615), ∀ (k0_h1 : k0_cond1 i = 1#1), ∀ a x, ((![v2615] : Fin 1 → IVec S16 32) a x).toNat < S100000.size a := fun i v2615 k0_hw499 k0_h1 => k0_hw499 k0_h1

def k0_chk500 (i : grid0.Coords) (v2620 : IVec S16 32) : Prop :=
  (∀ (k0_h1 : k0_cond1 i = 1#1), ∀ a x, ((![v2620] : Fin 1 → IVec S16 32) a x).toNat < S100000.size a)
theorem k0_idx500_inb : ∀ (i : grid0.Coords) (v2620 : IVec S16 32) (k0_hw500 : k0_chk500 i v2620), ∀ (k0_h1 : k0_cond1 i = 1#1), ∀ a x, ((![v2620] : Fin 1 → IVec S16 32) a x).toNat < S100000.size a := fun i v2620 k0_hw500 k0_h1 => k0_hw500 k0_h1

def k0_chk501 (i : grid0.Coords) (v2625 : IVec S16 32) : Prop :=
  (∀ (k0_h1 : k0_cond1 i = 1#1), ∀ a x, ((![v2625] : Fin 1 → IVec S16 32) a x).toNat < S100000.size a)
theorem k0_idx501_inb : ∀ (i : grid0.Coords) (v2625 : IVec S16 32) (k0_hw501 : k0_chk501 i v2625), ∀ (k0_h1 : k0_cond1 i = 1#1), ∀ a x, ((![v2625] : Fin 1 → IVec S16 32) a x).toNat < S100000.size a := fun i v2625 k0_hw501 k0_h1 => k0_hw501 k0_h1

def k0_chk502 (i : grid0.Coords) (v2630 : IVec S16 32) : Prop :=
  (∀ (k0_h1 : k0_cond1 i = 1#1), ∀ a x, ((![v2630] : Fin 1 → IVec S16 32) a x).toNat < S100000.size a)
theorem k0_idx502_inb : ∀ (i : grid0.Coords) (v2630 : IVec S16 32) (k0_hw502 : k0_chk502 i v2630), ∀ (k0_h1 : k0_cond1 i = 1#1), ∀ a x, ((![v2630] : Fin 1 → IVec S16 32) a x).toNat < S100000.size a := fun i v2630 k0_hw502 k0_h1 => k0_hw502 k0_h1

def k0_chk503 (i : grid0.Coords) (v2635 : IVec S16 32) : Prop :=
  (∀ (k0_h1 : k0_cond1 i = 1#1), ∀ a x, ((![v2635] : Fin 1 → IVec S16 32) a x).toNat < S100000.size a)
theorem k0_idx503_inb : ∀ (i : grid0.Coords) (v2635 : IVec S16 32) (k0_hw503 : k0_chk503 i v2635), ∀ (k0_h1 : k0_cond1 i = 1#1), ∀ a x, ((![v2635] : Fin 1 → IVec S16 32) a x).toNat < S100000.size a := fun i v2635 k0_hw503 k0_h1 => k0_hw503 k0_h1

def k0_chk504 (i : grid0.Coords) (v2640 : IVec S16 32) : Prop :=
  (∀ (k0_h1 : k0_cond1 i = 1#1), ∀ a x, ((![v2640] : Fin 1 → IVec S16 32) a x).toNat < S100000.size a)
theorem k0_idx504_inb : ∀ (i : grid0.Coords) (v2640 : IVec S16 32) (k0_hw504 : k0_chk504 i v2640), ∀ (k0_h1 : k0_cond1 i = 1#1), ∀ a x, ((![v2640] : Fin 1 → IVec S16 32) a x).toNat < S100000.size a := fun i v2640 k0_hw504 k0_h1 => k0_hw504 k0_h1

def k0_chk505 (i : grid0.Coords) (v2645 : IVec S16 32) : Prop :=
  (∀ (k0_h1 : k0_cond1 i = 1#1), ∀ a x, ((![v2645] : Fin 1 → IVec S16 32) a x).toNat < S100000.size a)
theorem k0_idx505_inb : ∀ (i : grid0.Coords) (v2645 : IVec S16 32) (k0_hw505 : k0_chk505 i v2645), ∀ (k0_h1 : k0_cond1 i = 1#1), ∀ a x, ((![v2645] : Fin 1 → IVec S16 32) a x).toNat < S100000.size a := fun i v2645 k0_hw505 k0_h1 => k0_hw505 k0_h1

def k0_chk506 (i : grid0.Coords) (v2650 : IVec S16 32) : Prop :=
  (∀ (k0_h1 : k0_cond1 i = 1#1), ∀ a x, ((![v2650] : Fin 1 → IVec S16 32) a x).toNat < S100000.size a)
theorem k0_idx506_inb : ∀ (i : grid0.Coords) (v2650 : IVec S16 32) (k0_hw506 : k0_chk506 i v2650), ∀ (k0_h1 : k0_cond1 i = 1#1), ∀ a x, ((![v2650] : Fin 1 → IVec S16 32) a x).toNat < S100000.size a := fun i v2650 k0_hw506 k0_h1 => k0_hw506 k0_h1

def k0_chk507 (i : grid0.Coords) (v2655 : IVec S16 32) : Prop :=
  (∀ (k0_h1 : k0_cond1 i = 1#1), ∀ a x, ((![v2655] : Fin 1 → IVec S16 32) a x).toNat < S100000.size a)
theorem k0_idx507_inb : ∀ (i : grid0.Coords) (v2655 : IVec S16 32) (k0_hw507 : k0_chk507 i v2655), ∀ (k0_h1 : k0_cond1 i = 1#1), ∀ a x, ((![v2655] : Fin 1 → IVec S16 32) a x).toNat < S100000.size a := fun i v2655 k0_hw507 k0_h1 => k0_hw507 k0_h1

def k0_chk508 (i : grid0.Coords) (v2660 : IVec S16 32) : Prop :=
  (∀ (k0_h1 : k0_cond1 i = 1#1), ∀ a x, ((![v2660] : Fin 1 → IVec S16 32) a x).toNat < S100000.size a)
theorem k0_idx508_inb : ∀ (i : grid0.Coords) (v2660 : IVec S16 32) (k0_hw508 : k0_chk508 i v2660), ∀ (k0_h1 : k0_cond1 i = 1#1), ∀ a x, ((![v2660] : Fin 1 → IVec S16 32) a x).toNat < S100000.size a := fun i v2660 k0_hw508 k0_h1 => k0_hw508 k0_h1

def k0_chk509 (i : grid0.Coords) (v2665 : IVec S16 32) : Prop :=
  (∀ (k0_h1 : k0_cond1 i = 1#1), ∀ a x, ((![v2665] : Fin 1 → IVec S16 32) a x).toNat < S100000.size a)
theorem k0_idx509_inb : ∀ (i : grid0.Coords) (v2665 : IVec S16 32) (k0_hw509 : k0_chk509 i v2665), ∀ (k0_h1 : k0_cond1 i = 1#1), ∀ a x, ((![v2665] : Fin 1 → IVec S16 32) a x).toNat < S100000.size a := fun i v2665 k0_hw509 k0_h1 => k0_hw509 k0_h1

def k0_chk510 (i : grid0.Coords) (v2670 : IVec S16 32) : Prop :=
  (∀ (k0_h1 : k0_cond1 i = 1#1), ∀ a x, ((![v2670] : Fin 1 → IVec S16 32) a x).toNat < S100000.size a)
theorem k0_idx510_inb : ∀ (i : grid0.Coords) (v2670 : IVec S16 32) (k0_hw510 : k0_chk510 i v2670), ∀ (k0_h1 : k0_cond1 i = 1#1), ∀ a x, ((![v2670] : Fin 1 → IVec S16 32) a x).toNat < S100000.size a := fun i v2670 k0_hw510 k0_h1 => k0_hw510 k0_h1

def k0_chk511 (i : grid0.Coords) (v2675 : IVec S16 32) : Prop :=
  (∀ (k0_h1 : k0_cond1 i = 1#1), ∀ a x, ((![v2675] : Fin 1 → IVec S16 32) a x).toNat < S100000.size a)
theorem k0_idx511_inb : ∀ (i : grid0.Coords) (v2675 : IVec S16 32) (k0_hw511 : k0_chk511 i v2675), ∀ (k0_h1 : k0_cond1 i = 1#1), ∀ a x, ((![v2675] : Fin 1 → IVec S16 32) a x).toNat < S100000.size a := fun i v2675 k0_hw511 k0_h1 => k0_hw511 k0_h1

def k0_chk512 (i : grid0.Coords) (v2680 : IVec S16 32) : Prop :=
  (∀ (k0_h1 : k0_cond1 i = 1#1), ∀ a x, ((![v2680] : Fin 1 → IVec S16 32) a x).toNat < S100000.size a)
theorem k0_idx512_inb : ∀ (i : grid0.Coords) (v2680 : IVec S16 32) (k0_hw512 : k0_chk512 i v2680), ∀ (k0_h1 : k0_cond1 i = 1#1), ∀ a x, ((![v2680] : Fin 1 → IVec S16 32) a x).toNat < S100000.size a := fun i v2680 k0_hw512 k0_h1 => k0_hw512 k0_h1
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v1352 : BitVec 32 := Scalar.addi v1 c32_i32
  let c0_i32_805 : BitVec 32 := 0#32
  let v1354 : BitVec 1 := Scalar.cmpi .sgt v1352 c0_i32_805
  let v1355 : BitVec 32 := Scalar.extui v1354
  let c0_i32_806 : BitVec 32 := 0#32
  let v1356 : BitVec 1 := Scalar.cmpi .slt v1352 c0_i32_806
  let v1357 : BitVec 32 := Scalar.extui v1356
  let v1358 : BitVec 32 := Scalar.subi v1355 v1357
  let c16_i32_804 : BitVec 32 := 16#32
  let c0_i32_807 : BitVec 32 := 0#32
  let v1359 : BitVec 1 := Scalar.cmpi .sgt c16_i32_804 c0_i32_807
  let v1360 : BitVec 32 := Scalar.extui v1359
  let c0_i32_808 : BitVec 32 := 0#32
  let v1361 : BitVec 1 := Scalar.cmpi .slt c16_i32_804 c0_i32_808
  let v1362 : BitVec 32 := Scalar.extui v1361
  let v1363 : BitVec 32 := Scalar.subi v1360 v1362
  let v1364 : BitVec 1 := Scalar.cmpi .ne v1358 v1363
  let v1365 : BitVec 32 := Scalar.remsi v1352 c16_i32_804
  let c0_i32_809 : BitVec 32 := 0#32
  let v1366 : BitVec 1 := Scalar.cmpi .ne v1365 c0_i32_809
  let v1367 : BitVec 1 := Scalar.andi v1364 v1366
  let v1353 : BitVec 32 := Scalar.divsi v1352 c16_i32_804
  let c1_i32_810 : BitVec 32 := 1#32
  let v1368 : BitVec 32 := Scalar.subi v1353 c1_i32_810
  let v1369 : BitVec 32 := Scalar.select v1367 v1368 v1353
  let c16_i32_811 : BitVec 32 := 16#32
  let c0_i32_812 : BitVec 32 := 0#32
  let v1370 : BitVec 1 := Scalar.cmpi .eq c16_i32_811 c0_i32_812
  let c1_i32_813 : BitVec 32 := 1#32
  let v1371 : BitVec 32 := Scalar.select v1370 c1_i32_813 c16_i32_811
  let v1372 : BitVec 32 := Scalar.remsi v1352 v1371
  let c0_i32_815 : BitVec 32 := 0#32
  let v1374 : BitVec 1 := Scalar.cmpi .slt v1372 c0_i32_815
  let c0_i32_816 : BitVec 32 := 0#32
  let v1375 : BitVec 1 := Scalar.cmpi .slt v1371 c0_i32_816
  let v1376 : BitVec 1 := Scalar.xori v1374 v1375
  let c0_i32_814 : BitVec 32 := 0#32
  let v1373 : BitVec 1 := Scalar.cmpi .ne v1372 c0_i32_814
  let v1377 : BitVec 1 := Scalar.andi v1376 v1373
  let v1378 : BitVec 32 := Scalar.addi v1372 v1371
  let v1379 : BitVec 32 := Scalar.select v1377 v1378 v1372
  let c0_i32_1857 : BitVec 32 := 0#32
  ![v1369.toNat, v1379.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x100000x3 : Shape := ⟨3, ![16, 100000, 3]⟩
abbrev S16x4096 : Shape := ⟨2, ![16, 4096]⟩
abbrev S16x4096x1 : Shape := ⟨3, ![16, 4096, 1]⟩
abbrev S_ : Shape := ⟨0, ![]⟩
abbrev S1 : Shape := ⟨1, ![1]⟩
abbrev S1x1x1 : Shape := ⟨3, ![1, 1, 1]⟩
abbrev S16x4096x3 : Shape := ⟨3, ![16, 4096, 3]⟩

abbrev nBuf : Space → Nat
  | .hbm => 25
  | .vmem => 0
  | .smem => 0
  | _ => 0

abbrev bufTy : (tb : Table) → Fin (tcTables nBuf tb) → BufTy
  | .hbm, ⟨0, _⟩ => ⟨S16x100000x3, .f32⟩
  | .hbm, ⟨1, _⟩ => ⟨S16x4096, .i32⟩
  | .hbm, ⟨2, _⟩ => ⟨S16x4096x1, .i32⟩
  | .hbm, ⟨3, _⟩ => ⟨S_, .i32⟩
  | .hbm, ⟨4, _⟩ => ⟨S16x4096x1, .i32⟩
  | .hbm, ⟨5, _⟩ => ⟨S16x4096x1, .i1⟩
  | .hbm, ⟨6, _⟩ => ⟨S_, .i32⟩
  | .hbm, ⟨7, _⟩ => ⟨S16x4096x1, .i32⟩
  | .hbm, ⟨8, _⟩ => ⟨S16x4096x1, .i32⟩
  | .hbm, ⟨9, _⟩ => ⟨S16x4096x1, .i32⟩
  | .hbm, ⟨10, _⟩ => ⟨S1, .i32⟩
  | .hbm, ⟨11, _⟩ => ⟨S_, .i32⟩
  | .hbm, ⟨12, _⟩ => ⟨S16x4096x1, .i32⟩
  | .hbm, ⟨13, _⟩ => ⟨S16x4096x1, .i1⟩
  | .hbm, ⟨14, _⟩ => ⟨S1x1x1, .i32⟩
  | .hbm, ⟨15, _⟩ => ⟨S16x4096x1, .i32⟩
  | .hbm, ⟨16, _⟩ => ⟨S16x4096x1, .i1⟩
  | .hbm, ⟨17, _⟩ => ⟨S16x4096x1, .i1⟩
  | .hbm, ⟨18, _⟩ => ⟨S_, .i1⟩
  | .hbm, ⟨19, _⟩ => ⟨S16x4096, .i1⟩
  | .hbm, ⟨20, _⟩ => ⟨S16x4096x3, .f32⟩
  | .hbm, ⟨21, _⟩ => ⟨S16x4096x3, .i1⟩
  | .hbm, ⟨22, _⟩ => ⟨S_, .f32⟩
  | .hbm, ⟨23, _⟩ => ⟨S16x4096x3, .f32⟩
  | .hbm, ⟨24, _⟩ => ⟨S16x4096x3, .f32⟩
  | _, _ => ⟨S16x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]
-- ==== Proof.Loop.lean ====
/-
  The kernel's body, said in short. One task of a subcore reads one plane of the points and one row of the indices into
  its own memory and then, sixteen indices at a time, fetches the plane's entries at the indices into a row of values.
  The printed body writes the 256 groups of a task one after the other, cut into parts of sixty statements; here a group
  is `gatherStep`, a row of them `gatherRun`, a task `fetchTask`, and `body_eq` says that the printed body is the first
  task, the start of its write-out, the second task where there is one with its own write-out, and the last wait.
-/
module

public import proofs.«01_k».proof.Proof.Gen.KernelIdeal.Skeleton
public import Idealize.ShloMosaic.Lib.SparseCore

@[expose] public section

noncomputable section

namespace Cert.Proof

open Idealize.ShloMosaic Idealize.SL.Sem Cert.KernelIdeal Cert.KernelIdeal.Gen

variable {F : FTy → Type} [FloatOps F]

/-! ## The pieces of the arrays a task addresses -/

/-- One plane of the points. -/
abbrev planeOf (A : Memref sig .scVector .hbm S3x16x100000 .f32) (off : Fin 3 → ℕ)
    (inb : ∀ a, off a + S1x1x100000.size a ≤ S3x16x100000.size a) : Memref sig .scVector .hbm S100000 .f32 :=
  (A.slice (Rect.unit (s := S3x16x100000) off S1x1x100000.size inb) (fun _ => rfl)).squeeze S100000 squeezes_S1x1x100000_S100000

/-- One row of the indices. -/
abbrev indexRow (A : Memref sig .scVector .hbm S16x4096 .i32) (off : Fin 2 → ℕ)
    (inb : ∀ a, off a + S1x4096.size a ≤ S16x4096.size a) : Memref sig .scVector .hbm S4096 .i32 :=
  (A.slice (Rect.unit (s := S16x4096) off S1x4096.size inb) (fun _ => rfl)).squeeze S4096 squeezes_S1x4096_S4096

/-- One row of the result. -/
abbrev resultRow (A : Memref sig .scVector .hbm S3x16x4096 .f32) (off : Fin 3 → ℕ)
    (inb : ∀ a, off a + S1x1x4096.size a ≤ S3x16x4096.size a) : Memref sig .scVector .hbm S4096 .f32 :=
  (A.slice (Rect.unit (s := S3x16x4096) off S1x1x4096.size inb) (fun _ => rfl)).squeeze S4096 squeezes_S1x1x4096_S4096

/-- Row `slot` lies inside a two-row scratch. -/
theorem inb_slot (slot : Fin 2) : ∀ a, (![slot.val, 0] : Fin 2 → ℕ) a + S1x4096.size a ≤ S2x4096.size a := by
  intro a
  have := slot.isLt
  fin_cases a
  · show slot.val + 1 ≤ 2
    omega
  · show 0 + 4096 ≤ 4096
    omega

/-- Row `slot` of a two-row scratch. -/
abbrev slotRow {e : EltTy} (A : Memref sig .scVector .vmem S2x4096 e) (slot : Fin 2) : Memref sig .scVector .vmem S4096 e :=
  (A.slice (Rect.unit (s := S2x4096) ![slot.val, 0] S1x4096.size (inb_slot slot)) (fun _ => rfl)).squeeze S4096 squeezes_S1x4096_S4096

/-- Group `g` of row `slot` lies inside the two-row scratch. -/
theorem inb_row (slot : Fin 2) (g : ℕ) (hg : g < 256) :
    ∀ a, (![slot.val, 16 * g] : Fin 2 → ℕ) a + S1x16.size a ≤ S2x4096.size a := by
  intro a
  have := slot.isLt
  fin_cases a
  · show slot.val + 1 ≤ 2
    omega
  · show 16 * g + 16 ≤ 4096
    omega

/-- The sixteen cells of group `g` in row `slot` of a two-row scratch. -/
abbrev grp (slot : Fin 2) (g : ℕ) (hg : g < 256) : Rect S2x4096 :=
  Rect.unit (s := S2x4096) ![slot.val, 16 * g] S1x16.size (inb_row slot g hg)

/-! ## The groups and the tasks -/

section Task

variable {c : Fin τ.nSC} {s : Fin τ.nSub}
  (arg5 : Memref sig .scVector .vmem S100000 .f32) (arg6 : Memref sig .scVector .vmem S2x4096 .i32)
  (arg7 : Memref sig .scVector .vmem S2x4096 .f32) (chk : IVec S16 32 → Prop) (dec : ∀ v, Decidable (chk v))
  (himp : ∀ v, chk v → ∀ a x, ((![v] : Fin 1 → IVec S16 32) a x).toNat < S100000.size a)
  (slot : Fin 2)

/-- One group: sixteen indices are read, sixteen entries of the plane are fetched at them, and the entries are put in
    the same sixteen cells of the values' row. -/
def gatherStep (g : ℕ) (hg : g < 256) : Prog (TpuEff nD τ sig (Elt F) Λ₀ (.scVector c s)) PUnit := do
  let v_ld : Vec F S1x16 .i32 ← Prog.lift (.load arg6 (grp slot g hg).toLoadRect (View.loadsAt_vmem h_S1x16))
  have v : Vec F S16 .i32 := shapeCast S16 v_ld shapeCasts_S1x16_S16
  have hw : chk v := (← Prog.lift (TpuEff.assume (chk v) (dec v))).down
  let x : Vec F S16 .f32 ← SparseCore.vectorLoadIdx arg5 ![v] (himp v hw) (View.loads_vmem h_S100000)
  let _old : Vec F S1x16 .f32 ← Prog.lift (.load arg7 (grp slot g hg).toLoadRect (View.loadsAt_vmem h_S1x16))
  Prog.lift (.store arg7 (grp slot g hg) (shapeCast S1x16 x shapeCasts_S16_S1x16) Finset.univ
    (View.stores_vmem_bits_univ h_S1x16 rfl) (.inl rfl))

/-- The last `n` groups of a row, in order. -/
def gatherRun (n : ℕ) : Prog (TpuEff nD τ sig (Elt F) Λ₀ (.scVector c s)) PUnit :=
  Nat.rec (.ret ⟨⟩) (fun k rest => do
    gatherStep arg5 arg6 arg7 chk dec himp slot (255 - k) (by omega)
    rest) n

/-- One task up to its write-out: the plane and the row of indices are brought in, the indices' copy is waited for
    before the plane's, and the row's 256 groups follow. -/
def fetchTask (arg2 : Memref sig .scVector .hbm S3x16x100000 .f32) (off : Fin 3 → ℕ)
    (inb : ∀ a, off a + S1x1x100000.size a ≤ S3x16x100000.size a)
    (arg3 : Memref sig .scVector .hbm S16x4096 .i32) (off' : Fin 2 → ℕ)
    (inb' : ∀ a, off' a + S1x4096.size a ≤ S16x4096.size a) (harg5 : arg5.IsWhole)
    (arg8 arg9 : DmaSems sig S_) : Prog (TpuEff nD τ sig (Elt F) Λ₀ (.scVector c s)) PUnit := do
  Prog.lift (.enqueueDma (planeOf arg2 off inb) (.here arg5) (.dma arg8.sem) ((View.wordExact_bits rfl).reshape _ _)
    harg5.wordExact ⟨Or.inl rfl, trivial⟩)
  Prog.lift (.enqueueDma (indexRow arg3 off' inb') (.here (slotRow arg6 slot)) (.dma arg9.sem)
    ((View.wordExact_bits rfl).reshape _ _) ((View.wordExact_bits rfl).reshape _ _) ⟨Or.inl rfl, trivial⟩)
  Prog.lift (.waitDma2 arg9.sem (indexRow arg3 off' inb') (slotRow arg6 slot) ((View.wordExact_bits rfl).reshape _ _)
    ((View.wordExact_bits rfl).reshape _ _))
  Prog.lift (.waitDma2 arg8.sem (planeOf arg2 off inb) arg5 ((View.wordExact_bits rfl).reshape _ _) harg5.wordExact)
  gatherRun arg5 arg6 arg7 chk dec himp slot 256

end Task

section Body

variable (i : grid0.Coords) (arg2 : Memref sig .scVector .hbm S3x16x100000 .f32) (harg2 : arg2.IsWhole) (arg3 : Memref sig .scVector .hbm S16x4096 .i32) (harg3 : arg3.IsWhole) (arg4 : Memref sig .scVector .hbm S3x16x4096 .f32) (harg4 : arg4.IsWhole) (arg5 : Memref sig .scVector .vmem S100000 .f32) (harg5 : arg5.IsWhole) (arg6 : Memref sig .scVector .vmem S2x4096 .i32) (harg6 : arg6.IsWhole) (arg7 : Memref sig .scVector .vmem S2x4096 .f32) (harg7 : arg7.IsWhole) (arg8 : DmaSems sig S_) (arg9 : DmaSems sig S_) (arg10 : DmaSems sig S_)

set_option maxRecDepth 65536 in
/-- The printed parts of the first task are the task, by unfolding. -/
theorem part116_eq :
    k0_part116 (F := F) i arg2 harg2 arg3 harg3 arg4 harg4 arg5 harg5 arg6 harg6 arg7 harg7 arg8 arg9 arg10 =
    (do
      fetchTask arg5 arg6 arg7 k0_chk1 k0_chk1.dec k0_idx1_inb 0 arg2 (k0_off1 i) (k0_off1_inb i) arg3 (k0_off2 i)
        (k0_off2_inb i) harg5 arg8 arg9
      pure (Scalar.addi (Scalar.muli (BitVec.ofNat 32 (i 1).val) 2#32) (BitVec.ofNat 32 (i 0).val))) := by
  with_unfolding_all rfl

set_option maxRecDepth 65536 in
/-- The printed parts of the second task are the task, by unfolding. -/
theorem part58_eq (v1 : BitVec 32) (h1 : k0_cond1 i = 1#1) :
    k0_part58 (F := F) i arg2 harg2 arg3 harg3 arg4 harg4 arg5 harg5 arg6 harg6 arg7 harg7 arg8 arg9 arg10 v1 h1 =
      fetchTask arg5 arg6 arg7 (k0_chk257 i) (k0_chk257.dec i) (fun v hw => k0_idx257_inb i v hw h1) 1 arg2 (k0_off4 i)
        (k0_off4_inb i h1) arg3 (k0_off5 i) (k0_off5_inb i h1) harg5 arg8 arg9 := by
  with_unfolding_all rfl

/-- The write-out of a task's row of values is started. -/
def startOut {c : Fin τ.nSC} {s : Fin τ.nSub} (slot : Fin 2) (off : Fin 3 → ℕ)
    (inb : ∀ a, off a + S1x1x4096.size a ≤ S3x16x4096.size a) : Prog (TpuEff nD τ sig (Elt F) Λ₀ (.scVector c s)) PUnit :=
  Prog.lift (.enqueueDma (slotRow arg7 slot) (.here (resultRow arg4 off inb)) (.dma arg10.sem)
    ((View.wordExact_bits rfl).reshape _ _) ((View.wordExact_bits rfl).reshape _ _) ⟨Or.inl rfl, trivial⟩)

/-- A write-out is waited for. -/
def waitOut {c : Fin τ.nSC} {s : Fin τ.nSub} (slot : Fin 2) (off : Fin 3 → ℕ)
    (inb : ∀ a, off a + S1x1x4096.size a ≤ S3x16x4096.size a) : Prog (TpuEff nD τ sig (Elt F) Λ₀ (.scVector c s)) PUnit :=
  Prog.lift (.waitDma2 arg10.sem (slotRow arg7 slot) (resultRow arg4 off inb)
    ((View.wordExact_bits rfl).reshape _ _) ((View.wordExact_bits rfl).reshape _ _))

/-- The body of a subcore, over its tasks. -/
theorem body_eq :
    cc0_body (F := F) i arg2 harg2 arg3 harg3 arg4 harg4 arg5 harg5 arg6 harg6 arg7 harg7 arg8 arg9 arg10 =
    (do
      fetchTask arg5 arg6 arg7 k0_chk1 k0_chk1.dec k0_idx1_inb 0 arg2 (k0_off1 i) (k0_off1_inb i) arg3 (k0_off2 i)
        (k0_off2_inb i) harg5 arg8 arg9
      startOut arg4 arg7 arg10 0 (k0_off3 i) (k0_off3_inb i)
      if h1 : k0_cond1 i = 1#1 then do
        fetchTask arg5 arg6 arg7 (k0_chk257 i) (k0_chk257.dec i) (fun v hw => k0_idx257_inb i v hw h1) 1 arg2 (k0_off4 i)
          (k0_off4_inb i h1) arg3 (k0_off5 i) (k0_off5_inb i h1) harg5 arg8 arg9
        startOut arg4 arg7 arg10 1 (k0_off6 i) (k0_off6_inb i h1)
        waitOut arg4 arg7 arg10 1 (k0_off6 i) (k0_off6_inb i h1)
      else pure ⟨⟩
      waitOut arg4 arg7 arg10 0 (k0_off3 i) (k0_off3_inb i)) := by
  rw [cc0_body_eq_skeleton]
  unfold cc0_body_skel
  simp only [part116_eq, part58_eq, bind_assoc, pure_bind, startOut, waitOut, Fin.val_zero, Fin.val_one]
  rfl

end Body

end Cert.Proof
-- ==== Proof.Index.lean ====
/-
  Where the task's pieces lie in the arrays, coordinate by coordinate, and the closed forms of the offsets the subcores
  compute: subcore `s` of SparseCore `c` is worker `2 s + c`; its first task is row `worker % 16` of plane `worker / 16`,
  its second, when the worker is below 16, row `worker` of plane 2.
-/
module

public import proofs.«01_k».proof.Proof.Loop

@[expose] public section

noncomputable section

namespace Cert.Proof

open Idealize.ShloMosaic Idealize.SL.Sem Cert.KernelIdeal Cert.KernelIdeal.Gen

/-! ## Indices by coordinates -/

/-- The cell `(slot, j)` of a two-row scratch. -/
def cellIx (slot : Fin 2) (j : Fin 4096) : S2x4096.Idx := fun | 0 => slot | 1 => j
/-- The place of coordinate `k` of point `n` of cloud `b`. -/
def ptsIx (k : Fin 3) (b : Fin 16) (n : Fin 100000) : S3x16x100000.Idx := fun | 0 => k | 1 => b | 2 => n
/-- The place of sample `j` of cloud `b`. -/
def idxIx (b : Fin 16) (j : Fin 4096) : S16x4096.Idx := fun | 0 => b | 1 => j
/-- The place of coordinate `k` of sample `j` of cloud `b`. -/
def outIx (k : Fin 3) (b : Fin 16) (j : Fin 4096) : S3x16x4096.Idx := fun | 0 => k | 1 => b | 2 => j
/-- Place `n` of a plane in the subcore's own memory. -/
def planeIx (n : Fin 100000) : S100000.Idx := fun | 0 => n
/-- Place `j` of a row. -/
def rowIx (j : Fin 4096) : S4096.Idx := fun | 0 => j

theorem planeIx_eta (x : S100000.Idx) : planeIx (x 0) = x := by
  funext a; fin_cases a; rfl
theorem rowIx_eta (x : S4096.Idx) : rowIx (x 0) = x := by
  funext a; fin_cases a; rfl
theorem outIx_eta (x : S3x16x4096.Idx) : outIx (x 0) (x 1) (x 2) = x := by
  funext a; fin_cases a <;> rfl
theorem idxIx_eta (x : S16x4096.Idx) : idxIx (x 0) (x 1) = x := by
  funext a; fin_cases a <;> rfl
theorem cellIx_eta (x : S2x4096.Idx) : cellIx (x 0) (x 1) = x := by
  funext a; fin_cases a <;> rfl

/-- The point an index word names. -/
def ptOf (w : BitVec 32) : Fin 100000 := ⟨w.toNat % 100000, Nat.mod_lt _ (by decide)⟩

theorem ptOf_val {w : BitVec 32} (h : w.toNat < 100000) : (ptOf w).val = w.toNat := Nat.mod_eq_of_lt h

/-! ## The pieces' placements -/

/-- Dropping two leading axes of size one. -/
theorem reshape_cons_one_one {n : Nat} {d : Fin n → Nat}
    (h : (⟨n, d⟩ : Shape).numel = (⟨n + 1 + 1, Matrix.vecCons 1 (Matrix.vecCons 1 d)⟩ : Shape).numel) (x : (⟨n, d⟩ : Shape).Idx) :
    Shape.reshapeEquiv h x = Fin.cons ⟨0, Nat.one_pos⟩ (Fin.cons ⟨0, Nat.one_pos⟩ x : (⟨n + 1, Matrix.vecCons 1 d⟩ : Shape).Idx) := by
  have h1 : (⟨n, d⟩ : Shape).numel = (⟨n + 1, Matrix.vecCons 1 d⟩ : Shape).numel := by
    simp [Shape.numel, Fin.prod_univ_succ]
  have h2 : (⟨n + 1, Matrix.vecCons 1 d⟩ : Shape).numel = (⟨n + 1 + 1, Matrix.vecCons 1 (Matrix.vecCons 1 d)⟩ : Shape).numel := by
    simp [Shape.numel, Fin.prod_univ_succ]
  rw [← Shape.reshapeEquiv_reshapeEquiv h2 h1 x, Shape.reshapeEquiv_cons_one, Shape.reshapeEquiv_cons_one]

abbrev aP : Memref sig .scVector .hbm S3x16x100000 .f32 := Memref.whole main_v0_scv
abbrev aI : Memref sig .scVector .hbm S16x4096 .i32 := Memref.whole main_arg1_scv
abbrev aO : Memref sig .scVector .hbm S3x16x4096 .f32 := Memref.whole main_v1_scv
/-- A subcore's own memory: the plane, the indices, the values. -/
abbrev sP : Memref sig .scVector .vmem S100000 .f32 := Memref.whole cc0_scratch0
abbrev sI : Memref sig .scVector .vmem S2x4096 .i32 := Memref.whole cc0_scratch1
abbrev sO : Memref sig .scVector .vmem S2x4096 .f32 := Memref.whole cc0_scratch2

theorem planeOf_emb (off : Fin 3 → ℕ) (inb : ∀ a, off a + S1x1x100000.size a ≤ S3x16x100000.size a)
    (k : Fin 3) (b : Fin 16) (h0 : off 0 = k.val) (h1 : off 1 = b.val) (h2 : off 2 = 0) (x : S100000.Idx) :
    (planeOf aP off inb).view.emb x = ptsIx k b (x 0) := by
  show (((View.whole main_v0_scv).slice _).reshape S100000 _).emb x = _
  rw [View.emb_reshape, View.emb_slice, View.emb_whole]
  show (Rect.unit (s := S3x16x100000) off S1x1x100000.size inb).emb (Shape.reshapeEquiv _ x) = _
  rw [reshape_cons_one_one]
  funext a
  apply Fin.ext
  rw [Rect.emb_apply]
  fin_cases a
  · show off 0 + 1 * 0 = k.val
    omega
  · show off 1 + 1 * 0 = b.val
    omega
  · show off 2 + 1 * (x 0).val = (x 0).val
    omega

theorem resultRow_emb (off : Fin 3 → ℕ) (inb : ∀ a, off a + S1x1x4096.size a ≤ S3x16x4096.size a)
    (k : Fin 3) (b : Fin 16) (h0 : off 0 = k.val) (h1 : off 1 = b.val) (h2 : off 2 = 0) (x : S4096.Idx) :
    (resultRow aO off inb).view.emb x = outIx k b (x 0) := by
  show (((View.whole main_v1_scv).slice _).reshape S4096 _).emb x = _
  rw [View.emb_reshape, View.emb_slice, View.emb_whole]
  show (Rect.unit (s := S3x16x4096) off S1x1x4096.size inb).emb (Shape.reshapeEquiv _ x) = _
  rw [reshape_cons_one_one]
  funext a
  apply Fin.ext
  rw [Rect.emb_apply]
  fin_cases a
  · show off 0 + 1 * 0 = k.val
    omega
  · show off 1 + 1 * 0 = b.val
    omega
  · show off 2 + 1 * (x 0).val = (x 0).val
    omega

theorem indexRow_emb (off : Fin 2 → ℕ) (inb : ∀ a, off a + S1x4096.size a ≤ S16x4096.size a)
    (b : Fin 16) (h0 : off 0 = b.val) (h1 : off 1 = 0) (x : S4096.Idx) :
    (indexRow aI off inb).view.emb x = idxIx b (x 0) := by
  show (((View.whole main_arg1_scv).slice _).reshape S4096 _).emb x = _
  rw [View.emb_reshape, View.emb_slice, View.emb_whole]
  show (Rect.unit (s := S16x4096) off S1x4096.size inb).emb (Shape.reshapeEquiv _ x) = _
  rw [Shape.reshapeEquiv_cons_one]
  funext a
  apply Fin.ext
  rw [Rect.emb_apply]
  fin_cases a
  · show off 0 + 1 * 0 = b.val
    omega
  · show off 1 + 1 * (x 0).val = (x 0).val
    omega

theorem slotRow_emb {e : EltTy}
    (A : Memref sig .scVector .vmem S2x4096 e) (slot : Fin 2) (x : S4096.Idx) :
    (slotRow A slot).view.emb x = A.view.emb (cellIx slot (x 0)) := by
  show ((A.view.slice _).reshape S4096 _).emb x = _
  rw [View.emb_reshape, View.emb_slice]
  show A.view.emb ((Rect.unit (s := S2x4096) ![slot.val, 0] S1x4096.size (inb_slot slot)).emb (Shape.reshapeEquiv _ x)) = _
  rw [Shape.reshapeEquiv_cons_one]
  congr 1
  funext a
  apply Fin.ext
  rw [Rect.emb_apply]
  fin_cases a
  · show slot.val + 1 * 0 = slot.val
    omega
  · show 0 + 1 * (x 0).val = (x 0).val
    omega

/-- Lane `l` of group `g` is cell `16 g + l` of the row. -/
def laneIx (g : ℕ) (hg : g < 256) (l : Fin 16) : Fin 4096 := ⟨16 * g + l.val, by have := l.isLt; omega⟩

theorem grp_emb (slot : Fin 2) (g : ℕ) (hg : g < 256) (x : (grp slot g hg).shape.Idx) :
    (grp slot g hg).emb x = cellIx slot (laneIx g hg (x 1)) := by
  funext a
  apply Fin.ext
  rw [Rect.emb_apply]
  fin_cases a
  · show slot.val + 1 * (x 0).val = slot.val
    have : (x 0).val < 1 := (x 0).isLt
    omega
  · show 16 * g + 1 * (x 1).val = 16 * g + (x 1).val
    omega

/-! ## The offsets -/

/-- The worker number of a subcore. -/
abbrev wid (i : grid0.Coords) : ℕ := (i 1).val * 2 + (i 0).val

theorem off1_eq : ∀ i : grid0.Coords, k0_off1 i 0 = wid i / 16 ∧ k0_off1 i 1 = wid i % 16 ∧ k0_off1 i 2 = 0 := by decide +kernel
theorem off2_eq : ∀ i : grid0.Coords, k0_off2 i 0 = wid i % 16 ∧ k0_off2 i 1 = 0 := by decide +kernel
theorem off3_eq : ∀ i : grid0.Coords, k0_off3 i 0 = wid i / 16 ∧ k0_off3 i 1 = wid i % 16 ∧ k0_off3 i 2 = 0 := by decide +kernel
theorem cond1_iff : ∀ i : grid0.Coords, k0_cond1 i = 1#1 ↔ wid i < 16 := by decide +kernel
theorem off4_eq : ∀ i : grid0.Coords, wid i < 16 → k0_off4 i 0 = 2 ∧ k0_off4 i 1 = wid i ∧ k0_off4 i 2 = 0 := by decide +kernel
theorem off5_eq : ∀ i : grid0.Coords, wid i < 16 → k0_off5 i 0 = wid i ∧ k0_off5 i 1 = 0 := by decide +kernel
theorem off6_eq : ∀ i : grid0.Coords, wid i < 16 → k0_off6 i 0 = 2 ∧ k0_off6 i 1 = wid i ∧ k0_off6 i 2 = 0 := by decide +kernel

end Cert.Proof
-- ==== Proof.Gather.lean ====
/-
  The gathers: what a row of values holds once its groups have been fetched. The set-up of the launch's resources comes
  first, as every wp below is stated in it.
-/
module

public import proofs.«01_k».proof.Defs
public import proofs.«01_k».proof.Proof.Index
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Batch
public import Idealize.ShloMosaic.Lib.Tactic
public import proofs.«01_k».proof.Proof.Gen.KernelIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

/-- The handshakes' rounds, the left factor; the transfers' counters are found in the right. -/
abbrev EH : Emb UH (MT nD τ sig (HIx 1) (Elt F) ℕ UU ℕ) := embL

variable [FloatOps F]

/-! ## One group -/

/-- What a value cell gets: the plane's entry at the point its index names. -/
def fetched (fP : Vec F S100000 .f32) (fI : Vec F S2x4096 .i32) (x : S2x4096.Idx) : Elt F .f32 :=
  fP (planeIx (ptOf (fI x)))

/-- The values after group `g` of row `slot`. -/
def putGroup (fP : Vec F S100000 .f32) (fI : Vec F S2x4096 .i32) (slot : Fin 2) (g : ℕ) (f : Vec F S2x4096 .f32) :
    Vec F S2x4096 .f32 :=
  fun x => if (x 0).val = slot.val ∧ (x 1).val / 16 = g then fetched fP fI x else f x

/-- The values after the groups of row `slot` from group `g` on. -/
def putFrom (fP : Vec F S100000 .f32) (fI : Vec F S2x4096 .i32) (slot : Fin 2) (g : ℕ) (f : Vec F S2x4096 .f32) :
    Vec F S2x4096 .f32 :=
  fun x => if (x 0).val = slot.val ∧ 16 * g ≤ (x 1).val then fetched fP fI x else f x

theorem putFrom_putGroup (fP : Vec F S100000 .f32) (fI : Vec F S2x4096 .i32) (slot : Fin 2) (g : ℕ) (f : Vec F S2x4096 .f32) :
    putFrom fP fI slot (g + 1) (putGroup fP fI slot g f) = putFrom fP fI slot g f := by
  funext x
  unfold putFrom putGroup
  by_cases h0 : (x 0).val = slot.val
  · by_cases h1 : 16 * (g + 1) ≤ (x 1).val
    · rw [if_pos ⟨h0, h1⟩, if_pos ⟨h0, by omega⟩]
    · rw [if_neg fun h => h1 h.2]
      by_cases h2 : 16 * g ≤ (x 1).val
      · rw [if_pos ⟨h0, by omega⟩, if_pos ⟨h0, h2⟩]
      · rw [if_neg fun h => h2 (by omega), if_neg fun h => h2 h.2]
  · rw [if_neg fun h => h0 h.1, if_neg fun h => h0 h.1, if_neg fun h => h0 h.1]

theorem putFrom_end (fP : Vec F S100000 .f32) (fI : Vec F S2x4096 .i32) (slot : Fin 2) (f : Vec F S2x4096 .f32) :
    putFrom fP fI slot 256 f = f := by
  funext x
  unfold putFrom
  refine if_neg fun h => ?_
  have : (x 1).val < 4096 := (x 1).isLt
  omega

/-- A cell of the row is one of the group's sixteen exactly when its column is. -/
theorem mem_grp (slot : Fin 2) (g : ℕ) (hg : g < 256) (x : S2x4096.Idx) (h0 : (x 0).val = slot.val) (h1 : (x 1).val / 16 = g) :
    ∃ z : (grp slot g hg).shape.Idx, (grp slot g hg).emb z = x := by
  refine ⟨fun | 0 => (⟨0, Nat.one_pos⟩ : Fin 1) | 1 => (⟨(x 1).val % 16, Nat.mod_lt _ (by decide)⟩ : Fin 16), ?_⟩
  rw [grp_emb]
  funext a
  apply Fin.ext
  fin_cases a
  · exact h0.symm
  · show 16 * g + (x 1).val % 16 = (x 1).val
    omega

section Groups

variable (d : Dev nD) (c : Fin τ.nSC) (s : Fin τ.nSub)
  (chk : IVec S16 32 → Prop) (dec : ∀ v, Decidable (chk v))
  (himp : ∀ v, chk v → ∀ a x, ((![v] : Fin 1 → IVec S16 32) a x).toNat < S100000.size a)
  (slot : Fin 2)

theorem grp_subset (g : ℕ) (hg : g < 256) (Sd : Finset S2x4096.Idx) (hSd : ∀ x : S2x4096.Idx, x 0 = slot → x ∈ Sd) :
    ((sO : Memref sig .scVector .vmem S2x4096 .f32).access (grp slot g hg)).set ⊆ Sd := by
  intro y hy
  obtain ⟨x, -, rfl⟩ := Finset.mem_map.mp hy
  show (grp slot g hg).emb x ∈ Sd
  rw [grp_emb]
  exact hSd _ rfl

/-- What the store of a group leaves. -/
theorem store_group (g : ℕ) (hg : g < 256) (fP : Vec F S100000 .f32) (fI : Vec F S2x4096 .i32) (f : Vec F S2x4096 .f32)
    (hidx : ∀ x : S2x4096.Idx, x 0 = slot → (fI x : BitVec 32).toNat < 100000)
    (hin : ∀ a x, ((![shapeCast S16 ((sI : Memref sig .scVector .vmem S2x4096 .i32).view.readAt (Elt F) (grp slot g hg).toLoadRect fI)
      shapeCasts_S1x16_S16] : Fin 1 → IVec S16 32) a x).toNat < S100000.size a) :
    ((sO : Memref sig .scVector .vmem S2x4096 .f32).access (grp slot g hg)).write (Elt F) f
      (shapeCast S1x16 (loadIdx (F := F) (e := .f32) (((sP : Memref sig .scVector .vmem S100000 .f32).access (.whole S100000)).read (Elt F) fP)
        ![shapeCast S16 ((sI : Memref sig .scVector .vmem S2x4096 .i32).view.readAt (Elt F) (grp slot g hg).toLoadRect fI)
          shapeCasts_S1x16_S16] hin) shapeCasts_S16_S1x16) Finset.univ
      = putGroup fP fI slot g f := by
  funext y
  by_cases hy : (y 0).val = slot.val ∧ (y 1).val / 16 = g
  · obtain ⟨z, rfl⟩ := mem_grp slot g hg y hy.1 hy.2
    unfold putGroup
    rw [if_pos hy]
    refine (View.write_emb_of_mem (v := (sO : Memref sig .scVector .vmem S2x4096 .f32).access (grp slot g hg)) f _ (Finset.mem_univ z)).trans ?_
    rw [cast_eq]
    show fP (((Rect.whole S100000).emb) (idxAt _ hin (Shape.reshapeEquiv _ z))) = fP (planeIx (ptOf (fI ((grp slot g hg).emb z))))
    rw [Rect.emb_whole_apply]
    congr 1
    funext a
    apply Fin.ext
    obtain rfl : a = 0 := Subsingleton.elim _ _
    show ((fI ((grp slot g hg).emb (Shape.reshapeEquiv _ (Shape.reshapeEquiv _ z))) : BitVec 32)).toNat = (fI ((grp slot g hg).emb z) : BitVec 32).toNat % 100000
    rw [Shape.reshapeEquiv_reshapeEquiv]
    erw [Shape.reshapeEquiv_self]
    exact (Nat.mod_eq_of_lt (hidx _ (by rw [grp_emb]; rfl))).symm
  · unfold putGroup
    rw [if_neg hy]
    refine View.write_of_not_mem (v := (sO : Memref sig .scVector .vmem S2x4096 .f32).access (grp slot g hg)) f _ _ fun hm => hy ?_
    obtain ⟨x, -, rfl⟩ := Finset.mem_map.mp hm
    have e : ((sO : Memref sig .scVector .vmem S2x4096 .f32).access (grp slot g hg)).emb x = cellIx slot (laneIx g hg (x 1)) := grp_emb slot g hg x
    rw [e]
    refine ⟨rfl, ?_⟩
    show (16 * g + (x 1).val) / 16 = g
    have : (x 1).val < 16 := (x 1).isLt
    omega

/-- One group, run: the plane and the indices are read, and the row's sixteen cells are rewritten. -/
theorem wp_gatherStep (hchk : ∀ v : IVec S16 32, (∀ x, (v x).toNat < 100000) → chk v) (g : ℕ) (hg : g < 256)
    (fP : Vec F S100000 .f32) (fI : Vec F S2x4096 .i32) (f : Vec F S2x4096 .f32)
    (hidx : ∀ x : S2x4096.Idx, x 0 = slot → (fI x : BitVec 32).toNat < 100000)
    (Sd : Finset S2x4096.Idx) (hSd : ∀ x : S2x4096.Idx, x 0 = slot → x ∈ Sd)
    (k : PUnit → Prog (TpuEff nD τ sig (Elt F) Λ₀ (.scVector c s)) PUnit) (Q : PUnit → sProp 𝕄) :
    iprop(((V d c s).loc cc0_scratch0 ↦{fullShare} fP) ∗ ((V d c s).loc cc0_scratch1 ↦{fullShare} fI)
        ∗ ((V d c s).loc cc0_scratch2 ↦[Sd]{fullShare} f))
      ⊢ iprop(((((V d c s).loc cc0_scratch0 ↦{fullShare} fP) ∗ ((V d c s).loc cc0_scratch1 ↦{fullShare} fI)
            ∗ ((V d c s).loc cc0_scratch2 ↦[Sd]{fullShare} putGroup fP fI slot g f))
          -∗ wp frame (wpE (defs₀ (F := F)) 𝒱₀ (V d c s) none) Set.univ (k ⟨⟩) Q)
        -∗ wp frame (wpE (defs₀ (F := F)) 𝒱₀ (V d c s) none) Set.univ (gatherStep sP sI sO chk dec himp slot g hg >>= k) Q) := by
  have hv : ∀ x, (shapeCast S16 ((sI : Memref sig .scVector .vmem S2x4096 .i32).view.readAt (Elt F) (grp slot g hg).toLoadRect fI)
      shapeCasts_S1x16_S16 x : BitVec 32).toNat < 100000 := fun x =>
    hidx ((grp slot g hg).emb (Shape.reshapeEquiv _ x)) (by rw [grp_emb]; rfl)
  unfold gatherStep
  simp only [Prog.lift, Prog.bind_op, Prog.bind_ret, Prog.pure_eq_ret, bind_assoc]
  iintro ⟨HP, HI, HO⟩ Hk
  iapply (wp_load 𝒱₀ (V d c s) none Set.univ (m := (sI : Memref sig .scVector .vmem S2x4096 .i32)) (S := Finset.univ) (Finset.subset_univ _)) $$ HI; iintro HI
  rw [wp_assume_of _ _ _ _ (hchk _ hv)]
  iapply (SparseCore.wp_vectorLoadIdx 𝒱₀ (V d c s) none Set.univ (base := (sP : Memref sig .scVector .vmem S100000 .f32)) (S := Finset.univ) (q := fullShare) (Finset.subset_univ _)) $$ HP; iintro HP
  iapply (wp_load_rect 𝒱₀ (V d c s) none Set.univ (m := (sO : Memref sig .scVector .vmem S2x4096 .f32)) (r := grp slot g hg) (S := Sd) (grp_subset slot g hg Sd hSd)) $$ HO; iintro HO
  iapply (wp_store 𝒱₀ (V d c s) none Set.univ (m := (sO : Memref sig .scVector .vmem S2x4096 .f32)) (r := grp slot g hg) (Mk := Finset.univ) (S := Sd) (grp_subset slot g hg Sd hSd)) $$ HO; iintro HO
  iapply Hk
  isplitl [HP]; · iexact HP
  isplitl [HI]; · iexact HI
  rw [← store_group slot g hg fP fI f hidx (himp _ (hchk _ hv))]
  iexact HO

/-- The last `n` groups of a row, run. -/
theorem wp_gatherRun (hchk : ∀ v : IVec S16 32, (∀ x, (v x).toNat < 100000) → chk v)
    (fP : Vec F S100000 .f32) (fI : Vec F S2x4096 .i32)
    (hidx : ∀ x : S2x4096.Idx, x 0 = slot → (fI x : BitVec 32).toNat < 100000)
    (Sd : Finset S2x4096.Idx) (hSd : ∀ x : S2x4096.Idx, x 0 = slot → x ∈ Sd)
    (k : PUnit → Prog (TpuEff nD τ sig (Elt F) Λ₀ (.scVector c s)) PUnit) (Q : PUnit → sProp 𝕄)
    (n : ℕ) (hn : n ≤ 256) (f : Vec F S2x4096 .f32) :
    iprop(((V d c s).loc cc0_scratch0 ↦{fullShare} fP) ∗ ((V d c s).loc cc0_scratch1 ↦{fullShare} fI)
        ∗ ((V d c s).loc cc0_scratch2 ↦[Sd]{fullShare} f))
      ⊢ iprop(((((V d c s).loc cc0_scratch0 ↦{fullShare} fP) ∗ ((V d c s).loc cc0_scratch1 ↦{fullShare} fI)
            ∗ ((V d c s).loc cc0_scratch2 ↦[Sd]{fullShare} putFrom fP fI slot (256 - n) f))
          -∗ wp frame (wpE (defs₀ (F := F)) 𝒱₀ (V d c s) none) Set.univ (k ⟨⟩) Q)
        -∗ wp frame (wpE (defs₀ (F := F)) 𝒱₀ (V d c s) none) Set.univ (gatherRun sP sI sO chk dec himp slot n >>= k) Q) := by
  induction n generalizing f with
  | zero =>
    rw [show (256 - 0 : ℕ) = 256 from rfl, putFrom_end]
    show _ ⊢ iprop(_ -∗ wp frame (wpE (defs₀ (F := F)) 𝒱₀ (V d c s) none) Set.univ (k ⟨⟩) Q)
    iintro H Hk
    iapply Hk
    iexact H
  | succ n ih =>
    have e : gatherRun (F := F) (c := c) (s := s) sP sI sO chk dec himp slot (n + 1) >>= k
        = gatherStep sP sI sO chk dec himp slot (255 - n) (by omega) >>= fun _ => gatherRun sP sI sO chk dec himp slot n >>= k := by
      show (gatherStep sP sI sO chk dec himp slot (255 - n) (by omega) >>= fun _ => gatherRun sP sI sO chk dec himp slot n) >>= k = _
      rw [bind_assoc]
    rw [e]
    iintro H Hk
    have hg : 255 - n < 256 := by omega
    iapply (wp_gatherStep d c s chk dec himp slot hchk (255 - n) hg fP fI f hidx Sd hSd _ Q) $$ H
    iintro H
    iapply (ih (by omega) (putGroup fP fI slot (255 - n) f)) $$ H
    have e1 : 256 - (n + 1) = 255 - n := by omega
    have e2 : 256 - n = (255 - n) + 1 := by omega
    rw [e1, e2, putFrom_putGroup]
    iexact Hk

end Groups

end Cert.Proof
-- ==== Proof.Task.lean ====
/-
  A task, run: its plane and its row of indices are copied in, the two waits give them back in the subcore's own memory,
  and the gathers leave the row of values at the points the indices name.
-/
module

public import proofs.«01_k».proof.Proof.Gather

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The transfers' counters among the launch's resources. -/
abbrev EC : UEmb Counters (MT nD τ sig (HIx 1) (Elt F) ℕ UU ℕ) := countersEmb

variable [FloatOps F]

/-- Sample `j` of cloud `b` in coordinate `k`: the entry of the plane at the point the index names. -/
def sample (P3 : Vec F S3x16x100000 .f32) (IX : Vec F S16x4096 .i32) (k : Fin 3) (b : Fin 16) (j : Fin 4096) : Elt F .f32 :=
  P3 (ptsIx k b (ptOf (IX (idxIx b j))))

section Task

variable (d : Dev nD) (c : Fin τ.nSC) (s : Fin τ.nSub)

/-- The row of indices, copied in. -/
theorem idx_lands (slot : Fin 2) (off : Fin 2 → ℕ) (inb : ∀ a, off a + S1x4096.size a ≤ S16x4096.size a)
    (b : Fin 16) (h0 : off 0 = b.val) (h1 : off 1 = 0) (IX : Vec F S16x4096 .i32) (fI : Vec F S2x4096 .i32) (j : Fin 4096) :
    (slotRow (sI : Memref sig .scVector .vmem S2x4096 .i32) slot).view.write (Elt F) fI ((indexRow aI off inb).view.read (Elt F) IX) Finset.univ
      (cellIx slot j) = IX (idxIx b j) := by
  have e : (slotRow (sI : Memref sig .scVector .vmem S2x4096 .i32) slot).view.emb (rowIx j) = cellIx slot j :=
    slotRow_emb (e := .i32) sI slot (rowIx j)
  rw [← e]
  refine (View.write_emb_of_mem (v := (slotRow (sI : Memref sig .scVector .vmem S2x4096 .i32) slot).view) fI _ (Finset.mem_univ (rowIx j))).trans ?_
  rw [cast_eq, View.read_apply, cast_eq, indexRow_emb off inb b h0 h1]
  rfl

/-- The plane, copied in. -/
theorem plane_lands (off : Fin 3 → ℕ) (inb : ∀ a, off a + S1x1x100000.size a ≤ S3x16x100000.size a)
    (k : Fin 3) (b : Fin 16) (h0 : off 0 = k.val) (h1 : off 1 = b.val) (h2 : off 2 = 0) (P3 : Vec F S3x16x100000 .f32)
    (fP : Vec F S100000 .f32) (n : Fin 100000) :
    (sP : Memref sig .scVector .vmem S100000 .f32).view.write (Elt F) fP ((planeOf aP off inb).view.read (Elt F) P3) Finset.univ
      (planeIx n) = P3 (ptsIx k b n) := by
  refine (congrFun (View.write_whole_univ cc0_scratch0 fP _) (planeIx n)).trans ?_
  rw [View.read_apply, cast_eq, planeOf_emb off inb k b h0 h1 h2]
  rfl

/-- A task up to its write-out, run. -/
theorem wp_fetchTask (chk : IVec S16 32 → Prop) (dec : ∀ v, Decidable (chk v))
    (himp : ∀ v, chk v → ∀ a x, ((![v] : Fin 1 → IVec S16 32) a x).toNat < S100000.size a)
    (hchk : ∀ v : IVec S16 32, (∀ x, (v x).toNat < 100000) → chk v)
    (slot : Fin 2) (off : Fin 3 → ℕ) (inb : ∀ a, off a + S1x1x100000.size a ≤ S3x16x100000.size a)
    (off' : Fin 2 → ℕ) (inb' : ∀ a, off' a + S1x4096.size a ≤ S16x4096.size a)
    (k : Fin 3) (b : Fin 16) (h0 : off 0 = k.val) (h1 : off 1 = b.val) (h2 : off 2 = 0) (h0' : off' 0 = b.val) (h1' : off' 1 = 0)
    (P3 : Vec F S3x16x100000 .f32) (IX : Vec F S16x4096 .i32) (hIX : ∀ x, (IX x : BitVec 32).toNat < 100000)
    (qP qI : PosShare TreeShare) (f : Vec F S2x4096 .f32)
    (Sd : Finset S2x4096.Idx) (hSd : ∀ x : S2x4096.Idx, x 0 = slot → x ∈ Sd)
    (O : CellTallies nD τ sig (HIx 1)) (W : Waits sig (HIx 1)) (hO : ∀ g, O g none = 0)
    (kont : PUnit → Prog (TpuEff nD τ sig (Elt F) Λ₀ (.scVector c s)) PUnit) (Q : PUnit → sProp 𝕄) :
    iprop(levAts (K (F := F)).L (K (F := F)).lev
        ∗ ((V d c s).loc main_v0_scv ↦{qP} P3) ∗ ((V d c s).loc main_arg1_scv ↦{qI} IX)
        ∗ (∃ fP, (V d c s).loc cc0_scratch0 ↦{fullShare} fP) ∗ (∃ fI, (V d c s).loc cc0_scratch1 ↦{fullShare} fI)
        ∗ ((V d c s).loc cc0_scratch2 ↦[Sd]{fullShare} f)
        ∗ semVal (V d c s, .dma cc0_scratch3.sem) 0 ∗ semVal (V d c s, .dma cc0_scratch4.sem) 0 ∗ owes (V d c s) O W)
      ⊢ iprop((iprop(((V d c s).loc main_v0_scv ↦{qP} P3) ∗ ((V d c s).loc main_arg1_scv ↦{qI} IX)
            ∗ (∃ fP, (V d c s).loc cc0_scratch0 ↦{fullShare} fP) ∗ (∃ fI, (V d c s).loc cc0_scratch1 ↦{fullShare} fI)
            ∗ (∃ f' : Vec F S2x4096 .f32, ⌜∀ j, f' (cellIx slot j) = sample P3 IX k b j⌝ ∗ ((V d c s).loc cc0_scratch2 ↦[Sd]{fullShare} f'))
            ∗ semVal (V d c s, .dma cc0_scratch3.sem) 0 ∗ semVal (V d c s, .dma cc0_scratch4.sem) 0
            ∗ owes (V d c s) O (insert (SemLoc.dma cc0_scratch3.sem, none) (insert (SemLoc.dma cc0_scratch4.sem, none) W)))
          -∗ wp frame (wpE (defs₀ (F := F)) 𝒱₀ (V d c s) none) Set.univ (kont ⟨⟩) Q)
        -∗ wp frame (wpE (defs₀ (F := F)) 𝒱₀ (V d c s) none) Set.univ
          (fetchTask sP sI sO chk dec himp slot aP off inb aI off' inb' (Memref.isWhole_whole _) cc0_scratch3 cc0_scratch4 >>= kont) Q) := by
  unfold fetchTask
  simp only [Prog.lift, Prog.bind_op, Prog.bind_ret, Prog.pure_eq_ret, bind_assoc]
  iintro ⟨#Hlv, HvP, HvI, ⟨%fP, HP⟩, ⟨%fI, HI⟩, HO, HsA, HsB, Hw⟩ Hk
  -- the plane's copy starts
  ihave HvP' := (pointsTo_split_subset (Finset.subset_univ (planeOf aP off inb).view.set)).1 $$ HvP
  icases HvP' with ⟨HvP, HvPr⟩
  iapply (Transfers.wp_dmaLocal EC 𝒱₀ (V d c s) none (src := planeOf aP off inb) (dst := sP) (q := qP) (fs := P3) (fd := fP)
    (Sd := Finset.univ) none _ rfl (View.amount_pos _ _ (by decide)) (Finset.subset_univ _)) $$ [HvP HP HsA]
  · isplitl [HvP]; · iexact HvP
    isplitl [HP]; · iexact HP
    iexact HsA
  iintro HfA
  -- the indices' copy starts
  ihave HvI' := (pointsTo_split_subset (Finset.subset_univ (indexRow aI off' inb').view.set)).1 $$ HvI
  icases HvI' with ⟨HvI, HvIr⟩
  iapply (Transfers.wp_dmaLocal EC 𝒱₀ (V d c s) none (src := indexRow aI off' inb') (dst := slotRow sI slot) (q := qI) (fs := IX) (fd := fI)
    (Sd := Finset.univ) none _ rfl (View.amount_pos _ _ (by decide)) (Finset.subset_univ _)) $$ [HvI HI HsB]
  · isplitl [HvI]; · iexact HvI
    isplitl [HI]; · iexact HI
    iexact HsB
  iintro HfB
  -- the indices are waited for, then the plane
  iapply (Transfers.wp_waitLocalO EC 𝒱₀ (V d c s) none none rfl (O := O) (W := W)) $$ [HfB Hw]
  · isplitl [HfB]; · iexact HfB
    isplitl [Hw]; · iexact Hw
    iapply ((K (F := F)).mayWait_none (SemLoc.dma cc0_scratch4.sem) hO); iexact Hlv
  iintro ⟨⟨HI, HvI⟩, HsB, Hw⟩
  iapply (Transfers.wp_waitLocalO EC 𝒱₀ (V d c s) none none rfl (O := O)) $$ [HfA Hw]
  · isplitl [HfA]; · iexact HfA
    isplitl [Hw]; · iexact Hw
    iapply ((K (F := F)).mayWait_none (SemLoc.dma cc0_scratch3.sem) hO); iexact Hlv
  iintro ⟨⟨HP, HvP⟩, HsA, Hw⟩
  ihave HvP := (pointsTo_split_subset (ℓ := (V d c s).loc main_v0_scv) (S := Finset.univ) (q := qP) (f := P3) (Finset.subset_univ (planeOf aP off inb).view.set)).2 $$ [HvP HvPr]
  · isplitl [HvP]; · iexact HvP
    iexact HvPr
  ihave HvI := (pointsTo_split_subset (ℓ := (V d c s).loc main_arg1_scv) (S := Finset.univ) (q := qI) (f := IX) (Finset.subset_univ (indexRow aI off' inb').view.set)).2 $$ [HvI HvIr]
  · isplitl [HvI]; · iexact HvI
    iexact HvIr
  -- the gathers
  have hidx : ∀ x : S2x4096.Idx, x 0 = slot →
      ((slotRow (sI : Memref sig .scVector .vmem S2x4096 .i32) slot).view.write (Elt F) fI ((indexRow aI off' inb').view.read (Elt F) IX) Finset.univ x : BitVec 32).toNat < 100000 := by
    intro x hx
    rw [← cellIx_eta x, hx]
    exact (congrArg BitVec.toNat (idx_lands slot off' inb' b h0' h1' IX fI (x 1))).trans_lt (hIX _)
  iapply (wp_gatherRun d c s chk dec himp slot hchk
    ((sP : Memref sig .scVector .vmem S100000 .f32).view.write (Elt F) fP ((planeOf aP off inb).view.read (Elt F) P3) Finset.univ)
    ((slotRow (sI : Memref sig .scVector .vmem S2x4096 .i32) slot).view.write (Elt F) fI ((indexRow aI off' inb').view.read (Elt F) IX) Finset.univ)
    hidx Sd hSd kont Q 256 le_rfl f) $$ [HP HI HO]
  · isplitl [HP]; · iexact HP
    isplitl [HI]; · iexact HI
    iexact HO
  iintro ⟨HP, HI, HO⟩
  iapply Hk
  isplitl [HvP]; · iexact HvP
  isplitl [HvI]; · iexact HvI
  isplitl [HP]; · iexists _; iexact HP
  isplitl [HI]; · iexists _; iexact HI
  isplitl [HO]
  · iexists _; isplitr; rotate_left
    · iexact HO
    · ipureintro
      intro j
      unfold putFrom
      rw [if_pos ⟨rfl, by omega⟩]
      unfold fetched sample
      exact (plane_lands off inb k b h0 h1 h2 P3 fP _).trans
        (congrArg (fun w => P3 (ptsIx k b (ptOf w))) (idx_lands slot off' inb' b h0' h1' IX fI j))
  isplitl [HsA]; · iexact HsA
  isplitl [HsB]; · iexact HsB
  iexact Hw

end Task

end Cert.Proof
-- ==== Proof.Tile.lean ====
/-
  A subcore's body, run: from read shares of the points and the indices and its own rows of the result, to those rows at
  the samples.  The two write-outs of a worker with two tasks are on one semaphore, and the wait for the second is the
  first wait made: nothing is known of either row until the last wait, which gives both back.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Rows and slots as sets -/

/-- Row `(k, b)` of the result. -/
def rowSet (k : Fin 3) (b : Fin 16) : Finset S3x16x4096.Idx :=
  Finset.univ.filter fun x => (x 0).val = k.val ∧ (x 1).val = b.val

/-- Row `slot` of the values. -/
def slotSet (slot : Fin 2) : Finset S2x4096.Idx := Finset.univ.filter fun x => (x 0).val = slot.val

/-- The rows worker `w` writes: those whose number is `w` or `w + 32`. -/
def ownSet (w : ℕ) : Finset S3x16x4096.Idx := Finset.univ.filter fun x => (16 * (x 0).val + (x 1).val) % 32 = w

theorem mem_rowSet {k : Fin 3} {b : Fin 16} {x : S3x16x4096.Idx} : x ∈ rowSet k b ↔ (x 0).val = k.val ∧ (x 1).val = b.val := by
  simp only [rowSet, Finset.mem_filter, Finset.mem_univ, true_and]
theorem mem_slotSet {slot : Fin 2} {x : S2x4096.Idx} : x ∈ slotSet slot ↔ (x 0).val = slot.val := by
  simp only [slotSet, Finset.mem_filter, Finset.mem_univ, true_and]
theorem mem_ownSet {w : ℕ} {x : S3x16x4096.Idx} : x ∈ ownSet w ↔ (16 * (x 0).val + (x 1).val) % 32 = w := by
  simp only [ownSet, Finset.mem_filter, Finset.mem_univ, true_and]

/-- The coordinate and the cloud of worker `w`'s task `t`. -/
def kOf (w : ℕ) (t : Fin 2) : Fin 3 := ⟨(w + 32 * t.val) / 16 % 3, Nat.mod_lt _ (by decide)⟩
def bOf (w : ℕ) (t : Fin 2) : Fin 16 := ⟨(w + 32 * t.val) % 16, Nat.mod_lt _ (by decide)⟩

theorem own_one {w : ℕ} (h : w < 32) (h' : 16 ≤ w) : ownSet w = rowSet (kOf w 0) (bOf w 0) := by
  ext x
  rw [mem_ownSet, mem_rowSet]
  have h0 : (x 0).val < 3 := (x 0).isLt
  have h1 : (x 1).val < 16 := (x 1).isLt
  simp only [kOf, bOf, Fin.val_zero]
  omega

theorem own_first {w : ℕ} (h : w < 16) : rowSet (kOf w 0) (bOf w 0) ⊆ ownSet w := by
  intro x
  rw [mem_ownSet, mem_rowSet]
  have h0 : (x 0).val < 3 := (x 0).isLt
  have h1 : (x 1).val < 16 := (x 1).isLt
  simp only [kOf, bOf, Fin.val_zero]
  omega

theorem own_second {w : ℕ} (h : w < 16) : ownSet w \ rowSet (kOf w 0) (bOf w 0) = rowSet (kOf w 1) (bOf w 1) := by
  ext x
  rw [Finset.mem_sdiff, mem_ownSet, mem_rowSet, mem_rowSet]
  have h0 : (x 0).val < 3 := (x 0).isLt
  have h1 : (x 1).val < 16 := (x 1).isLt
  simp only [kOf, bOf, Fin.val_zero, Fin.val_one]
  omega

theorem slot_one : (Finset.univ : Finset S2x4096.Idx) \ slotSet 0 = slotSet 1 := by
  ext x
  rw [Finset.mem_sdiff, mem_slotSet, mem_slotSet]
  have h0 : (x 0).val < 2 := (x 0).isLt
  simp only [Finset.mem_univ, true_and, Fin.val_zero, Fin.val_one]
  omega

theorem set_resultRow (off : Fin 3 → ℕ) (inb : ∀ a, off a + S1x1x4096.size a ≤ S3x16x4096.size a)
    (k : Fin 3) (b : Fin 16) (h0 : off 0 = k.val) (h1 : off 1 = b.val) (h2 : off 2 = 0) :
    (resultRow aO off inb).view.set = rowSet k b := by
  apply Finset.Subset.antisymm
  · intro y hy
    obtain ⟨x, -, rfl⟩ := Finset.mem_map.mp hy
    rw [resultRow_emb off inb k b h0 h1 h2]
    exact mem_rowSet.mpr ⟨rfl, rfl⟩
  · intro y hy
    refine Finset.mem_map.mpr ⟨rowIx (y 2), Finset.mem_univ _, ?_⟩
    rw [resultRow_emb off inb k b h0 h1 h2]
    funext a
    apply Fin.ext
    fin_cases a
    · exact (mem_rowSet.mp hy).1.symm
    · exact (mem_rowSet.mp hy).2.symm
    · rfl

theorem set_slotRow (slot : Fin 2) : (slotRow (sO : Memref sig .scVector .vmem S2x4096 .f32) slot).view.set = slotSet slot := by
  apply Finset.Subset.antisymm
  · intro y hy
    obtain ⟨x, -, rfl⟩ := Finset.mem_map.mp hy
    rw [slotRow_emb (e := .f32)]
    exact mem_slotSet.mpr rfl
  · intro y hy
    refine Finset.mem_map.mpr ⟨rowIx (y 1), Finset.mem_univ _, ?_⟩
    rw [slotRow_emb (e := .f32)]
    show cellIx slot (y 1) = y
    funext a
    apply Fin.ext
    fin_cases a
    · exact (mem_slotSet.mp hy).symm
    · rfl

variable [FloatOps F]

/-- The whole result, in the kernel's layout. -/
def outFn (P3 : Vec F S3x16x100000 .f32) (IX : Vec F S16x4096 .i32) : Vec F S3x16x4096 .f32 :=
  fun x => sample P3 IX (x 0) (x 1) (x 2)

section Tile

variable (d : Dev nD) (c : Fin τ.nSC) (s : Fin τ.nSub)

/-- What a write-out of `S4096` words amounts to on its semaphore. -/
abbrev NO : ℕ := sig.dmaCredit .scVector (Kind.scVector.table .hbm) (main_v1_scv : Ref sig .scVector).idx S4096 .f32
theorem NO_pos : 0 < NO := sig.dmaCredit_pos _ _ _ _ _ (by decide)

/-- What a write-out leaves on its row. -/
theorem out_lands (slot : Fin 2) (off : Fin 3 → ℕ) (inb : ∀ a, off a + S1x1x4096.size a ≤ S3x16x4096.size a)
    (k : Fin 3) (b : Fin 16) (h0 : off 0 = k.val) (h1 : off 1 = b.val) (h2 : off 2 = 0)
    (P3 : Vec F S3x16x100000 .f32) (IX : Vec F S16x4096 .i32) (f : Vec F S2x4096 .f32)
    (hf : ∀ j, f (cellIx slot j) = sample P3 IX k b j) (g : Vec F S3x16x4096 .f32) :
    ∀ y ∈ rowSet k b, (resultRow aO off inb).view.write (Elt F) g
      ((slotRow (sO : Memref sig .scVector .vmem S2x4096 .f32) slot).view.read (Elt F) f) Finset.univ y = outFn P3 IX y := by
  intro y hy
  have e : (resultRow aO off inb).view.emb (rowIx (y 2)) = y := by
    rw [resultRow_emb off inb k b h0 h1 h2]
    funext a
    apply Fin.ext
    fin_cases a
    · exact (mem_rowSet.mp hy).1.symm
    · exact (mem_rowSet.mp hy).2.symm
    · rfl
  have hk : y 0 = k := Fin.ext (mem_rowSet.mp hy).1
  have hb : y 1 = b := Fin.ext (mem_rowSet.mp hy).2
  refine ((congrArg _ e.symm).trans (View.write_emb_of_mem (v := (resultRow aO off inb).view) g _ (Finset.mem_univ (rowIx (y 2))))).trans ?_
  rw [cast_eq, View.read_apply, cast_eq]
  refine (congrArg f (slotRow_emb (e := .f32) sO slot (rowIx (y 2)))).trans ((hf _).trans ?_)
  unfold outFn
  rw [hk, hb]
  rfl

/-- A write-out started, as one of a batch on the write-outs' semaphore. -/
theorem wp_startOut (slot : Fin 2) (off : Fin 3 → ℕ) (inb : ∀ a, off a + S1x1x4096.size a ≤ S3x16x4096.size a)
    (k : Fin 3) (b : Fin 16) (h0 : off 0 = k.val) (h1 : off 1 = b.val) (h2 : off 2 = 0)
    (P3 : Vec F S3x16x100000 .f32) (IX : Vec F S16x4096 .i32) (f : Vec F S2x4096 .f32)
    (hf : ∀ j, f (cellIx slot j) = sample P3 IX k b j) (g : Vec F S3x16x4096 .f32)
    {n : ℕ} (Dl : Fin n → sProp 𝕄) (j u : ℕ) (hj : j < n) (hu : u ≤ j * NO)
    (hD : iprop(((V d c s).loc main_v1_scv ↦[rowSet k b]{fullShare} outFn P3 IX) ∗ ((V d c s).loc cc0_scratch2 ↦[slotSet slot]{fullShare} f))
      ⊢ Dl ⟨j, hj⟩)
    (kont : PUnit → Prog (TpuEff nD τ sig (Elt F) Λ₀ (.scVector c s)) PUnit) (Q : PUnit → sProp 𝕄) :
    iprop(((V d c s).loc cc0_scratch2 ↦[slotSet slot]{fullShare} f) ∗ ((V d c s).loc main_v1_scv ↦[rowSet k b]{fullShare} g)
        ∗ Transfers.Batch EC (V d c s) (.dma cc0_scratch5.sem) none NO Dl j u)
      ⊢ iprop((Transfers.Batch EC (V d c s) (.dma cc0_scratch5.sem) none NO Dl (j + 1) u
          -∗ wp frame (wpE (defs₀ (F := F)) 𝒱₀ (V d c s) none) Set.univ (kont ⟨⟩) Q)
        -∗ wp frame (wpE (defs₀ (F := F)) 𝒱₀ (V d c s) none) Set.univ (startOut aO sO cc0_scratch5 slot off inb >>= kont) Q) := by
  unfold startOut
  simp only [Prog.lift, Prog.bind_op, Prog.bind_ret, Prog.pure_eq_ret, bind_assoc]
  have hS := set_slotRow slot
  have hR := set_resultRow off inb k b h0 h1 h2
  iintro ⟨HO, Hv, HB⟩ Hk
  iapply (Transfers.wp_dmaBatch EC 𝒱₀ (V d c s) none (src := slotRow sO slot) (dst := resultRow aO off inb) (q := fullShare) (fs := f) (fd := g)
    (Sd := rowSet k b) (D := Dl) (j := j) (u := u) none NO rfl (Finset.subset_of_eq hR) hj hu ?hD) $$ [HO Hv HB]
  case hD =>
    rw [hS]
    exact (sep_mono (Entails.of_eq (pointsTo_congr (out_lands slot off inb k b h0 h1 h2 P3 IX f hf g))) .rfl).trans hD
  · rw [hS]
    isplitl [HO]; · iexact HO
    isplitl [Hv]; · iexact Hv
    iexact HB
  iexact Hk

/-- What one write-out gives back: its row of the result at the samples, and its row of the values. -/
def deliv (P3 : Vec F S3x16x100000 .f32) (IX : Vec F S16x4096 .i32) (w : ℕ) (t : Fin 2) : sProp 𝕄 :=
  iprop(((V d c s).loc main_v1_scv ↦[rowSet (kOf w t) (bOf w t)]{fullShare} outFn P3 IX)
    ∗ ∃ f, (V d c s).loc cc0_scratch2 ↦[slotSet t]{fullShare} f)

instance deliv_storable (P3 : Vec F S3x16x100000 .f32) (IX : Vec F S16x4096 .i32) (w : ℕ) (t : Fin 2) :
    BI.Storable (upEmb : UEmb _ 𝕄) (deliv (F := F) d c s P3 IX w t) := by
  unfold deliv; infer_instance

end Tile

end Cert.Proof
-- ==== Proof.Body.lean ====
/-
  The body of a subcore, run.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

theorem chk1_of (v : IVec S16 32) (h : ∀ x, (v x).toNat < 100000) : k0_chk1 v := by
  intro a x
  obtain rfl : a = 0 := Subsingleton.elim _ _
  exact h x

theorem chk257_of (i : grid0.Coords) (v : IVec S16 32) (h : ∀ x, (v x).toNat < 100000) : k0_chk257 i v := by
  intro _ a x
  obtain rfl : a = 0 := Subsingleton.elim _ _
  exact h x

abbrev cV (L : grid0.Coords) : Fin τ.nSC := (L 0).castLE hcore0
abbrev jV (L : grid0.Coords) : Fin τ.nSub := (L 1).castLE hsub0

theorem wid_lt (L : grid0.Coords) : wid L < 32 := by
  have h0 : (L 0).val < 2 := (L 0).isLt
  have h1 : (L 1).val < 16 := (L 1).isLt
  show (L 1).val * 2 + (L 0).val < 32
  omega

omit [FloatOps F] in
theorem sep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

section Body

variable (d : Dev nD) (L : grid0.Coords)

/-- What a subcore holds besides its piece of the result: its read shares, its own memory, its semaphores at zero. -/
def around (P3 : Vec F S3x16x100000 .f32) (IX : Vec F S16x4096 .i32) (qP qI : PosShare TreeShare) : sProp 𝕄 :=
  iprop(((V d (cV L) (jV L)).loc main_v0_scv ↦{qP} P3) ∗ ((V d (cV L) (jV L)).loc main_arg1_scv ↦{qI} IX)
    ∗ (∃ fP, (V d (cV L) (jV L)).loc cc0_scratch0 ↦{fullShare} fP) ∗ (∃ fI, (V d (cV L) (jV L)).loc cc0_scratch1 ↦{fullShare} fI)
    ∗ (∃ fO, (V d (cV L) (jV L)).loc cc0_scratch2 ↦{fullShare} fO)
    ∗ semVal (V d (cV L) (jV L), .dma cc0_scratch3.sem) 0 ∗ semVal (V d (cV L) (jV L), .dma cc0_scratch4.sem) 0
    ∗ semVal (V d (cV L) (jV L), .dma cc0_scratch5.sem) 0)

/-- The body of a subcore: its rows of the result end at the samples. -/
theorem wp_body (P3 : Vec F S3x16x100000 .f32) (IX : Vec F S16x4096 .i32) (hIX : ∀ x, (IX x : BitVec 32).toNat < 100000)
    (qP qI : PosShare TreeShare) (g : Vec F S3x16x4096 .f32)
    (O : CellTallies nD τ sig (HIx 1)) (W : Waits sig (HIx 1)) (hO : ∀ g, O g none = 0) :
    iprop(levAts (K (F := F)).L (K (F := F)).lev ∗ around d L P3 IX qP qI
        ∗ ((V d (cV L) (jV L)).loc main_v1_scv ↦[ownSet (wid L)]{fullShare} g) ∗ owes (V d (cV L) (jV L)) O W)
      ⊢ wp frame (wpE (defs₀ (F := F)) 𝒱₀ (V d (cV L) (jV L)) none) Set.univ
          (cc0_body L aP (Memref.isWhole_whole _) aI (Memref.isWhole_whole _) aO (Memref.isWhole_whole _)
            sP (Memref.isWhole_whole _) sI (Memref.isWhole_whole _) sO (Memref.isWhole_whole _) cc0_scratch3 cc0_scratch4 cc0_scratch5)
          fun _ => iprop(around d L P3 IX qP qI
            ∗ ((V d (cV L) (jV L)).loc main_v1_scv ↦[ownSet (wid L)]{fullShare} outFn P3 IX)
            ∗ ∃ W', ⌜∀ p ∈ W', p ∈ W ∨ p.2 = none⌝ ∗ owes (V d (cV L) (jV L)) O W') := by
  rw [body_eq]
  have hw := wid_lt L
  obtain ⟨a0, a1, a2⟩ := off1_eq L
  obtain ⟨b0, b1⟩ := off2_eq L
  obtain ⟨c0, c1, c2⟩ := off3_eq L
  have k0 : wid L / 16 = (kOf (wid L) 0).val := by simp only [kOf, Fin.val_zero]; omega
  have r0 : wid L % 16 = (bOf (wid L) 0).val := by simp only [bOf, Fin.val_zero]; omega
  unfold around
  iintro ⟨#Hlv, ⟨HvP, HvI, HP, HI, ⟨%fO, HO⟩, HsA, HsB, HsC⟩, Hv, Hw⟩
  iapply (wp_fetchTask d (cV L) (jV L) k0_chk1 k0_chk1.dec k0_idx1_inb chk1_of 0 (k0_off1 L) (k0_off1_inb L) (k0_off2 L) (k0_off2_inb L)
    (kOf (wid L) 0) (bOf (wid L) 0) (a0.trans k0) (a1.trans r0) a2 (b0.trans r0) b1 P3 IX hIX qP qI fO Finset.univ
    (fun _ _ => Finset.mem_univ _) O W hO) $$ [HvP HvI HP HI HO HsA HsB Hw]
  · isplitr; · iexact Hlv
    isplitl [HvP]; · iexact HvP
    isplitl [HvI]; · iexact HvI
    isplitl [HP]; · iexact HP
    isplitl [HI]; · iexact HI
    isplitl [HO]; · iexact HO
    isplitl [HsA]; · iexact HsA
    isplitl [HsB]; · iexact HsB
    iexact Hw
  iintro ⟨HvP, HvI, HP, HI, ⟨%f1, %hf1, HO⟩, HsA, HsB, Hw⟩
  ihave HO' := (pointsTo_split_subset (Finset.subset_univ (slotSet 0))).1 $$ HO
  icases HO' with ⟨HO0, HO1⟩
  rw [slot_one]
  by_cases h1 : k0_cond1 L = 1#1
  · -- two tasks
    have h16 : wid L < 16 := (cond1_iff L).mp h1
    obtain ⟨d0, d1, d2⟩ := off4_eq L h16
    obtain ⟨e0, e1⟩ := off5_eq L h16
    obtain ⟨g0, g1, g2⟩ := off6_eq L h16
    have k1 : 2 = (kOf (wid L) 1).val := by simp only [kOf, Fin.val_one]; omega
    have r1 : wid L = (bOf (wid L) 1).val := by simp only [bOf, Fin.val_one]; omega
    simp only [dif_pos h1]
    ihave Hv' := (pointsTo_split_subset (own_first h16)).1 $$ Hv
    icases Hv' with ⟨Hv0, Hv1⟩
    rw [own_second h16]
    imod (Transfers.batch_alloc' EC (V d (cV L) (jV L)) none NO (deliv (F := F) d (cV L) (jV L) P3 IX (wid L)) (E := Set.univ)) $$ HsC with HB
    iapply (wp_startOut d (cV L) (jV L) 0 (k0_off3 L) (k0_off3_inb L) (kOf (wid L) 0) (bOf (wid L) 0) (c0.trans k0) (c1.trans r0) c2
      P3 IX f1 hf1 g (deliv (F := F) d (cV L) (jV L) P3 IX (wid L)) 0 0 (by decide) (Nat.zero_le _) ?hD0) $$ [HO0 Hv0 HB]
    case hD0 =>
      unfold deliv
      exact sep_mono .rfl (exists_intro f1)
    · isplitl [HO0]; · iexact HO0
      isplitl [Hv0]; · iexact Hv0
      iexact HB
    iintro HB
    iapply (wp_fetchTask d (cV L) (jV L) (k0_chk257 L) (k0_chk257.dec L) (fun v hv => k0_idx257_inb L v hv h1) (chk257_of L) 1
      (k0_off4 L) (k0_off4_inb L h1) (k0_off5 L) (k0_off5_inb L h1)
      (kOf (wid L) 1) (bOf (wid L) 1) (d0.trans k1) (d1.trans r1) d2 (e0.trans r1) e1 P3 IX hIX qP qI f1 (slotSet 1)
      (fun x hx => mem_slotSet.mpr (congrArg Fin.val hx)) O _ hO) $$ [HvP HvI HP HI HO1 HsA HsB Hw]
    · isplitr; · iexact Hlv
      isplitl [HvP]; · iexact HvP
      isplitl [HvI]; · iexact HvI
      isplitl [HP]; · iexact HP
      isplitl [HI]; · iexact HI
      isplitl [HO1]; · iexact HO1
      isplitl [HsA]; · iexact HsA
      isplitl [HsB]; · iexact HsB
      iexact Hw
    iintro ⟨HvP, HvI, HP, HI, ⟨%f2, %hf2, HO1⟩, HsA, HsB, Hw⟩
    iapply (wp_startOut d (cV L) (jV L) 1 (k0_off6 L) (k0_off6_inb L h1) (kOf (wid L) 1) (bOf (wid L) 1) (g0.trans k1) (g1.trans r1) g2
      P3 IX f2 hf2 g (deliv (F := F) d (cV L) (jV L) P3 IX (wid L)) 1 0 (by decide) (Nat.zero_le _) ?hD1) $$ [HO1 Hv1 HB]
    case hD1 =>
      unfold deliv
      exact sep_mono .rfl (exists_intro f2)
    · isplitl [HO1]; · iexact HO1
      isplitl [Hv1]; · iexact Hv1
      iexact HB
    iintro HB
    unfold waitOut
    simp only [Prog.lift, Prog.bind_op, Prog.bind_ret, Prog.pure_eq_ret, bind_assoc]
    iapply (Transfers.wp_waitBatchO EC 𝒱₀ (V d (cV L) (jV L)) none none (n := 2) (N := NO) rfl (u := 0) (by have := NO_pos; omega) (O := O)) $$ [HB Hw]
    · isplitl [HB]; · iexact HB
      isplitl [Hw]; · iexact Hw
      iapply ((K (F := F)).mayWait_none (SemLoc.dma cc0_scratch5.sem) hO); iexact Hlv
    iintro ⟨HB, Hw⟩
    iapply (Transfers.wp_waitBatchLastO EC 𝒱₀ (V d (cV L) (jV L)) none none (n := 2) (N := NO) rfl NO_pos (u := 0 + NO) (by omega) (O := O)) $$ [HB Hw]
    · isplitl [HB]; · iexact HB
      isplitl [Hw]; · iexact Hw
      iapply ((K (F := F)).mayWait_none (SemLoc.dma cc0_scratch5.sem) hO); iexact Hlv
    iintro ⟨HD, HsC, Hw⟩
    ihave HD' := (Entails.of_eq (sep_two (deliv (F := F) d (cV L) (jV L) P3 IX (wid L)))) $$ HD
    unfold deliv
    icases HD' with ⟨⟨Hv0, ⟨%f3, HO0⟩⟩, ⟨Hv1, ⟨%f4, HO1⟩⟩⟩
    rw [← own_second h16, ← slot_one]
    ihave Hv := (pointsTo_split_subset (ℓ := (V d (cV L) (jV L)).loc main_v1_scv) (q := fullShare) (f := outFn P3 IX) (own_first h16)).2 $$ [Hv0 Hv1]
    · isplitl [Hv0]; · iexact Hv0
      iexact Hv1
    ihave HO := (pointsTo_join_subset (ℓ := (V d (cV L) (jV L)).loc cc0_scratch2) (q := fullShare) (g := f3) (f := f4) (Finset.subset_univ (slotSet 0))) $$ [HO0 HO1]
    · isplitl [HO0]; · iexact HO0
      iexact HO1
    rw [wp_ret]; imodintro
    isplitr [Hv Hw]
    · isplitl [HvP]; · iexact HvP
      isplitl [HvI]; · iexact HvI
      isplitl [HP]; · iexact HP
      isplitl [HI]; · iexact HI
      isplitl [HO]; · iexists _; iexact HO
      isplitl [HsA]; · iexact HsA
      isplitl [HsB]; · iexact HsB
      iexact HsC
    isplitl [Hv]; · iexact Hv
    iexists _; isplitr; rotate_left
    · iexact Hw
    · ipureintro
      intro p hp
      simp only [Finset.mem_insert] at hp
      rcases hp with rfl | rfl | rfl | rfl | rfl | rfl | hp
      all_goals first | exact .inr rfl | exact .inl hp
  · -- one task
    have h16 : 16 ≤ wid L := Nat.le_of_not_lt fun h => h1 ((cond1_iff L).mpr h)
    simp only [dif_neg h1]
    rw [own_one hw h16]
    imod (Transfers.batch_alloc' EC (V d (cV L) (jV L)) none NO (fun _ : Fin 1 => deliv (F := F) d (cV L) (jV L) P3 IX (wid L) 0) (E := Set.univ)) $$ HsC with HB
    iapply (wp_startOut d (cV L) (jV L) 0 (k0_off3 L) (k0_off3_inb L) (kOf (wid L) 0) (bOf (wid L) 0) (c0.trans k0) (c1.trans r0) c2
      P3 IX f1 hf1 g (fun _ : Fin 1 => deliv (F := F) d (cV L) (jV L) P3 IX (wid L) 0) 0 0 (by decide) (Nat.zero_le _) ?hD0) $$ [HO0 Hv HB]
    case hD0 =>
      unfold deliv
      exact sep_mono .rfl (exists_intro f1)
    · isplitl [HO0]; · iexact HO0
      isplitl [Hv]; · iexact Hv
      iexact HB
    iintro HB
    unfold waitOut
    simp only [Prog.lift, Prog.bind_op, Prog.bind_ret, Prog.pure_eq_ret, bind_assoc]
    iapply (Transfers.wp_waitBatchLastO EC 𝒱₀ (V d (cV L) (jV L)) none none (n := 1) (N := NO) rfl NO_pos (u := 0) (by omega) (O := O)) $$ [HB Hw]
    · isplitl [HB]; · iexact HB
      isplitl [Hw]; · iexact Hw
      iapply ((K (F := F)).mayWait_none (SemLoc.dma cc0_scratch5.sem) hO); iexact Hlv
    iintro ⟨HD, HsC, Hw⟩
    ihave HD' := (Entails.of_eq (bigSep_univ_of_subsingleton (0 : Fin 1))) $$ HD
    unfold deliv
    icases HD' with ⟨Hv, ⟨%f3, HO0⟩⟩
    rw [← slot_one]
    ihave HO := (pointsTo_join_subset (ℓ := (V d (cV L) (jV L)).loc cc0_scratch2) (q := fullShare) (g := f3) (f := f1) (Finset.subset_univ (slotSet 0))) $$ [HO0 HO1]
    · isplitl [HO0]; · iexact HO0
      iexact HO1
    rw [wp_ret]; imodintro
    isplitr [Hv Hw]
    · isplitl [HvP]; · iexact HvP
      isplitl [HvI]; · iexact HvI
      isplitl [HP]; · iexact HP
      isplitl [HI]; · iexact HI
      isplitl [HO]; · iexists _; iexact HO
      isplitl [HsA]; · iexact HsA
      isplitl [HsB]; · iexact HsB
      iexact HsC
    isplitl [Hv]; · iexact Hv
    iexists _; isplitr; rotate_left
    · iexact Hw
    · ipureintro
      intro p hp
      simp only [Finset.mem_insert] at hp
      rcases hp with rfl | rfl | rfl | hp
      all_goals first | exact .inr rfl | exact .inl hp

end Body

end Cert.Proof
-- ==== Proof.Deal.lean ====
/-
  What the call hands each SparseCore and each of those hands each of its subcores: a share to read the planes and the
  indices at, and the subcore's rows of the result.  The subcore's obligation follows from its body's run.
-/
module

public import proofs.«01_k».proof.Proof.Body

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

abbrev ptsLoc (d : Dev nD) : Loc nD τ sig := (SparseCore.T d).loc main_arg0
abbrev idxLoc (d : Dev nD) : Loc nD τ sig := (SparseCore.T d).loc main_arg1
abbrev planeLoc (d : Dev nD) : Loc nD τ sig := (SparseCore.T d).loc main_v0
abbrev rowsLoc (d : Dev nD) : Loc nD τ sig := (SparseCore.T d).loc main_v1
abbrev resLoc (d : Dev nD) : Loc nD τ sig := (SparseCore.T d).loc main_v2

/-- The points, one plane per coordinate and cloud. -/
def planes (d : Dev nD) : Vec F S3x16x100000 .f32 :=
  transpose S3x16x100000 [2, 0, 1] (m (ptsLoc d) : Vec F S16x100000x3 .f32) transposes_S16x100000x3_S3x16x100000_2_0_1

/-- The indices. -/
def indices (d : Dev nD) : Vec F S16x4096 .i32 := m (idxLoc d)

/-- Every index names a point. -/
def InRange : Prop := ∀ d x, (indices m d x : BitVec 32).toNat < 100000

variable [FloatOps F]

/-- The kernel's result, in its own layout. -/
def sampled (d : Dev nD) : Vec F S3x16x4096 .f32 := outFn (planes m d) (indices m d)

/-! ## Shares and rows -/

/-- A read share of the planes and the indices, and the entries `A` of the result, at `f`. -/
def piece (d : Dev nD) (q : PosShare TreeShare) (A : Finset S3x16x4096.Idx) (f : Vec F S3x16x4096 .f32) : sProp 𝕄 :=
  iprop((planeLoc d ↦{q} planes m d) ∗ (idxLoc d ↦{q} indices m d) ∗ rowsLoc d ↦[A]{fullShare} f)

/-- What is kept back when `n` read shares are dealt. -/
def kept (d : Dev nD) (q : PosShare TreeShare) (n : ℕ) : sProp 𝕄 :=
  iprop((planeLoc d ↦{Transfers.shareDrop q n} planes m d) ∗ idxLoc d ↦{Transfers.shareDrop q n} indices m d)

instance piece_storable (d : Dev nD) (q : PosShare TreeShare) (A : Finset S3x16x4096.Idx) (f : Vec F S3x16x4096 .f32) :
    BI.Storable (upEmb : UEmb _ 𝕄) (piece m d q A f) := by
  unfold piece; infer_instance

/-- A piece is the pieces of a partition of its entries and what is kept back. -/
theorem piece_deal (d : Dev nD) (q : PosShare TreeShare) {n : ℕ} (A : Finset S3x16x4096.Idx) (B : Fin n → Finset S3x16x4096.Idx)
    (hB : ∀ i ∈ (Finset.univ : Finset (Fin n)), ∀ j ∈ (Finset.univ : Finset (Fin n)), i ≠ j → Disjoint (B i) (B j))
    (hA : A = Finset.univ.biUnion B) (f : Vec F S3x16x4096 .f32) :
    piece m d q A f ⊣⊢ iprop(kept m d q n ∗ bigSep Finset.univ fun i : Fin n => piece m d (Transfers.shareTok q n i) (B i) f) := by
  unfold piece kept
  rw [bigSep_sep', bigSep_sep', hA, pointsTo_biUnion Finset.univ (ℓ := rowsLoc d) B hB]
  constructor
  · iintro ⟨HP, HI, HR⟩
    ihave HP' := (Transfers.pointsTo_toks_split q n) $$ HP
    ihave HI' := (Transfers.pointsTo_toks_split q n) $$ HI
    icases HP' with ⟨HP0, HP⟩
    icases HI' with ⟨HI0, HI⟩
    isplitl [HP0 HI0]
    · isplitl [HP0]; · iexact HP0
      iexact HI0
    isplitl [HP]; · iexact HP
    isplitl [HI]; · iexact HI
    iexact HR
  · iintro ⟨⟨HP0, HI0⟩, HP, HI, HR⟩
    isplitl [HP0 HP]
    · iapply (Transfers.pointsTo_toks_join q n)
      isplitl [HP0]; · iexact HP0
      iexact HP
    isplitl [HI0 HI]
    · iapply (Transfers.pointsTo_toks_join q n)
      isplitl [HI0]; · iexact HI0
      iexact HI
    iexact HR

/-- The entries SparseCore `c`'s subcores write. -/
def coreSet (c : ℕ) : Finset S3x16x4096.Idx := Finset.univ.filter fun x => (16 * (x 0).val + (x 1).val) % 2 = c

omit [FloatOps F] in
theorem mem_coreSet {c : ℕ} {x : S3x16x4096.Idx} : x ∈ coreSet c ↔ (16 * (x 0).val + (x 1).val) % 2 = c := by
  simp only [coreSet, Finset.mem_filter, Finset.mem_univ, true_and]

theorem cores_disjoint : ∀ i ∈ (Finset.univ : Finset (Fin 2)), ∀ j ∈ (Finset.univ : Finset (Fin 2)), i ≠ j →
    Disjoint (coreSet i.val) (coreSet j.val) :=
  fun i _ j _ h => Finset.disjoint_left.mpr fun x hi hj =>
    h (Fin.ext ((mem_coreSet.mp hi).symm.trans (mem_coreSet.mp hj)))

theorem cores_cover : (Finset.univ : Finset S3x16x4096.Idx) = Finset.univ.biUnion fun i : Fin 2 => coreSet i.val := by
  ext x
  refine ⟨fun _ => Finset.mem_biUnion.mpr ⟨⟨_, Nat.mod_lt _ (by decide)⟩, Finset.mem_univ _, mem_coreSet.mpr rfl⟩,
    fun _ => Finset.mem_univ _⟩

theorem subs_disjoint (c : ℕ) : ∀ i ∈ (Finset.univ : Finset (Fin 16)), ∀ j ∈ (Finset.univ : Finset (Fin 16)), i ≠ j →
    Disjoint (ownSet (i.val * 2 + c)) (ownSet (j.val * 2 + c)) :=
  fun i _ j _ h => Finset.disjoint_left.mpr fun x hi hj => h (Fin.ext (by
    have := (mem_ownSet.mp hi).symm.trans (mem_ownSet.mp hj)
    omega))

theorem subs_cover {c : ℕ} (hc : c < 2) : coreSet c = Finset.univ.biUnion fun i : Fin 16 => ownSet (i.val * 2 + c) := by
  ext x
  have h0 : (x 0).val < 3 := (x 0).isLt
  have h1 : (x 1).val < 16 := (x 1).isLt
  constructor
  · intro h
    have := mem_coreSet.mp h
    refine Finset.mem_biUnion.mpr ⟨⟨(16 * (x 0).val + (x 1).val) % 32 / 2, by omega⟩, Finset.mem_univ _, mem_ownSet.mpr ?_⟩
    show _ = (16 * (x 0).val + (x 1).val) % 32 / 2 * 2 + c
    omega
  · intro h
    obtain ⟨i, -, hi⟩ := Finset.mem_biUnion.mp h
    have := mem_ownSet.mp hi
    refine mem_coreSet.mpr ?_
    omega

/-- What the call hands SparseCore `c` (the result at `f`), and what that hands its subcore `i`. -/
def corePiece (d : Dev nD) (c : ℕ) (f : Vec F S3x16x4096 .f32) : sProp 𝕄 :=
  piece m d (Transfers.shareTokN fullShare c) (coreSet c) f
def tilePiece (d : Dev nD) (c i : ℕ) (f : Vec F S3x16x4096 .f32) : sProp 𝕄 :=
  piece m d (Transfers.shareTokN (Transfers.shareTokN fullShare c) i) (ownSet (i * 2 + c)) f

instance corePiece_storable (d : Dev nD) (c : ℕ) (f : Vec F S3x16x4096 .f32) : BI.Storable (upEmb : UEmb _ 𝕄) (corePiece m d c f) := by
  unfold corePiece; infer_instance
instance tilePiece_storable (d : Dev nD) (c i : ℕ) (f : Vec F S3x16x4096 .f32) : BI.Storable (upEmb : UEmb _ 𝕄) (tilePiece m d c i f) := by
  unfold tilePiece; infer_instance

theorem whole_deal (d : Dev nD) (f : Vec F S3x16x4096 .f32) :
    piece m d fullShare Finset.univ f ⊣⊢ iprop(kept m d fullShare 2 ∗ bigSep Finset.univ fun c : Fin 2 => corePiece m d c.val f) :=
  piece_deal m d fullShare Finset.univ (fun c : Fin 2 => coreSet c.val) cores_disjoint cores_cover f

theorem core_deal (d : Dev nD) {c : ℕ} (hc : c < 2) (f : Vec F S3x16x4096 .f32) :
    corePiece m d c f ⊣⊢ iprop(kept m d (Transfers.shareTokN fullShare c) 16 ∗ bigSep Finset.univ fun i : Fin 16 => tilePiece m d c i.val f) :=
  piece_deal m d _ (coreSet c) (fun i : Fin 16 => ownSet (i.val * 2 + c)) (subs_disjoint c) (subs_cover hc) f

/-- The call's hand-overs: out, the result as it is at the launch; back, the result at the samples. -/
def P : (K (F := F)).Pay (nD := nD) (Val := Elt F) (Name := ℕ) (U := UU) where
  st := fun _ d c => corePiece m d c.val (m (rowsLoc d))
  dn := fun _ d c => corePiece m d c.val (sampled m d)
  go := fun _ d c i => tilePiece m d c.val i.val (m (rowsLoc d))
  td := fun _ d c i => tilePiece m d c.val i.val (sampled m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  have hc : c.val < 2 := c.isLt
  show corePiece m d c.val (m (rowsLoc d)) ⊢ |={Set.univ}=> iprop(
      (bigSep Finset.univ fun i : Fin 16 => tilePiece m d c.val i.val (m (rowsLoc d)))
      ∗ ((bigSep Finset.univ fun i : Fin 16 => tilePiece m d c.val i.val (sampled m d)) -∗ corePiece m d c.val (sampled m d)))
  iintro H
  ihave H' := (core_deal m d hc _).1 $$ H
  icases H' with ⟨Hk, Ht⟩
  imodintro
  isplitl [Ht]; · iexact Ht
  iintro Ht
  iapply (core_deal m d hc _).2
  isplitl [Hk]; · iexact Hk
  iexact Ht

/-! ## A subcore's own memory and semaphores -/

section Tile

variable (d : Dev nD) (L : grid0.Coords)

abbrev cellA : GSem nD τ sig := (V d (cV L) (jV L), .dma cc0_scratch3.sem)
abbrev cellB : GSem nD τ sig := (V d (cV L) (jV L), .dma cc0_scratch4.sem)
abbrev cellC : GSem nD τ sig := (V d (cV L) (jV L), .dma cc0_scratch5.sem)

omit [FloatOps F] in
theorem ownSems0_V :
    (ownSems0 (V d (cV L) (jV L)) : sProp 𝕄)
      = iprop(semVal (cellA d L) 0 ∗ semVal (cellB d L) 0 ∗ semVal (cellC d L) 0
          ∗ bigSep ((((ownCells (V d (cV L) (jV L))).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc0_scratch3.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scratch5.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- A subcore's task: its piece at the launch's contents in, at the samples out. -/
theorem wp_tile (hin : InRange m) (O : CellTallies nD τ sig (HIx 1)) (W : Waits sig (HIx 1)) (hO : ∀ g, O g none = 0) :
    iprop(levAts (K (F := F)).L (K (F := F)).lev ∗ emp ∗ tilePiece m d (L 0).val (L 1).val (m (rowsLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L aP (Memref.isWhole_whole _) aI (Memref.isWhole_whole _) aO (Memref.isWhole_whole _)
            sP (Memref.isWhole_whole _) sI (Memref.isWhole_whole _) sO (Memref.isWhole_whole _) cc0_scratch3 cc0_scratch4 cc0_scratch5)
          fun _ => iprop(tilePiece m d (L 0).val (L 1).val (sampled m d) ∗ scopedBufs (V d (cV L) (jV L)) ∗ scopedSems0 (V d (cV L) (jV L))
            ∗ ∃ W', ⌜∀ p ∈ W', p ∈ W ∨ p.2 = none ∨ SparseCore.Cfg.Blocks.blk (0 : Fin 1) p.2⌝ ∗ owes (V d (cV L) (jV L)) O W') := by
  rw [(K (F := F)).scopedBufs_V facts d (cV L) (jV L), SparseCore.Cfg.scopedSems0_V (Val := Elt F) d (cV L) (jV L), ownSems0_V, ownBufs_V]
  unfold tilePiece piece
  iintro ⟨#Hlv, -, ⟨HvP, HvI, Hv⟩, ⟨HP, HI, HO, Hbufs⟩, ⟨HsA, HsB, HsC, Hsems⟩, Hw⟩
  iapply (wp_wand_r frame _ _)
  isplitl [HvP HvI Hv HP HI HO HsA HsB HsC Hw]
  · iapply (wp_body d L (planes m d) (indices m d) (hin d) (Transfers.shareTokN (Transfers.shareTokN fullShare (L 0).val) (L 1).val)
      (Transfers.shareTokN (Transfers.shareTokN fullShare (L 0).val) (L 1).val) (m (rowsLoc d)) O W hO)
    isplitr; · iexact Hlv
    isplitr [Hv Hw]
    · unfold around
      isplitl [HvP]; · iexact HvP
      isplitl [HvI]; · iexact HvI
      isplitl [HP]; · iexact HP
      isplitl [HI]; · iexact HI
      isplitl [HO]; · iexact HO
      isplitl [HsA]; · iexact HsA
      isplitl [HsB]; · iexact HsB
      iexact HsC
    isplitl [Hv]; · iexact Hv
    iexact Hw
  iintro %_ ⟨Har, Hv, %W', %hW', Hw⟩
  unfold around
  icases Har with ⟨HvP, HvI, HP, HI, HO, HsA, HsB, HsC⟩
  isplitl [HvP HvI Hv]
  · isplitl [HvP]; · iexact HvP
    isplitl [HvI]; · iexact HvI
    iexact Hv
  isplitl [HP HI HO Hbufs]
  · isplitl [HP]; · iexact HP
    isplitl [HI]; · iexact HI
    isplitl [HO]; · iexact HO
    iexact Hbufs
  isplitl [HsA HsB HsC Hsems]
  · isplitl [HsA]; · iexact HsA
    isplitl [HsB]; · iexact HsB
    isplitl [HsC]; · iexact HsC
    iexact Hsems
  iexists W'; isplitr
  · ipureintro; exact fun p hp => (hW' p hp).imp_right Or.inl
  iexact Hw

end Tile

/-! ## The subcores' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          aP (Memref.isWhole_whole _) aI (Memref.isWhole_whole _) aO (Memref.isWhole_whole _)
          sP (Memref.isWhole_whole _) sI (Memref.isWhole_whole _) sO (Memref.isWhole_whole _) cc0_scratch3 cc0_scratch4 cc0_scratch5) ⟨⟩ c s := rfl

theorem tileObl (hin : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have e1 : (P m).go 0 d c i = tilePiece m d c.val i.val (m (rowsLoc d)) := rfl
  have e2 : (P m).td 0 d c i = tilePiece m d c.val i.val (sampled m d) := rfl
  have e3 : (P m).x 0 (V d ((K (F := F)).core 0 c) ((K (F := F)).sub 0 i)) = iprop(emp) := rfl
  rw [e1, e2, e3]
  have h := wp_tile m d (coordsV ⟨_, hc.1⟩ ⟨_, hc.2⟩) hin O W hO
  -- the program is the same in both and is not to be looked into
  generalize (cc0_body (F := F) (coordsV ⟨_, hc.1⟩ ⟨_, hc.2⟩) aP (Memref.isWhole_whole _) aI (Memref.isWhole_whole _) aO (Memref.isWhole_whole _)
    sP (Memref.isWhole_whole _) sI (Memref.isWhole_whole _) sO (Memref.isWhole_whole _) cc0_scratch3 cc0_scratch4 cc0_scratch5) = p at h ⊢
  exact h

end Cert.Proof
-- ==== Proof.Launch.lean ====
/-
  The launch: @main's two transpositions around the call, and the run of the whole program.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within unary_result unary_result_ne)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch's own resources -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main's arrays -/

abbrev pts' : DevRef τ sig := Proc.devRef .tc (main_arg0 : Ref sig .tc)
abbrev idx' : DevRef τ sig := Proc.devRef .tc (main_arg1 : Ref sig .tc)
abbrev plane' : DevRef τ sig := Proc.devRef .tc (main_v0 : Ref sig .tc)
abbrev rows' : DevRef τ sig := Proc.devRef .tc (main_v1 : Ref sig .tc)
abbrev res' : DevRef τ sig := Proc.devRef .tc (main_v2 : Ref sig .tc)

/-- The two transpositions. -/
abbrev opIn : HloOp τ sig (Elt F) := StableHlo.unary main_arg0 main_v0 ((transpose S3x16x100000 [2, 0, 1] · transposes_S16x100000x3_S3x16x100000_2_0_1) : (⟨S16x100000x3, .f32⟩ : BufTy).Contents (Elt F) → (⟨S3x16x100000, .f32⟩ : BufTy).Contents (Elt F))
abbrev opOut : HloOp τ sig (Elt F) := StableHlo.unary main_v1 main_v2 ((transpose S16x4096x3 [1, 2, 0] · transposes_S3x16x4096_S16x4096x3_1_2_0) : (⟨S3x16x4096, .f32⟩ : BufTy).Contents (Elt F) → (⟨S16x4096x3, .f32⟩ : BufTy).Contents (Elt F))

abbrev arrays : Finset (DevRef τ sig) := {pts', idx', plane', rows', res'}

omit [FloatOps F] in
theorem held_arrays (d : Dev nD) (W : Valuation τ sig (Elt F)) :
    (held (SparseCore.T d) arrays W : sProp 𝕄) = iprop((ptsLoc d ↦{fullShare} W pts') ∗ (idxLoc d ↦{fullShare} W idx')
      ∗ (planeLoc d ↦{fullShare} W plane') ∗ (rowsLoc d ↦{fullShare} W rows') ∗ resLoc d ↦{fullShare} W res') := by
  unfold held arrays
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((ptsLoc d ↦{fullShare} W main_arg0) ∗ (idxLoc d ↦{fullShare} W main_arg1)
      ∗ (planeLoc d ↦{fullShare} W main_v0) ∗ (rowsLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at the launch; and after the call, its result at the samples. -/
def val0 (d : Dev nD) : Valuation τ sig (Elt F) := fun b => m (d, b)
def val2 (d : Dev nD) : Valuation τ sig (Elt F) := Function.update ((opIn (F := F)).result (val0 m d)) rows' (sampled m d)

omit [FloatOps F] in
theorem unscoped_held (d : Dev nD) :
    (unscopedBufs d (fun b => m ((SparseCore.T d).loc b)) : sProp 𝕄) = held (SparseCore.T d) arrays (val0 m d) := by
  rw [unscopedBufs_eq, held_arrays]; rfl

/-- What the program leaves in its result. -/
def answer (d : Dev nD) : Vec F S16x4096x3 .f32 :=
  transpose S16x4096x3 [1, 2, 0] (sampled m d) transposes_S3x16x4096_S16x4096x3_1_2_0

omit [FloatOps F] in
theorem held_in (d : Dev nD) :
    (held (SparseCore.T d) arrays ((opIn (F := F)).result (val0 m d)) : sProp 𝕄)
      = iprop((ptsLoc d ↦{fullShare} m (ptsLoc d)) ∗ (idxLoc d ↦{fullShare} m (idxLoc d))
        ∗ (planeLoc d ↦{fullShare} planes m d) ∗ (rowsLoc d ↦{fullShare} m (rowsLoc d)) ∗ resLoc d ↦{fullShare} m (resLoc d)) := by
  rw [held_arrays, unary_result, unary_result_ne _ _ _ _ _ _ (show (main_arg0 : Ref sig .tc) ≠ main_v0 by decide),
    unary_result_ne _ _ _ _ _ _ (show (main_arg1 : Ref sig .tc) ≠ main_v0 by decide),
    unary_result_ne _ _ _ _ _ _ (show (main_v1 : Ref sig .tc) ≠ main_v0 by decide),
    unary_result_ne _ _ _ _ _ _ (show (main_v2 : Ref sig .tc) ≠ main_v0 by decide)]
  rfl

theorem val2_rows (d : Dev nD) : val2 m d rows' = sampled m d := Function.update_self _ _ _
theorem val2_ne (d : Dev nD) {b : DevRef τ sig} (h : b ≠ rows') : val2 m d b = (opIn (F := F)).result (val0 m d) b :=
  Function.update_of_ne h _ _

theorem held_mid (d : Dev nD) :
    (held (SparseCore.T d) arrays (val2 m d) : sProp 𝕄)
      = iprop((ptsLoc d ↦{fullShare} m (ptsLoc d)) ∗ (idxLoc d ↦{fullShare} m (idxLoc d))
        ∗ (planeLoc d ↦{fullShare} planes m d) ∗ (rowsLoc d ↦{fullShare} sampled m d) ∗ resLoc d ↦{fullShare} m (resLoc d)) := by
  rw [held_arrays, val2_rows, val2_ne m d (show pts' ≠ rows' by decide), val2_ne m d (show idx' ≠ rows' by decide),
    val2_ne m d (show plane' ≠ rows' by decide), val2_ne m d (show res' ≠ rows' by decide),
    unary_result, unary_result_ne _ _ _ _ _ _ (show (main_arg0 : Ref sig .tc) ≠ main_v0 by decide),
    unary_result_ne _ _ _ _ _ _ (show (main_arg1 : Ref sig .tc) ≠ main_v0 by decide),
    unary_result_ne _ _ _ _ _ _ (show (main_v2 : Ref sig .tc) ≠ main_v0 by decide)]
  rfl

/-- What @main leaves the claims: the arguments as they were, the result. -/
abbrev FIN (d : Dev nD) : sProp 𝕄 :=
  iprop((ptsLoc d ↦{fullShare} m (ptsLoc d)) ∗ (idxLoc d ↦{fullShare} m (idxLoc d)) ∗ resLoc d ↦{fullShare} answer m d)

theorem held_out (d : Dev nD) : (held (SparseCore.T d) arrays ((opOut (F := F)).result (val2 m d)) : sProp 𝕄) ⊢ FIN m d := by
  rw [held_arrays, unary_result, unary_result_ne _ _ _ _ _ _ (show (main_arg0 : Ref sig .tc) ≠ main_v2 by decide),
    unary_result_ne _ _ _ _ _ _ (show (main_arg1 : Ref sig .tc) ≠ main_v2 by decide),
    val2_rows, val2_ne m d (show pts' ≠ rows' by decide), val2_ne m d (show idx' ≠ rows' by decide),
    unary_result_ne _ _ _ _ _ _ (show (main_arg0 : Ref sig .tc) ≠ main_v0 by decide),
    unary_result_ne _ _ _ _ _ _ (show (main_arg1 : Ref sig .tc) ≠ main_v0 by decide)]
  iintro ⟨H0, H1, -, -, H2⟩
  isplitl [H0]; · iexact H0
  isplitl [H1]; · iexact H1
  iexact H2

/-- @main on a device: a transposition, the call, a transposition. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := arrays) (show ({pts', plane'} : Finset (DevRef τ sig)) ⊆ arrays by decide) (V := val0 m d)) $$ [Hb Hheld]
  · isplitl [Hb]; · iexact Hb
    iexact Hheld
  iintro ⟨Hb, Hheld⟩
  rw [wp_ret]; imodintro
  ihave Hh := (Entails.of_eq (held_in (F := F) m d)) $$ Hheld
  icases Hh with ⟨H0, H1, HP, HR, H2⟩
  ihave Hw := (whole_deal m d (m (rowsLoc d))).1 $$ [H1 HP HR]
  · unfold piece
    isplitl [HP]; · iexact HP
    isplitl [H1]; · iexact H1
    iexact HR
  icases Hw with ⟨Hk, Hcs⟩
  iapply ((K (F := F)).wp_run (D (F := F)) 𝒱 (EH := EH) (P := P m) κ d 0) $$ [Hst Hcs H0 H2 Hk Hb Hts]
  isplitr; · iexact Hctx
  isplitl [Hst]; · iexact Hst
  isplitl [Hcs]; · iexact Hcs
  iintro ⟨Hst, Hdn⟩
  ihave Hw := (whole_deal m d (sampled m d)).2 $$ [Hk Hdn]
  · isplitl [Hk]; · iexact Hk
    iexact Hdn
  unfold piece
  icases Hw with ⟨HP, H1, HR⟩
  iapply (wp_hlo_within 𝒱 (SparseCore.T d) none Set.univ (op := opOut) (S := arrays) (show ({rows', res'} : Finset (DevRef τ sig)) ⊆ arrays by decide) (V := val2 m d)) $$ [Hb H0 H1 HP HR H2]
  · isplitl [Hb]; · iexact Hb
    rw [held_mid]
    isplitl [H0]; · iexact H0
    isplitl [H1]; · iexact H1
    isplitl [HP]; · iexact HP
    isplitl [HR]; · iexact HR
    iexact H2
  iintro ⟨Hb, Hheld⟩
  ihave Hfin := (held_out (F := F) m d) $$ Hheld
  rw [wp_ret]; imodintro; imodintro
  isplitl [Hst]; · iexact Hst
  isplitl [Hfin]; · iexact Hfin
  isplitl [Hb] <;> iassumption

/-! ## The run -/

def fq (d : Dev nD) (s' : Phys nD τ sig (Elt F)) : Prop :=
  s'.mem.mem (ptsLoc d) = m (ptsLoc d) ∧ s'.mem.mem (idxLoc d) = m (idxLoc d) ∧ s'.mem.mem (resLoc d) = answer m d

theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := ptsLoc d) (I := Finset.univ) (q := fullShare) (f := m (ptsLoc d)))) $$ [HSI H0]
  · isplitl [HSI] <;> iassumption
  icases H with ⟨%h0, HSI, -⟩
  ihave H := (persistent_entails_right (SI_pointsTo_agree (st := s') (ℓ := idxLoc d) (I := Finset.univ) (q := fullShare) (f := m (idxLoc d)))) $$ [HSI H1]
  · isplitl [HSI] <;> iassumption
  icases H with ⟨%h1, HSI, -⟩
  ihave H := (SI_pointsTo_agree (st := s') (ℓ := resLoc d) (I := Finset.univ) (q := fullShare) (f := answer m d)) $$ [HSI H2]
  · isplitl [HSI] <;> iassumption
  icases H with %h2
  ipureintro
  exact ⟨funext fun i => h0 i (Finset.mem_univ i), funext fun i => h1 i (Finset.mem_univ i), funext fun i => h2 i (Finset.mem_univ i)⟩

def QC : PUnit × MemSt nD τ sig (Elt F) → Prop := fun r =>
  (∀ d : Dev nD, r.2.mem (ptsLoc d) = m (ptsLoc d) ∧ r.2.mem (idxLoc d) = m (idxLoc d) ∧ r.2.mem (resLoc d) = answer m d)
    ∧ r.2.sem = fun _ => 0

theorem run_main [∀ e, Nonempty (Elt F e)] (hin : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Range.lean ====
/-
  What the precondition says of the indices: each, read as a natural number, is below the number of points of a cloud.
-/
module

public import proofs.«01_k».proof.Defs
public import proofs.«01_k».proof.Proof.Gen.Pre_in_range
public import Idealize.ShloMosaic.Lib.ReduceAll

@[expose] public section

noncomputable section

namespace Cert.Proof

open Idealize.ShloMosaic

/-- A word between 0 and 99999 as a signed number is that number as a natural one too. -/
theorem toNat_lt_of_signed {w : BitVec 32} (h0 : 0 ≤ w.toInt) (h1 : w.toInt < 100000) : w.toNat < 100000 := by
  rw [BitVec.toInt_eq_toNat_cond] at h0 h1
  have := w.isLt
  split at h0 <;> omega

/-- A word whose natural number is below 100000 is that number as a signed one. -/
theorem toInt_of_lt {w : BitVec 32} (h : w.toNat < 100000) : w.toInt = (w.toNat : Int) := by
  rw [BitVec.toInt_eq_toNat_cond, if_pos (by omega)]

instance : Subsingleton Cert.Pre_in_range.S_.Idx := ⟨fun _ _ => funext fun a => a.elim0⟩

/-- If the precondition comes out true, every index is below 100000. -/
theorem lt_of_in_range {F : FTy → Type} [FloatOps F] (P : FVec F Cert.Pre_in_range.S16x100000x3 .f32)
    (IX : IVec Cert.Pre_in_range.S16x4096 32) (h : Cert.Pre_in_range.fn P IX = fun _ => 1#1) (x : Cert.Pre_in_range.S16x4096.Idx) :
    (IX x).toNat < 100000 := by
  have e := Host.reduce_andi_all _ _ _ _ (fun a => a.elim0) (congrFun h fun a => a.elim0) x
  obtain ⟨e0, e1⟩ := IntOp.andi_eq_one.1 e
  exact toNat_lt_of_signed (IntOp.cmpi_sge.1 e0) (IntOp.cmpi_slt.1 e1)

end Cert.Proof

end
-- ==== Proof.Lookup.lean ====
/-
  The reference read at an entry: with every index below 100000 its wrap of negative indices changes nothing, its
  out-of-range mask is nowhere used, and entry `(b, j, k)` is coordinate `k` of the point of cloud `b` that index `(b, j)`
  names.
-/
module

public import proofs.«01_k».proof.Proof.Range
public import proofs.«01_k».proof.Proof.Gen.ReferenceIdeal.Run
public import Idealize.ShloMosaic.Lib.Pipeline.Value

@[expose] public section

noncomputable section

namespace Cert.Proof.Lookup

open Cert.ReferenceIdeal Cert.ReferenceIdeal.Gen Idealize.ShloMosaic

/-- Sample `j` of cloud `b` in the array of indices with a last axis of size one. -/
def colIx (b : Fin 16) (j : Fin 4096) : S16x4096x1.Idx := fun | 0 => b | 1 => j | 2 => ⟨0, Nat.one_pos⟩
/-- Coordinate `k` of point `n` of cloud `b`. -/
def pointIx (b : Fin 16) (n : Fin 100000) (k : Fin 3) : S16x100000x3.Idx := fun | 0 => b | 1 => n | 2 => k
/-- Sample `j` of cloud `b`. -/
def pickIx (b : Fin 16) (j : Fin 4096) : S16x4096.Idx := fun | 0 => b | 1 => j

theorem colIx_eta (x : S16x4096x1.Idx) : colIx (x 0) (x 1) = x := by
  funext a
  fin_cases a
  · rfl
  · rfl
  · exact Subsingleton.elim (α := Fin 1) _ _

/-- The lookup's dimension numbers. -/
abbrev dims : GatherDims S16x100000x3 S16x4096x1 S16x4096x3 := gather_S16x100000x3_S16x4096x1_S16x4096x3_2_1_0_0_1_2_113

/-- The lookup at an entry, where the index names a point. -/
theorem gather_at {α : Type} (x : S16x100000x3.Idx → α) (ix : IVec S16x4096x1 32) (y : S16x4096x3.Idx) (n : Fin 100000)
    (h : (ix (colIx (y 0) (y 1))).toInt.toNat = n.val) : Host.gather dims x ix y = x (pointIx (y 0) n (y 2)) := by
  unfold Host.gather
  refine congrArg x (funext fun a => Fin.ext ?_)
  show dims.start y ix a + dims.batchCoord y a + dims.offCoord y a = _
  match a with
  | 0 =>
    have e0 : dims.start y ix 0 = 0 := rfl
    have e1 : dims.batchCoord y 0 = (y 0).val := rfl
    have e2 : dims.offCoord y 0 = 0 := rfl
    rw [e0, e1, e2]
    show 0 + (y 0).val + 0 = (y 0).val
    omega
  | 1 =>
    have es : dims.siIdx y ⟨0, Nat.one_pos⟩ = colIx (y 0) (y 1) := by
      funext b
      match b with
      | 0 => rfl
      | 1 => rfl
      | 2 => rfl
    have e0 : dims.start y ix 1 = min (ix (dims.siIdx y ⟨0, Nat.one_pos⟩)).toInt.toNat 99999 := rfl
    have e1 : dims.batchCoord y 1 = 0 := rfl
    have e2 : dims.offCoord y 1 = 0 := rfl
    rw [e0, e1, e2, es, h]
    have := n.isLt
    show min n.val 99999 + 0 + 0 = n.val
    omega
  | 2 =>
    have e0 : dims.start y ix 2 = 0 := rfl
    have e1 : dims.batchCoord y 2 = 0 := rfl
    have e2 : dims.offCoord y 2 = (y 2).val := rfl
    rw [e0, e1, e2]
    show 0 + 0 + (y 2).val = (y 2).val
    omega

theorem select_of_one {α : Type} {s : Shape} (c : IVec s 1) (a b : s.Idx → α) (i : s.Idx) (h : c i = 1#1) : select c a b i = a i :=
  if_pos h

/-- The indices with a last axis of size one. -/
abbrev col (IX : IVec S16x4096 32) : IVec S16x4096x1 32 := broadcastInDim S16x4096x1 ![0, 1] bcast_S16x4096_S16x4096x1_0_1 IX

/-- The indices as the lookup wraps them: a negative one counted from the end. -/
abbrev wrapped (IX : IVec S16x4096 32) : IVec S16x4096x1 32 :=
  select (cmpi .slt (col IX) (broadcastInDim S16x4096x1 ![] bcast_S_S16x4096x1 (constantI S_ 32 0#32)))
    (addi (col IX) (broadcastInDim S16x4096x1 ![] bcast_S_S16x4096x1 (constantI S_ 32 100000#32))) (col IX)

/-- Where the wrapped indices name a point. -/
abbrev named (IX : IVec S16x4096 32) : IVec S16x4096x1 1 :=
  andi (cmpi .sge (wrapped IX) (broadcastInDim S16x4096x1 ![] bcast_S_S16x4096x1 (constantI S_ 32 0#32)))
    (cmpi .sle (wrapped IX) (broadcastInDim S16x4096x1 ![0, 1, 2] bcast_S1x1x1_S16x4096x1_0_1_2
      (broadcastInDim S1x1x1 ![2] bcast_S1_S1x1x1_2 (constantI S1 32 99999#32))))

theorem col_at (IX : IVec S16x4096 32) (z : S16x4096x1.Idx) : col IX z = IX (pickIx (z 0) (z 1)) :=
  broadcastInDim_apply _ _ IX z _ fun a => by fin_cases a <;> rfl

theorem wrapped_at (IX : IVec S16x4096 32) (z : S16x4096x1.Idx) (h : (IX (pickIx (z 0) (z 1))).toNat < 100000) :
    wrapped IX z = IX (pickIx (z 0) (z 1)) := by
  have hc : ¬ cmpi .slt (col IX) (broadcastInDim S16x4096x1 ![] bcast_S_S16x4096x1 (constantI S_ 32 0#32)) z = 1#1 := fun e => by
    have e' : (col IX z).toInt < (0#32 : BitVec 32).toInt := IntOp.cmpi_slt.1 e
    rw [col_at, toInt_of_lt h] at e'
    have : (0#32 : BitVec 32).toInt = 0 := by decide
    omega
  exact (if_neg hc).trans (col_at IX z)

theorem named_at (IX : IVec S16x4096 32) (z : S16x4096x1.Idx) (h : (IX (pickIx (z 0) (z 1))).toNat < 100000) : named IX z = 1#1 := by
  have e := wrapped_at IX z h
  have hz : (0#32 : BitVec 32).toInt = 0 := by decide
  have hn : (99999#32 : BitVec 32).toInt = 99999 := by decide
  refine IntOp.andi_eq_one.2 ⟨IntOp.cmpi_sge.2 ?_, IntOp.cmpi_sle.2 ?_⟩
  · show (0#32 : BitVec 32).toInt ≤ (wrapped IX z).toInt
    rw [e, toInt_of_lt h]; omega
  · show (wrapped IX z).toInt ≤ (99999#32 : BitVec 32).toInt
    rw [e, toInt_of_lt h]; omega

variable {F : FTy → Type} [FloatOps F]

/-- What the reference computes. -/
abbrev lookup (P : Vec F S16x100000x3 .f32) (IX : IVec S16x4096 32) : Vec F S16x4096x3 .f32 :=
  select (broadcastInDim S16x4096x3 ![0, 1] bcast_S16x4096_S16x4096x3_0_1
      (Host.reduce IntOp.andi (named IX) (constantI S_ 1 1#1) reducesTo_S16x4096x1_S16x4096_d2 h_S_))
    (Host.gather dims P (wrapped IX)) (broadcastInDim S16x4096x3 ![] bcast_S_S16x4096x3 (constant S_ .f32 0x7FC00000#32))

/-- Entry `(b, j, k)` of the reference's result is coordinate `k` of the point of cloud `b` that index `(b, j)` names. -/
theorem lookup_at (P : Vec F S16x100000x3 .f32) (IX : IVec S16x4096 32) (h : ∀ x, (IX x).toNat < 100000) (y : S16x4096x3.Idx)
    (n : Fin 100000) (hn : (IX (pickIx (y 0) (y 1))).toNat = n.val) : lookup P IX y = P (pointIx (y 0) n (y 2)) := by
  have hm : broadcastInDim S16x4096x3 ![0, 1] bcast_S16x4096_S16x4096x3_0_1
      (Host.reduce IntOp.andi (named IX) (constantI S_ 1 1#1) reducesTo_S16x4096x1_S16x4096_d2 h_S_) y = 1#1 :=
    (broadcastInDim_apply _ _ _ y (pickIx (y 0) (y 1)) fun a => by fin_cases a <;> rfl).trans
      (Host.reduce_andi_one _ _ _ _ _ rfl fun z => named_at IX z (h _))
  refine (select_of_one _ _ _ y hm).trans (gather_at P (wrapped IX) y n ?_)
  have e : wrapped IX (colIx (y 0) (y 1)) = IX (pickIx (y 0) (y 1)) := wrapped_at IX _ (h _)
  rw [e, toInt_of_lt (h _), Int.toNat_natCast, hn]

end Cert.Proof.Lookup

end
-- ==== Proof.Claims.lean ====
/-
  The kernel's result is the reference's, entry by entry, and the claims: the kernel's frames, the reference's, and that the
  two compute the same.
-/
module

public import proofs.«01_k».proof.Proof.Launch
public import proofs.«01_k».proof.Proof.Lookup
public import proofs.«01_k».proof.Proof.Gen.Kernel
public import Idealize.ShloMosaic.Lib.Quiescent

@[expose] public section

noncomputable section

namespace Cert.Proof

open Idealize.ShloMosaic Idealize.ShloMosaic.TcCoe Idealize.SL.Sem

section Value

open Cert.KernelIdeal Cert.KernelIdeal.Gen

variable {F : FTy → Type} [FloatOps F] (m : (ℓ : Loc nD τ sig) → Buf (Elt F) ℓ)

/-- Entry `(b, j, k)` of the kernel's result is coordinate `k` of the point of cloud `b` that index `(b, j)` names. -/
theorem answer_at (d : Dev nD) (y : S16x4096x3.Idx) :
    answer m d y = (m (ptsLoc d) : Vec F S16x100000x3 .f32)
      (Lookup.pointIx (y 0) (ptOf (indices m d (idxIx (y 0) (y 1)))) (y 2)) := by
  have e1 : answer m d y = sampled m d (outIx (y 2) (y 0) (y 1)) :=
    transpose_apply _ _ _ y _ fun b => by fin_cases b <;> rfl
  have e2 : planes m d (ptsIx (y 2) (y 0) (ptOf (indices m d (idxIx (y 0) (y 1)))))
      = (m (ptsLoc d) : Vec F S16x100000x3 .f32) (Lookup.pointIx (y 0) (ptOf (indices m d (idxIx (y 0) (y 1)))) (y 2)) :=
    transpose_apply _ _ _ _ _ fun b => by fin_cases b <;> rfl
  exact e1.trans e2

/-- With every index in range, the kernel's result is what the reference computes. -/
theorem answer_eq_lookup (hin : InRange m) (d : Dev nD) :
    answer m d = Lookup.lookup (m (ptsLoc d) : Vec F S16x100000x3 .f32) (indices m d) :=
  funext fun y => (answer_at m d y).trans
    (Lookup.lookup_at (m (ptsLoc d) : Vec F S16x100000x3 .f32) (indices m d) (hin d) y (ptOf (indices m d (idxIx (y 0) (y 1))))
      (ptOf_val (hin d _)).symm).symm

end Value

/-- The kernel's frame, at machine words. -/
theorem frame_kernel : Cert.quiescent_Kernel := fun m ρ h =>
  (θ_run Cert.KernelIdeal.defs _ _).mono (fun _ e => ⟨fun d => ⟨(e.1 d).1, (e.1 d).2.1⟩, e.2⟩)
    (run_main (F := Bits) m ρ fun d x => lt_of_in_range _ _ (h d) x)

/-- The ideal kernel's frame. -/
theorem frame_kernelIdeal : Cert.quiescent_KernelIdeal := fun m ρ h =>
  (θ_run Cert.KernelIdeal.defs _ _).mono (fun _ e => ⟨fun d => ⟨(e.1 d).1, (e.1 d).2.1⟩, e.2⟩)
    (run_main (F := Ideal) m ρ fun d x => lt_of_in_range _ _ (h d) x)

/-- The reference's run: its result is the lookup, its arguments stay, and it has no semaphore. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_v1)
          = Lookup.lookup (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0 :=
  (θ_run Cert.ReferenceIdeal.defs _ _).mono (fun r h => ⟨h, sem_eq_zero_of_no_sems (by decide) r.2⟩)
    (Cert.ReferenceIdeal.Value.run (F := Ideal) m ρ)

/-- The reference's frame, from any memory. -/
theorem frame_referenceIdeal : Cert.quiescent_ReferenceIdeal := fun m ρ _ =>
  (θ_run Cert.ReferenceIdeal.defs _ _).mono (fun _ h => ⟨fun c => (h.1 c).2, h.2⟩) (run_reference m ρ)

/-- The reference's frame where the indices are in range. -/
theorem frame_referenceIdeal_in_range : Cert.quiescent_ReferenceIdeal_pre_in_range := fun m ρ _ =>
  (θ_run Cert.ReferenceIdeal.defs _ _).mono (fun _ h => ⟨fun c => (h.1 c).2, h.2⟩) (run_reference m ρ)

/-- From equal arguments with every index in range, kernel and reference end with the same result. -/
theorem algebraic : Cert.algebraic_KernelIdeal_ReferenceIdeal := fun m ρ m' ρ' h agree => by
  have hin : InRange m := fun d x => lt_of_in_range _ _ (h d) x
  refine ⟨fun d => answer m d, ?_, ?_⟩
  · exact (θ_run Cert.KernelIdeal.defs _ _).mono (fun _ e d => ⟨(e.1 d).2.2, (e.1 d).1, (e.1 d).2.1⟩) (run_main (F := Ideal) m ρ hin)
  · refine (θ_run Cert.ReferenceIdeal.defs _ _).mono (fun _ e d => ⟨(e.1 d).1.trans ?_, (e.1 d).2⟩) (run_reference m' ρ')
    rw [(agree d).1, (agree d).2]
    exact (answer_eq_lookup m hin d).symm

end Cert.Proof

end
-- ==== Proof.lean ====
/-
  The claims of `Cert.Claim` put together: the frames of the kernel, of the ideal kernel and of the reference, that the
  ideal kernel is the kernel over the extended reals, and that the kernel computes the reference's function there.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Claims

@[expose] public section

noncomputable section

namespace Cert.Proof

/-- All that the certificate claims. -/
theorem claim : Cert.Claim :=
  ⟨Cert.Kernel.Gen.facts, Cert.KernelIdeal.Gen.facts, Cert.ReferenceIdeal.Gen.facts, Cert.Pre_in_range.Gen.facts,
    frame_kernel, frame_kernelIdeal, frame_referenceIdeal, frame_referenceIdeal_in_range, trivial, algebraic⟩

end Cert.Proof

end
